-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Experts [hPre_eids : Cert.Pre_eids.Facts] (m : (ℓ : Loc Cert.Experts.nD Cert.Experts.τ Cert.Experts.sig) → Buf (Elt Bits) ℓ) : Prop :=
  ∀ c : Dev Cert.Experts.nD,
    (Cert.Pre_eids.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_eids : Cert.Pre_eids.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_eids.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_eids : Cert.Pre_eids.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_eids.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def Pre_Inverse (m : (ℓ : Loc Cert.Inverse.nD Cert.Inverse.τ Cert.Inverse.sig) → Buf (Elt Bits) ℓ) : Prop :=
  True

def Pre_InverseIdeal (m : (ℓ : Loc Cert.InverseIdeal.nD Cert.InverseIdeal.τ Cert.InverseIdeal.sig) → Buf (Elt Ideal) ℓ) : Prop :=
  True

def Pre_InverseRefIdeal (m : (ℓ : Loc Cert.InverseRefIdeal.nD Cert.InverseRefIdeal.τ Cert.InverseRefIdeal.sig) → Buf (Elt Ideal) ℓ) : Prop :=
  True

def Pre_Spectrum (m : (ℓ : Loc Cert.Spectrum.nD Cert.Spectrum.τ Cert.Spectrum.sig) → Buf (Elt Bits) ℓ) : Prop :=
  True

def Pre_SpectrumIdeal (m : (ℓ : Loc Cert.SpectrumIdeal.nD Cert.SpectrumIdeal.τ Cert.SpectrumIdeal.sig) → Buf (Elt Ideal) ℓ) : Prop :=
  True

def Pre_SpectrumIdeal_finite [hPre_finite : Cert.Pre_finite.Facts] (m : (ℓ : Loc Cert.SpectrumIdeal.nD Cert.SpectrumIdeal.τ Cert.SpectrumIdeal.sig) → Buf (Elt Ideal) ℓ) : Prop :=
  ∀ c : Dev Cert.SpectrumIdeal.nD,
    (Cert.Pre_finite.fn (F := Ideal) (m ((c.tc : Thread Cert.SpectrumIdeal.nD Cert.SpectrumIdeal.τ).loc Cert.SpectrumIdeal.main_arg0)) (m ((c.tc : Thread Cert.SpectrumIdeal.nD Cert.SpectrumIdeal.τ).loc Cert.SpectrumIdeal.main_arg1)) (m ((c.tc : Thread Cert.SpectrumIdeal.nD Cert.SpectrumIdeal.τ).loc Cert.SpectrumIdeal.main_arg2))) = (fun _ => 1#1)

def Pre_SpectrumRefIdeal (m : (ℓ : Loc Cert.SpectrumRefIdeal.nD Cert.SpectrumRefIdeal.τ Cert.SpectrumRefIdeal.sig) → Buf (Elt Ideal) ℓ) : Prop :=
  True

def Pre_SpectrumRefIdeal_finite [hPre_finite : Cert.Pre_finite.Facts] (m : (ℓ : Loc Cert.SpectrumRefIdeal.nD Cert.SpectrumRefIdeal.τ Cert.SpectrumRefIdeal.sig) → Buf (Elt Ideal) ℓ) : Prop :=
  ∀ c : Dev Cert.SpectrumRefIdeal.nD,
    (Cert.Pre_finite.fn (F := Ideal) (m ((c.tc : Thread Cert.SpectrumRefIdeal.nD Cert.SpectrumRefIdeal.τ).loc Cert.SpectrumRefIdeal.main_arg0)) (m ((c.tc : Thread Cert.SpectrumRefIdeal.nD Cert.SpectrumRefIdeal.τ).loc Cert.SpectrumRefIdeal.main_arg1)) (m ((c.tc : Thread Cert.SpectrumRefIdeal.nD Cert.SpectrumRefIdeal.τ).loc Cert.SpectrumRefIdeal.main_arg2))) = (fun _ => 1#1)

def Pre_Taps (m : (ℓ : Loc Cert.Taps.nD Cert.Taps.τ Cert.Taps.sig) → Buf (Elt Bits) ℓ) : Prop :=
  True

def Pre_TapsIdeal (m : (ℓ : Loc Cert.TapsIdeal.nD Cert.TapsIdeal.τ Cert.TapsIdeal.sig) → Buf (Elt Ideal) ℓ) : Prop :=
  True

def Pre_TapsRefIdeal (m : (ℓ : Loc Cert.TapsRefIdeal.nD Cert.TapsRefIdeal.τ Cert.TapsRefIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Experts [hExperts : Cert.Experts.Facts] [hPre_eids : Cert.Pre_eids.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_eids : Cert.Pre_eids.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_eids : Cert.Pre_eids.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2))
      ∧ r.2.sem = fun _ => 0)

def quiescent_Inverse [hInverse : Cert.Inverse.Facts] : Prop :=
  ∀ (m : (ℓ : Loc Cert.Inverse.nD Cert.Inverse.τ Cert.Inverse.sig) → Buf (Elt Bits) ℓ) (g : Dev Cert.Inverse.nD → PrngReg), Pre_Inverse m →
    θ_run (Cert.Inverse.defs (F := Bits)) (onTc (τ := Cert.Inverse.τ) (Cert.Inverse.main (F := Bits))) ⟨m, fun _ => 0, g⟩ (fun r => (∀ c : Dev Cert.Inverse.nD,
      r.2.mem ((c.tc : Thread Cert.Inverse.nD Cert.Inverse.τ).loc Cert.Inverse.main_arg0) = m ((c.tc : Thread Cert.Inverse.nD Cert.Inverse.τ).loc Cert.Inverse.main_arg0)
      ∧ r.2.mem ((c.tc : Thread Cert.Inverse.nD Cert.Inverse.τ).loc Cert.Inverse.main_arg1) = m ((c.tc : Thread Cert.Inverse.nD Cert.Inverse.τ).loc Cert.Inverse.main_arg1)
      ∧ r.2.mem ((c.tc : Thread Cert.Inverse.nD Cert.Inverse.τ).loc Cert.Inverse.main_arg2) = m ((c.tc : Thread Cert.Inverse.nD Cert.Inverse.τ).loc Cert.Inverse.main_arg2))
      ∧ r.2.sem = fun _ => 0)

def quiescent_InverseIdeal [hInverseIdeal : Cert.InverseIdeal.Facts] : Prop :=
  ∀ (m : (ℓ : Loc Cert.InverseIdeal.nD Cert.InverseIdeal.τ Cert.InverseIdeal.sig) → Buf (Elt Ideal) ℓ) (g : Dev Cert.InverseIdeal.nD → PrngReg), Pre_InverseIdeal m →
    θ_run (Cert.InverseIdeal.defs (F := Ideal)) (onTc (τ := Cert.InverseIdeal.τ) (Cert.InverseIdeal.main (F := Ideal))) ⟨m, fun _ => 0, g⟩ (fun r => (∀ c : Dev Cert.InverseIdeal.nD,
      r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
      ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1)
      ∧ r.2.mem ((c.tc : Thread Cert.InverseIdeal.nD Cert.InverseIdeal.τ).loc Cert.InverseIdeal.main_arg2) = m ((c.tc : Thread Cert.InverseIdeal.nD Cert.InverseIdeal.τ).loc Cert.InverseIdeal.main_arg2))
      ∧ r.2.sem = fun _ => 0)

def quiescent_InverseRefIdeal [hInverseRefIdeal : Cert.InverseRefIdeal.Facts] : Prop :=
  ∀ (m : (ℓ : Loc Cert.InverseRefIdeal.nD Cert.InverseRefIdeal.τ Cert.InverseRefIdeal.sig) → Buf (Elt Ideal) ℓ) (g : Dev Cert.InverseRefIdeal.nD → PrngReg), Pre_InverseRefIdeal m →
    θ_run (Cert.InverseRefIdeal.defs (F := Ideal)) (onTc (τ := Cert.InverseRefIdeal.τ) (Cert.InverseRefIdeal.main (F := Ideal))) ⟨m, fun _ => 0, g⟩ (fun r => (∀ c : Dev Cert.InverseRefIdeal.nD,
      r.2.mem ((c.tc : Thread Cert.InverseRefIdeal.nD Cert.InverseRefIdeal.τ).loc Cert.InverseRefIdeal.main_arg0) = m ((c.tc : Thread Cert.InverseRefIdeal.nD Cert.InverseRefIdeal.τ).loc Cert.InverseRefIdeal.main_arg0)
      ∧ r.2.mem ((c.tc : Thread Cert.InverseRefIdeal.nD Cert.InverseRefIdeal.τ).loc Cert.InverseRefIdeal.main_arg1) = m ((c.tc : Thread Cert.InverseRefIdeal.nD Cert.InverseRefIdeal.τ).loc Cert.InverseRefIdeal.main_arg1)
      ∧ r.2.mem ((c.tc : Thread Cert.InverseRefIdeal.nD Cert.InverseRefIdeal.τ).loc Cert.InverseRefIdeal.main_arg2) = m ((c.tc : Thread Cert.InverseRefIdeal.nD Cert.InverseRefIdeal.τ).loc Cert.InverseRefIdeal.main_arg2))
      ∧ r.2.sem = fun _ => 0)

def quiescent_Spectrum [hSpectrum : Cert.Spectrum.Facts] : Prop :=
  ∀ (m : (ℓ : Loc Cert.Spectrum.nD Cert.Spectrum.τ Cert.Spectrum.sig) → Buf (Elt Bits) ℓ) (g : Dev Cert.Spectrum.nD → PrngReg), Pre_Spectrum m →
    θ_run (Cert.Spectrum.defs (F := Bits)) (onTc (τ := Cert.Spectrum.τ) (Cert.Spectrum.main (F := Bits))) ⟨m, fun _ => 0, g⟩ (fun r => (∀ c : Dev Cert.Spectrum.nD,
      r.2.mem ((c.tc : Thread Cert.Spectrum.nD Cert.Spectrum.τ).loc Cert.Spectrum.main_arg0) = m ((c.tc : Thread Cert.Spectrum.nD Cert.Spectrum.τ).loc Cert.Spectrum.main_arg0)
      ∧ r.2.mem ((c.tc : Thread Cert.Spectrum.nD Cert.Spectrum.τ).loc Cert.Spectrum.main_arg1) = m ((c.tc : Thread Cert.Spectrum.nD Cert.Spectrum.τ).loc Cert.Spectrum.main_arg1)
      ∧ r.2.mem ((c.tc : Thread Cert.Spectrum.nD Cert.Spectrum.τ).loc Cert.Spectrum.main_arg2) = m ((c.tc : Thread Cert.Spectrum.nD Cert.Spectrum.τ).loc Cert.Spectrum.main_arg2))
      ∧ r.2.sem = fun _ => 0)

def quiescent_SpectrumIdeal [hSpectrumIdeal : Cert.SpectrumIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
      ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2))
      ∧ r.2.sem = fun _ => 0)

def quiescent_SpectrumIdeal_pre_finite [hSpectrumIdeal : Cert.SpectrumIdeal.Facts] [hPre_finite : Cert.Pre_finite.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal_finite m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
      ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2))
      ∧ r.2.sem = fun _ => 0)

def quiescent_SpectrumRefIdeal [hSpectrumRefIdeal : Cert.SpectrumRefIdeal.Facts] : Prop :=
  ∀ (m : (ℓ : Loc Cert.SpectrumRefIdeal.nD Cert.SpectrumRefIdeal.τ Cert.SpectrumRefIdeal.sig) → Buf (Elt Ideal) ℓ) (g : Dev Cert.SpectrumRefIdeal.nD → PrngReg), Pre_SpectrumRefIdeal m →
    θ_run (Cert.SpectrumRefIdeal.defs (F := Ideal)) (onTc (τ := Cert.SpectrumRefIdeal.τ) (Cert.SpectrumRefIdeal.main (F := Ideal))) ⟨m, fun _ => 0, g⟩ (fun r => (∀ c : Dev Cert.SpectrumRefIdeal.nD,
      r.2.mem ((c.tc : Thread Cert.SpectrumRefIdeal.nD Cert.SpectrumRefIdeal.τ).loc Cert.SpectrumRefIdeal.main_arg0) = m ((c.tc : Thread Cert.SpectrumRefIdeal.nD Cert.SpectrumRefIdeal.τ).loc Cert.SpectrumRefIdeal.main_arg0)
      ∧ r.2.mem ((c.tc : Thread Cert.SpectrumRefIdeal.nD Cert.SpectrumRefIdeal.τ).loc Cert.SpectrumRefIdeal.main_arg1) = m ((c.tc : Thread Cert.SpectrumRefIdeal.nD Cert.SpectrumRefIdeal.τ).loc Cert.SpectrumRefIdeal.main_arg1)
      ∧ r.2.mem ((c.tc : Thread Cert.SpectrumRefIdeal.nD Cert.SpectrumRefIdeal.τ).loc Cert.SpectrumRefIdeal.main_arg2) = m ((c.tc : Thread Cert.SpectrumRefIdeal.nD Cert.SpectrumRefIdeal.τ).loc Cert.SpectrumRefIdeal.main_arg2))
      ∧ r.2.sem = fun _ => 0)

def quiescent_SpectrumRefIdeal_pre_finite [hSpectrumRefIdeal : Cert.SpectrumRefIdeal.Facts] [hPre_finite : Cert.Pre_finite.Facts] : Prop :=
  ∀ (m : (ℓ : Loc Cert.SpectrumRefIdeal.nD Cert.SpectrumRefIdeal.τ Cert.SpectrumRefIdeal.sig) → Buf (Elt Ideal) ℓ) (g : Dev Cert.SpectrumRefIdeal.nD → PrngReg), Pre_SpectrumRefIdeal_finite m →
    θ_run (Cert.SpectrumRefIdeal.defs (F := Ideal)) (onTc (τ := Cert.SpectrumRefIdeal.τ) (Cert.SpectrumRefIdeal.main (F := Ideal))) ⟨m, fun _ => 0, g⟩ (fun r => (∀ c : Dev Cert.SpectrumRefIdeal.nD,
      r.2.mem ((c.tc : Thread Cert.SpectrumRefIdeal.nD Cert.SpectrumRefIdeal.τ).loc Cert.SpectrumRefIdeal.main_arg0) = m ((c.tc : Thread Cert.SpectrumRefIdeal.nD Cert.SpectrumRefIdeal.τ).loc Cert.SpectrumRefIdeal.main_arg0)
      ∧ r.2.mem ((c.tc : Thread Cert.SpectrumRefIdeal.nD Cert.SpectrumRefIdeal.τ).loc Cert.SpectrumRefIdeal.main_arg1) = m ((c.tc : Thread Cert.SpectrumRefIdeal.nD Cert.SpectrumRefIdeal.τ).loc Cert.SpectrumRefIdeal.main_arg1)
      ∧ r.2.mem ((c.tc : Thread Cert.SpectrumRefIdeal.nD Cert.SpectrumRefIdeal.τ).loc Cert.SpectrumRefIdeal.main_arg2) = m ((c.tc : Thread Cert.SpectrumRefIdeal.nD Cert.SpectrumRefIdeal.τ).loc Cert.SpectrumRefIdeal.main_arg2))
      ∧ r.2.sem = fun _ => 0)

def quiescent_Taps [hTaps : Cert.Taps.Facts] : Prop :=
  ∀ (m : (ℓ : Loc Cert.Taps.nD Cert.Taps.τ Cert.Taps.sig) → Buf (Elt Bits) ℓ) (g : Dev Cert.Taps.nD → PrngReg), Pre_Taps m →
    θ_run (Cert.Taps.defs (F := Bits)) (onTc (τ := Cert.Taps.τ) (Cert.Taps.main (F := Bits))) ⟨m, fun _ => 0, g⟩ (fun r => (∀ c : Dev Cert.Taps.nD,
      r.2.mem ((c.tc : Thread Cert.Taps.nD Cert.Taps.τ).loc Cert.Taps.main_arg0) = m ((c.tc : Thread Cert.Taps.nD Cert.Taps.τ).loc Cert.Taps.main_arg0)
      ∧ r.2.mem ((c.tc : Thread Cert.Taps.nD Cert.Taps.τ).loc Cert.Taps.main_arg1) = m ((c.tc : Thread Cert.Taps.nD Cert.Taps.τ).loc Cert.Taps.main_arg1)
      ∧ r.2.mem ((c.tc : Thread Cert.Taps.nD Cert.Taps.τ).loc Cert.Taps.main_arg2) = m ((c.tc : Thread Cert.Taps.nD Cert.Taps.τ).loc Cert.Taps.main_arg2)
      ∧ r.2.mem ((c.tc : Thread Cert.Taps.nD Cert.Taps.τ).loc Cert.Taps.main_arg3) = m ((c.tc : Thread Cert.Taps.nD Cert.Taps.τ).loc Cert.Taps.main_arg3)
      ∧ r.2.mem ((c.tc : Thread Cert.Taps.nD Cert.Taps.τ).loc Cert.Taps.main_arg4) = m ((c.tc : Thread Cert.Taps.nD Cert.Taps.τ).loc Cert.Taps.main_arg4)
      ∧ r.2.mem ((c.tc : Thread Cert.Taps.nD Cert.Taps.τ).loc Cert.Taps.main_arg5) = m ((c.tc : Thread Cert.Taps.nD Cert.Taps.τ).loc Cert.Taps.main_arg5)
      ∧ r.2.mem ((c.tc : Thread Cert.Taps.nD Cert.Taps.τ).loc Cert.Taps.main_arg6) = m ((c.tc : Thread Cert.Taps.nD Cert.Taps.τ).loc Cert.Taps.main_arg6)
      ∧ r.2.mem ((c.tc : Thread Cert.Taps.nD Cert.Taps.τ).loc Cert.Taps.main_arg7) = m ((c.tc : Thread Cert.Taps.nD Cert.Taps.τ).loc Cert.Taps.main_arg7))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
      ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3)
      ∧ r.2.mem ((c.tc : Thread Cert.TapsIdeal.nD Cert.TapsIdeal.τ).loc Cert.TapsIdeal.main_arg4) = m ((c.tc : Thread Cert.TapsIdeal.nD Cert.TapsIdeal.τ).loc Cert.TapsIdeal.main_arg4)
      ∧ r.2.mem ((c.tc : Thread Cert.TapsIdeal.nD Cert.TapsIdeal.τ).loc Cert.TapsIdeal.main_arg5) = m ((c.tc : Thread Cert.TapsIdeal.nD Cert.TapsIdeal.τ).loc Cert.TapsIdeal.main_arg5)
      ∧ r.2.mem ((c.tc : Thread Cert.TapsIdeal.nD Cert.TapsIdeal.τ).loc Cert.TapsIdeal.main_arg6) = m ((c.tc : Thread Cert.TapsIdeal.nD Cert.TapsIdeal.τ).loc Cert.TapsIdeal.main_arg6)
      ∧ r.2.mem ((c.tc : Thread Cert.TapsIdeal.nD Cert.TapsIdeal.τ).loc Cert.TapsIdeal.main_arg7) = m ((c.tc : Thread Cert.TapsIdeal.nD Cert.TapsIdeal.τ).loc Cert.TapsIdeal.main_arg7))
      ∧ r.2.sem = fun _ => 0)

def quiescent_TapsRefIdeal [hTapsRefIdeal : Cert.TapsRefIdeal.Facts] : Prop :=
  ∀ (m : (ℓ : Loc Cert.TapsRefIdeal.nD Cert.TapsRefIdeal.τ Cert.TapsRefIdeal.sig) → Buf (Elt Ideal) ℓ) (g : Dev Cert.TapsRefIdeal.nD → PrngReg), Pre_TapsRefIdeal m →
    θ_run (Cert.TapsRefIdeal.defs (F := Ideal)) (onTc (τ := Cert.TapsRefIdeal.τ) (Cert.TapsRefIdeal.main (F := Ideal))) ⟨m, fun _ => 0, g⟩ (fun r => (∀ c : Dev Cert.TapsRefIdeal.nD,
      r.2.mem ((c.tc : Thread Cert.TapsRefIdeal.nD Cert.TapsRefIdeal.τ).loc Cert.TapsRefIdeal.main_arg0) = m ((c.tc : Thread Cert.TapsRefIdeal.nD Cert.TapsRefIdeal.τ).loc Cert.TapsRefIdeal.main_arg0)
      ∧ r.2.mem ((c.tc : Thread Cert.TapsRefIdeal.nD Cert.TapsRefIdeal.τ).loc Cert.TapsRefIdeal.main_arg1) = m ((c.tc : Thread Cert.TapsRefIdeal.nD Cert.TapsRefIdeal.τ).loc Cert.TapsRefIdeal.main_arg1)
      ∧ r.2.mem ((c.tc : Thread Cert.TapsRefIdeal.nD Cert.TapsRefIdeal.τ).loc Cert.TapsRefIdeal.main_arg2) = m ((c.tc : Thread Cert.TapsRefIdeal.nD Cert.TapsRefIdeal.τ).loc Cert.TapsRefIdeal.main_arg2)
      ∧ r.2.mem ((c.tc : Thread Cert.TapsRefIdeal.nD Cert.TapsRefIdeal.τ).loc Cert.TapsRefIdeal.main_arg3) = m ((c.tc : Thread Cert.TapsRefIdeal.nD Cert.TapsRefIdeal.τ).loc Cert.TapsRefIdeal.main_arg3)
      ∧ r.2.mem ((c.tc : Thread Cert.TapsRefIdeal.nD Cert.TapsRefIdeal.τ).loc Cert.TapsRefIdeal.main_arg4) = m ((c.tc : Thread Cert.TapsRefIdeal.nD Cert.TapsRefIdeal.τ).loc Cert.TapsRefIdeal.main_arg4)
      ∧ r.2.mem ((c.tc : Thread Cert.TapsRefIdeal.nD Cert.TapsRefIdeal.τ).loc Cert.TapsRefIdeal.main_arg5) = m ((c.tc : Thread Cert.TapsRefIdeal.nD Cert.TapsRefIdeal.τ).loc Cert.TapsRefIdeal.main_arg5)
      ∧ r.2.mem ((c.tc : Thread Cert.TapsRefIdeal.nD Cert.TapsRefIdeal.τ).loc Cert.TapsRefIdeal.main_arg6) = m ((c.tc : Thread Cert.TapsRefIdeal.nD Cert.TapsRefIdeal.τ).loc Cert.TapsRefIdeal.main_arg6)
      ∧ r.2.mem ((c.tc : Thread Cert.TapsRefIdeal.nD Cert.TapsRefIdeal.τ).loc Cert.TapsRefIdeal.main_arg7) = m ((c.tc : Thread Cert.TapsRefIdeal.nD Cert.TapsRefIdeal.τ).loc Cert.TapsRefIdeal.main_arg7))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v7) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_eids : Cert.Pre_eids.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v39) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v18_0)) (v1 : (c : Dev Cert.MergeIdeal.nD) → Buf (Elt Ideal) ((c.tc : Thread Cert.MergeIdeal.nD Cert.MergeIdeal.τ).loc Cert.MergeIdeal.main_v18_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18_0) = v0 c
          ∧ r.2.mem ((c.tc : Thread Cert.MergeIdeal.nD Cert.MergeIdeal.τ).loc Cert.MergeIdeal.main_v18_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_v46) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v47) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_v32) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v1) = v0 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v41) = v0 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2))

def preserves_Inverse_InverseIdeal : Prop :=
  True

def algebraic_InverseIdeal_InverseRefIdeal [hInverseIdeal : Cert.InverseIdeal.Facts] [hInverseRefIdeal : Cert.InverseRefIdeal.Facts] : Prop :=
  ∀ (m : (ℓ : Loc Cert.InverseIdeal.nD Cert.InverseIdeal.τ Cert.InverseIdeal.sig) → Buf (Elt Ideal) ℓ) (g : Dev Cert.InverseIdeal.nD → PrngReg)
    (m' : (ℓ : Loc Cert.InverseRefIdeal.nD Cert.InverseRefIdeal.τ Cert.InverseRefIdeal.sig) → Buf (Elt Ideal) ℓ) (g' : Dev Cert.InverseRefIdeal.nD → PrngReg), Pre_InverseIdeal m →
    (∀ c : Dev Cert.InverseIdeal.nD,
      m' ((c.tc : Thread Cert.InverseRefIdeal.nD Cert.InverseRefIdeal.τ).loc Cert.InverseRefIdeal.main_arg0) = m ((c.tc : Thread Cert.InverseIdeal.nD Cert.InverseIdeal.τ).loc Cert.InverseIdeal.main_arg0)
      ∧ m' ((c.tc : Thread Cert.InverseRefIdeal.nD Cert.InverseRefIdeal.τ).loc Cert.InverseRefIdeal.main_arg1) = m ((c.tc : Thread Cert.InverseIdeal.nD Cert.InverseIdeal.τ).loc Cert.InverseIdeal.main_arg1)
      ∧ m' ((c.tc : Thread Cert.InverseRefIdeal.nD Cert.InverseRefIdeal.τ).loc Cert.InverseRefIdeal.main_arg2) = m ((c.tc : Thread Cert.InverseIdeal.nD Cert.InverseIdeal.τ).loc Cert.InverseIdeal.main_arg2)) →
    ∃ (v0 : (c : Dev Cert.InverseIdeal.nD) → Buf (Elt Ideal) ((c.tc : Thread Cert.InverseIdeal.nD Cert.InverseIdeal.τ).loc Cert.InverseIdeal.main_v1)),
      θ_run (Cert.InverseIdeal.defs (F := Ideal)) (onTc (τ := Cert.InverseIdeal.τ) (Cert.InverseIdeal.main (F := Ideal))) ⟨m, fun _ => 0, g⟩ (fun r => ∀ c : Dev Cert.InverseIdeal.nD,
          r.2.mem ((c.tc : Thread Cert.InverseIdeal.nD Cert.InverseIdeal.τ).loc Cert.InverseIdeal.main_v1) = v0 c
          ∧ r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
          ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1)
          ∧ r.2.mem ((c.tc : Thread Cert.InverseIdeal.nD Cert.InverseIdeal.τ).loc Cert.InverseIdeal.main_arg2) = m ((c.tc : Thread Cert.InverseIdeal.nD Cert.InverseIdeal.τ).loc Cert.InverseIdeal.main_arg2))
      ∧ θ_run (Cert.InverseRefIdeal.defs (F := Ideal)) (onTc (τ := Cert.InverseRefIdeal.τ) (Cert.InverseRefIdeal.main (F := Ideal))) ⟨m', fun _ => 0, g'⟩ (fun r => ∀ c : Dev Cert.InverseRefIdeal.nD,
          r.2.mem ((c.tc : Thread Cert.InverseRefIdeal.nD Cert.InverseRefIdeal.τ).loc Cert.InverseRefIdeal.main_v5) = v0 c
          ∧ r.2.mem ((c.tc : Thread Cert.InverseRefIdeal.nD Cert.InverseRefIdeal.τ).loc Cert.InverseRefIdeal.main_arg0) = m' ((c.tc : Thread Cert.InverseRefIdeal.nD Cert.InverseRefIdeal.τ).loc Cert.InverseRefIdeal.main_arg0)
          ∧ r.2.mem ((c.tc : Thread Cert.InverseRefIdeal.nD Cert.InverseRefIdeal.τ).loc Cert.InverseRefIdeal.main_arg1) = m' ((c.tc : Thread Cert.InverseRefIdeal.nD Cert.InverseRefIdeal.τ).loc Cert.InverseRefIdeal.main_arg1)
          ∧ r.2.mem ((c.tc : Thread Cert.InverseRefIdeal.nD Cert.InverseRefIdeal.τ).loc Cert.InverseRefIdeal.main_arg2) = m' ((c.tc : Thread Cert.InverseRefIdeal.nD Cert.InverseRefIdeal.τ).loc Cert.InverseRefIdeal.main_arg2))

def preserves_Spectrum_SpectrumIdeal : Prop :=
  True

def algebraic_SpectrumIdeal_SpectrumRefIdeal_pre_finite [hSpectrumIdeal : Cert.SpectrumIdeal.Facts] [hSpectrumRefIdeal : Cert.SpectrumRefIdeal.Facts] [hPre_finite : Cert.Pre_finite.Facts] : Prop :=
  ∀ (m : (ℓ : Loc Cert.SpectrumIdeal.nD Cert.SpectrumIdeal.τ Cert.SpectrumIdeal.sig) → Buf (Elt Ideal) ℓ) (g : Dev Cert.SpectrumIdeal.nD → PrngReg)
    (m' : (ℓ : Loc Cert.SpectrumRefIdeal.nD Cert.SpectrumRefIdeal.τ Cert.SpectrumRefIdeal.sig) → Buf (Elt Ideal) ℓ) (g' : Dev Cert.SpectrumRefIdeal.nD → PrngReg), Pre_SpectrumIdeal_finite m →
    (∀ c : Dev Cert.SpectrumIdeal.nD,
      m' ((c.tc : Thread Cert.SpectrumRefIdeal.nD Cert.SpectrumRefIdeal.τ).loc Cert.SpectrumRefIdeal.main_arg0) = m ((c.tc : Thread Cert.SpectrumIdeal.nD Cert.SpectrumIdeal.τ).loc Cert.SpectrumIdeal.main_arg0)
      ∧ m' ((c.tc : Thread Cert.SpectrumRefIdeal.nD Cert.SpectrumRefIdeal.τ).loc Cert.SpectrumRefIdeal.main_arg1) = m ((c.tc : Thread Cert.SpectrumIdeal.nD Cert.SpectrumIdeal.τ).loc Cert.SpectrumIdeal.main_arg1)
      ∧ m' ((c.tc : Thread Cert.SpectrumRefIdeal.nD Cert.SpectrumRefIdeal.τ).loc Cert.SpectrumRefIdeal.main_arg2) = m ((c.tc : Thread Cert.SpectrumIdeal.nD Cert.SpectrumIdeal.τ).loc Cert.SpectrumIdeal.main_arg2)) →
    ∃ (v0 : (c : Dev Cert.SpectrumIdeal.nD) → Buf (Elt Ideal) ((c.tc : Thread Cert.SpectrumIdeal.nD Cert.SpectrumIdeal.τ).loc Cert.SpectrumIdeal.main_v0)),
      θ_run (Cert.SpectrumIdeal.defs (F := Ideal)) (onTc (τ := Cert.SpectrumIdeal.τ) (Cert.SpectrumIdeal.main (F := Ideal))) ⟨m, fun _ => 0, g⟩ (fun r => ∀ c : Dev Cert.SpectrumIdeal.nD,
          r.2.mem ((c.tc : Thread Cert.SpectrumIdeal.nD Cert.SpectrumIdeal.τ).loc Cert.SpectrumIdeal.main_v0) = v0 c
          ∧ r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
          ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
          ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2))
      ∧ θ_run (Cert.SpectrumRefIdeal.defs (F := Ideal)) (onTc (τ := Cert.SpectrumRefIdeal.τ) (Cert.SpectrumRefIdeal.main (F := Ideal))) ⟨m', fun _ => 0, g'⟩ (fun r => ∀ c : Dev Cert.SpectrumRefIdeal.nD,
          r.2.mem ((c.tc : Thread Cert.SpectrumRefIdeal.nD Cert.SpectrumRefIdeal.τ).loc Cert.SpectrumRefIdeal.main_v14) = v0 c
          ∧ r.2.mem ((c.tc : Thread Cert.SpectrumRefIdeal.nD Cert.SpectrumRefIdeal.τ).loc Cert.SpectrumRefIdeal.main_arg0) = m' ((c.tc : Thread Cert.SpectrumRefIdeal.nD Cert.SpectrumRefIdeal.τ).loc Cert.SpectrumRefIdeal.main_arg0)
          ∧ r.2.mem ((c.tc : Thread Cert.SpectrumRefIdeal.nD Cert.SpectrumRefIdeal.τ).loc Cert.SpectrumRefIdeal.main_arg1) = m' ((c.tc : Thread Cert.SpectrumRefIdeal.nD Cert.SpectrumRefIdeal.τ).loc Cert.SpectrumRefIdeal.main_arg1)
          ∧ r.2.mem ((c.tc : Thread Cert.SpectrumRefIdeal.nD Cert.SpectrumRefIdeal.τ).loc Cert.SpectrumRefIdeal.main_arg2) = m' ((c.tc : Thread Cert.SpectrumRefIdeal.nD Cert.SpectrumRefIdeal.τ).loc Cert.SpectrumRefIdeal.main_arg2))

def preserves_Taps_TapsIdeal : Prop :=
  True

def algebraic_TapsIdeal_TapsRefIdeal [hTapsIdeal : Cert.TapsIdeal.Facts] [hTapsRefIdeal : Cert.TapsRefIdeal.Facts] : Prop :=
  ∀ (m : (ℓ : Loc Cert.TapsIdeal.nD Cert.TapsIdeal.τ Cert.TapsIdeal.sig) → Buf (Elt Ideal) ℓ) (g : Dev Cert.TapsIdeal.nD → PrngReg)
    (m' : (ℓ : Loc Cert.TapsRefIdeal.nD Cert.TapsRefIdeal.τ Cert.TapsRefIdeal.sig) → Buf (Elt Ideal) ℓ) (g' : Dev Cert.TapsRefIdeal.nD → PrngReg), Pre_TapsIdeal m →
    (∀ c : Dev Cert.TapsIdeal.nD,
      m' ((c.tc : Thread Cert.TapsRefIdeal.nD Cert.TapsRefIdeal.τ).loc Cert.TapsRefIdeal.main_arg0) = m ((c.tc : Thread Cert.TapsIdeal.nD Cert.TapsIdeal.τ).loc Cert.TapsIdeal.main_arg0)
      ∧ m' ((c.tc : Thread Cert.TapsRefIdeal.nD Cert.TapsRefIdeal.τ).loc Cert.TapsRefIdeal.main_arg1) = m ((c.tc : Thread Cert.TapsIdeal.nD Cert.TapsIdeal.τ).loc Cert.TapsIdeal.main_arg1)
      ∧ m' ((c.tc : Thread Cert.TapsRefIdeal.nD Cert.TapsRefIdeal.τ).loc Cert.TapsRefIdeal.main_arg2) = m ((c.tc : Thread Cert.TapsIdeal.nD Cert.TapsIdeal.τ).loc Cert.TapsIdeal.main_arg2)
      ∧ m' ((c.tc : Thread Cert.TapsRefIdeal.nD Cert.TapsRefIdeal.τ).loc Cert.TapsRefIdeal.main_arg3) = m ((c.tc : Thread Cert.TapsIdeal.nD Cert.TapsIdeal.τ).loc Cert.TapsIdeal.main_arg3)
      ∧ m' ((c.tc : Thread Cert.TapsRefIdeal.nD Cert.TapsRefIdeal.τ).loc Cert.TapsRefIdeal.main_arg4) = m ((c.tc : Thread Cert.TapsIdeal.nD Cert.TapsIdeal.τ).loc Cert.TapsIdeal.main_arg4)
      ∧ m' ((c.tc : Thread Cert.TapsRefIdeal.nD Cert.TapsRefIdeal.τ).loc Cert.TapsRefIdeal.main_arg5) = m ((c.tc : Thread Cert.TapsIdeal.nD Cert.TapsIdeal.τ).loc Cert.TapsIdeal.main_arg5)
      ∧ m' ((c.tc : Thread Cert.TapsRefIdeal.nD Cert.TapsRefIdeal.τ).loc Cert.TapsRefIdeal.main_arg6) = m ((c.tc : Thread Cert.TapsIdeal.nD Cert.TapsIdeal.τ).loc Cert.TapsIdeal.main_arg6)
      ∧ m' ((c.tc : Thread Cert.TapsRefIdeal.nD Cert.TapsRefIdeal.τ).loc Cert.TapsRefIdeal.main_arg7) = m ((c.tc : Thread Cert.TapsIdeal.nD Cert.TapsIdeal.τ).loc Cert.TapsIdeal.main_arg7)) →
    ∃ (v0 : (c : Dev Cert.TapsIdeal.nD) → Buf (Elt Ideal) ((c.tc : Thread Cert.TapsIdeal.nD Cert.TapsIdeal.τ).loc Cert.TapsIdeal.main_v40_0)) (v1 : (c : Dev Cert.TapsIdeal.nD) → Buf (Elt Ideal) ((c.tc : Thread Cert.TapsIdeal.nD Cert.TapsIdeal.τ).loc Cert.TapsIdeal.main_v40_1)),
      θ_run (Cert.TapsIdeal.defs (F := Ideal)) (onTc (τ := Cert.TapsIdeal.τ) (Cert.TapsIdeal.main (F := Ideal))) ⟨m, fun _ => 0, g⟩ (fun r => ∀ c : Dev Cert.TapsIdeal.nD,
          r.2.mem ((c.tc : Thread Cert.TapsIdeal.nD Cert.TapsIdeal.τ).loc Cert.TapsIdeal.main_v40_0) = v0 c
          ∧ r.2.mem ((c.tc : Thread Cert.TapsIdeal.nD Cert.TapsIdeal.τ).loc Cert.TapsIdeal.main_v40_1) = v1 c
          ∧ r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
          ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
          ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
          ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3)
          ∧ r.2.mem ((c.tc : Thread Cert.TapsIdeal.nD Cert.TapsIdeal.τ).loc Cert.TapsIdeal.main_arg4) = m ((c.tc : Thread Cert.TapsIdeal.nD Cert.TapsIdeal.τ).loc Cert.TapsIdeal.main_arg4)
          ∧ r.2.mem ((c.tc : Thread Cert.TapsIdeal.nD Cert.TapsIdeal.τ).loc Cert.TapsIdeal.main_arg5) = m ((c.tc : Thread Cert.TapsIdeal.nD Cert.TapsIdeal.τ).loc Cert.TapsIdeal.main_arg5)
          ∧ r.2.mem ((c.tc : Thread Cert.TapsIdeal.nD Cert.TapsIdeal.τ).loc Cert.TapsIdeal.main_arg6) = m ((c.tc : Thread Cert.TapsIdeal.nD Cert.TapsIdeal.τ).loc Cert.TapsIdeal.main_arg6)
          ∧ r.2.mem ((c.tc : Thread Cert.TapsIdeal.nD Cert.TapsIdeal.τ).loc Cert.TapsIdeal.main_arg7) = m ((c.tc : Thread Cert.TapsIdeal.nD Cert.TapsIdeal.τ).loc Cert.TapsIdeal.main_arg7))
      ∧ θ_run (Cert.TapsRefIdeal.defs (F := Ideal)) (onTc (τ := Cert.TapsRefIdeal.τ) (Cert.TapsRefIdeal.main (F := Ideal))) ⟨m', fun _ => 0, g'⟩ (fun r => ∀ c : Dev Cert.TapsRefIdeal.nD,
          r.2.mem ((c.tc : Thread Cert.TapsRefIdeal.nD Cert.TapsRefIdeal.τ).loc Cert.TapsRefIdeal.main_v66) = v0 c
          ∧ r.2.mem ((c.tc : Thread Cert.TapsRefIdeal.nD Cert.TapsRefIdeal.τ).loc Cert.TapsRefIdeal.main_v67) = v1 c
          ∧ r.2.mem ((c.tc : Thread Cert.TapsRefIdeal.nD Cert.TapsRefIdeal.τ).loc Cert.TapsRefIdeal.main_arg0) = m' ((c.tc : Thread Cert.TapsRefIdeal.nD Cert.TapsRefIdeal.τ).loc Cert.TapsRefIdeal.main_arg0)
          ∧ r.2.mem ((c.tc : Thread Cert.TapsRefIdeal.nD Cert.TapsRefIdeal.τ).loc Cert.TapsRefIdeal.main_arg1) = m' ((c.tc : Thread Cert.TapsRefIdeal.nD Cert.TapsRefIdeal.τ).loc Cert.TapsRefIdeal.main_arg1)
          ∧ r.2.mem ((c.tc : Thread Cert.TapsRefIdeal.nD Cert.TapsRefIdeal.τ).loc Cert.TapsRefIdeal.main_arg2) = m' ((c.tc : Thread Cert.TapsRefIdeal.nD Cert.TapsRefIdeal.τ).loc Cert.TapsRefIdeal.main_arg2)
          ∧ r.2.mem ((c.tc : Thread Cert.TapsRefIdeal.nD Cert.TapsRefIdeal.τ).loc Cert.TapsRefIdeal.main_arg3) = m' ((c.tc : Thread Cert.TapsRefIdeal.nD Cert.TapsRefIdeal.τ).loc Cert.TapsRefIdeal.main_arg3)
          ∧ r.2.mem ((c.tc : Thread Cert.TapsRefIdeal.nD Cert.TapsRefIdeal.τ).loc Cert.TapsRefIdeal.main_arg4) = m' ((c.tc : Thread Cert.TapsRefIdeal.nD Cert.TapsRefIdeal.τ).loc Cert.TapsRefIdeal.main_arg4)
          ∧ r.2.mem ((c.tc : Thread Cert.TapsRefIdeal.nD Cert.TapsRefIdeal.τ).loc Cert.TapsRefIdeal.main_arg5) = m' ((c.tc : Thread Cert.TapsRefIdeal.nD Cert.TapsRefIdeal.τ).loc Cert.TapsRefIdeal.main_arg5)
          ∧ r.2.mem ((c.tc : Thread Cert.TapsRefIdeal.nD Cert.TapsRefIdeal.τ).loc Cert.TapsRefIdeal.main_arg6) = m' ((c.tc : Thread Cert.TapsRefIdeal.nD Cert.TapsRefIdeal.τ).loc Cert.TapsRefIdeal.main_arg6)
          ∧ r.2.mem ((c.tc : Thread Cert.TapsRefIdeal.nD Cert.TapsRefIdeal.τ).loc Cert.TapsRefIdeal.main_arg7) = m' ((c.tc : Thread Cert.TapsRefIdeal.nD Cert.TapsRefIdeal.τ).loc Cert.TapsRefIdeal.main_arg7))

def Claim : Prop :=
  ∃ (hInproj : Cert.Inproj.Facts) (hInprojIdeal : Cert.InprojIdeal.Facts) (hInprojRefIdeal : Cert.InprojRefIdeal.Facts) (hExperts : Cert.Experts.Facts) (hExpertsIdeal : Cert.ExpertsIdeal.Facts) (hExpertsRefIdeal : Cert.ExpertsRefIdeal.Facts) (hMerge : Cert.Merge.Facts) (hMergeIdeal : Cert.MergeIdeal.Facts) (hMergeRefIdeal : Cert.MergeRefIdeal.Facts) (hPool : Cert.Pool.Facts) (hPoolIdeal : Cert.PoolIdeal.Facts) (hPoolRefIdeal : Cert.PoolRefIdeal.Facts) (hConv : Cert.Conv.Facts) (hConvIdeal : Cert.ConvIdeal.Facts) (hConvRefIdeal : Cert.ConvRefIdeal.Facts) (hForward : Cert.Forward.Facts) (hForwardIdeal : Cert.ForwardIdeal.Facts) (hForwardRefIdeal : Cert.ForwardRefIdeal.Facts) (hInverse : Cert.Inverse.Facts) (hInverseIdeal : Cert.InverseIdeal.Facts) (hInverseRefIdeal : Cert.InverseRefIdeal.Facts) (hSpectrum : Cert.Spectrum.Facts) (hSpectrumIdeal : Cert.SpectrumIdeal.Facts) (hSpectrumRefIdeal : Cert.SpectrumRefIdeal.Facts) (hTaps : Cert.Taps.Facts) (hTapsIdeal : Cert.TapsIdeal.Facts) (hTapsRefIdeal : Cert.TapsRefIdeal.Facts) (hPre_eids : Cert.Pre_eids.Facts) (hPre_finite : Cert.Pre_finite.Facts),
    quiescent_Inproj (hInproj := hInproj)
    ∧ quiescent_InprojIdeal (hInprojIdeal := hInprojIdeal)
    ∧ quiescent_InprojRefIdeal (hInprojRefIdeal := hInprojRefIdeal)
    ∧ quiescent_Experts (hExperts := hExperts) (hPre_eids := hPre_eids)
    ∧ quiescent_ExpertsIdeal (hExpertsIdeal := hExpertsIdeal) (hPre_eids := hPre_eids)
    ∧ quiescent_ExpertsRefIdeal (hExpertsRefIdeal := hExpertsRefIdeal) (hPre_eids := hPre_eids)
    ∧ quiescent_Merge (hMerge := hMerge)
    ∧ quiescent_MergeIdeal (hMergeIdeal := hMergeIdeal)
    ∧ quiescent_MergeRefIdeal (hMergeRefIdeal := hMergeRefIdeal)
    ∧ quiescent_Pool (hPool := hPool)
    ∧ quiescent_PoolIdeal (hPoolIdeal := hPoolIdeal)
    ∧ quiescent_PoolRefIdeal (hPoolRefIdeal := hPoolRefIdeal)
    ∧ quiescent_Conv (hConv := hConv)
    ∧ quiescent_ConvIdeal (hConvIdeal := hConvIdeal)
    ∧ quiescent_ConvRefIdeal (hConvRefIdeal := hConvRefIdeal)
    ∧ quiescent_Forward (hForward := hForward)
    ∧ quiescent_ForwardIdeal (hForwardIdeal := hForwardIdeal)
    ∧ quiescent_ForwardRefIdeal (hForwardRefIdeal := hForwardRefIdeal)
    ∧ quiescent_Inverse (hInverse := hInverse)
    ∧ quiescent_InverseIdeal (hInverseIdeal := hInverseIdeal)
    ∧ quiescent_InverseRefIdeal (hInverseRefIdeal := hInverseRefIdeal)
    ∧ quiescent_Spectrum (hSpectrum := hSpectrum)
    ∧ quiescent_SpectrumIdeal (hSpectrumIdeal := hSpectrumIdeal)
    ∧ quiescent_SpectrumIdeal_pre_finite (hSpectrumIdeal := hSpectrumIdeal) (hPre_finite := hPre_finite)
    ∧ quiescent_SpectrumRefIdeal (hSpectrumRefIdeal := hSpectrumRefIdeal)
    ∧ quiescent_SpectrumRefIdeal_pre_finite (hSpectrumRefIdeal := hSpectrumRefIdeal) (hPre_finite := hPre_finite)
    ∧ quiescent_Taps (hTaps := hTaps)
    ∧ quiescent_TapsIdeal (hTapsIdeal := hTapsIdeal)
    ∧ quiescent_TapsRefIdeal (hTapsRefIdeal := hTapsRefIdeal)
    ∧ preserves_Inproj_InprojIdeal
    ∧ algebraic_InprojIdeal_InprojRefIdeal (hInprojIdeal := hInprojIdeal) (hInprojRefIdeal := hInprojRefIdeal)
    ∧ preserves_Experts_ExpertsIdeal
    ∧ algebraic_ExpertsIdeal_ExpertsRefIdeal (hExpertsIdeal := hExpertsIdeal) (hExpertsRefIdeal := hExpertsRefIdeal) (hPre_eids := hPre_eids)
    ∧ preserves_Merge_MergeIdeal
    ∧ algebraic_MergeIdeal_MergeRefIdeal (hMergeIdeal := hMergeIdeal) (hMergeRefIdeal := hMergeRefIdeal)
    ∧ preserves_Pool_PoolIdeal
    ∧ algebraic_PoolIdeal_PoolRefIdeal (hPoolIdeal := hPoolIdeal) (hPoolRefIdeal := hPoolRefIdeal)
    ∧ preserves_Conv_ConvIdeal
    ∧ algebraic_ConvIdeal_ConvRefIdeal (hConvIdeal := hConvIdeal) (hConvRefIdeal := hConvRefIdeal)
    ∧ preserves_Forward_ForwardIdeal
    ∧ algebraic_ForwardIdeal_ForwardRefIdeal (hForwardIdeal := hForwardIdeal) (hForwardRefIdeal := hForwardRefIdeal)
    ∧ preserves_Inverse_InverseIdeal
    ∧ algebraic_InverseIdeal_InverseRefIdeal (hInverseIdeal := hInverseIdeal) (hInverseRefIdeal := hInverseRefIdeal)
    ∧ preserves_Spectrum_SpectrumIdeal
    ∧ algebraic_SpectrumIdeal_SpectrumRefIdeal_pre_finite (hSpectrumIdeal := hSpectrumIdeal) (hSpectrumRefIdeal := hSpectrumRefIdeal) (hPre_finite := hPre_finite)
    ∧ preserves_Taps_TapsIdeal
    ∧ algebraic_TapsIdeal_TapsRefIdeal (hTapsIdeal := hTapsIdeal) (hTapsRefIdeal := hTapsRefIdeal)
-- ==== Pre_eids.lean ====
abbrev S114688x1024 : Shape := ⟨2, ![114688, 1024]⟩
abbrev S224 : Shape := ⟨1, ![224]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : FVec F S114688x1024 .bf16) (main_arg1 : IVec S224 32) (main_arg2 : IVec S224 32) (main_arg3 : FVec F S2x32x1024x512 .f32) (main_arg4 : FVec F S2x32x1024x512 .f32) (main_arg5 : FVec F S2x32x512x1024 .f32) : IVec S_ 1 :=
  let main_c : IVec S_ 32 := constantI S_ 32 0#32
  let main_v0 : IVec S224 32 := broadcastInDim S224 ![] bcast_S_S224 main_c
  let main_v1 : IVec S224 1 := cmpi .sge main_arg1 main_v0
  let main_c_0 : IVec S_ 32 := constantI S_ 32 32#32
  let main_v2 : IVec S224 32 := broadcastInDim S224 ![] bcast_S_S224 main_c_0
  let main_v3 : IVec S224 1 := cmpi .slt main_arg1 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  main_v5
-- ==== Pre_finite.lean ====
abbrev S4096x2048 : Shape := ⟨2, ![4096, 2048]⟩
abbrev S2048x512 : Shape := ⟨2, ![2048, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S4096x2048 .f32) (main_arg1 : FVec F S2048x512 .f32) (main_arg2 : FVec F S2048x512 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Inproj.lean ====
abbrev S49152x1024 : Shape := ⟨2, ![49152, 1024]⟩
abbrev S1024x9728 : Shape := ⟨2, ![1024, 9728]⟩
abbrev S9728 : Shape := ⟨1, ![9728]⟩
abbrev S1024x3072 : Shape := ⟨2, ![1024, 3072]⟩
abbrev S1024x6656 : Shape := ⟨2, ![1024, 6656]⟩
abbrev S3072 : Shape := ⟨1, ![3072]⟩
abbrev S6656 : Shape := ⟨1, ![6656]⟩
abbrev S1x9728 : Shape := ⟨2, ![1, 9728]⟩
abbrev S49152x9728 : Shape := ⟨2, ![49152, 9728]⟩
abbrev S4096x1024 : Shape := ⟨2, ![4096, 1024]⟩
abbrev S1024x512 : Shape := ⟨2, ![1024, 512]⟩
abbrev S1x512 : Shape := ⟨2, ![1, 512]⟩
abbrev S4096x512 : Shape := ⟨2, ![4096, 512]⟩

abbrev nBuf : Space → Nat
  | .hbm => 13
  | .vmem => 8
  | .smem => 0
  | _ => 0

abbrev bufTy : (tb : Table) → Fin (tcTables nBuf tb) → BufTy
  | .hbm, ⟨0, _⟩ => ⟨S49152x1024, .f32⟩
  | .hbm, ⟨1, _⟩ => ⟨S1024x9728, .f32⟩
  | .hbm, ⟨2, _⟩ => ⟨S9728, .f32⟩
  | .hbm, ⟨3, _⟩ => ⟨S1024x3072, .f32⟩
  | .hbm, ⟨4, _⟩ => ⟨S1024x6656, .f32⟩
  | .hbm, ⟨5, _⟩ => ⟨S1024x9728, .f32⟩
  | .hbm, ⟨6, _⟩ => ⟨S1024x9728, .bf16⟩
  | .hbm, ⟨7, _⟩ => ⟨S3072, .f32⟩
  | .hbm, ⟨8, _⟩ => ⟨S6656, .f32⟩
  | .hbm, ⟨9, _⟩ => ⟨S9728, .f32⟩
  | .hbm, ⟨10, _⟩ => ⟨S1x9728, .f32⟩
  | .hbm, ⟨11, _⟩ => ⟨S49152x1024, .bf16⟩
  | .hbm, ⟨12, _⟩ => ⟨S49152x9728, .bf16⟩
  | .local _ .vmem, ⟨0, _⟩ => ⟨S4096x1024, .bf16⟩
  | .local _ .vmem, ⟨1, _⟩ => ⟨S4096x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S4096x512, .bf16⟩
  | .local _ .vmem, ⟨7, _⟩ => ⟨S4096x512, .bf16⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S49152x1024 : Shape := ⟨2, ![49152, 1024]⟩
abbrev S1024x9728 : Shape := ⟨2, ![1024, 9728]⟩
abbrev S9728 : Shape := ⟨1, ![9728]⟩
abbrev S49152x9728 : Shape := ⟨2, ![49152, 9728]⟩
abbrev S1x9728 : Shape := ⟨2, ![1, 9728]⟩
abbrev S49152x3072 : Shape := ⟨2, ![49152, 3072]⟩
abbrev S49152x6656 : Shape := ⟨2, ![49152, 6656]⟩

abbrev nBuf : Space → Nat
  | .hbm => 11
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024x9728, .f32⟩
  | .hbm, ⟨2, _⟩ => ⟨S9728, .f32⟩
  | .hbm, ⟨3, _⟩ => ⟨S49152x9728, .f32⟩
  | .hbm, ⟨4, _⟩ => ⟨S1x9728, .f32⟩
  | .hbm, ⟨5, _⟩ => ⟨S49152x9728, .f32⟩
  | .hbm, ⟨6, _⟩ => ⟨S49152x9728, .f32⟩
  | .hbm, ⟨7, _⟩ => ⟨S49152x3072, .f32⟩
  | .hbm, ⟨8, _⟩ => ⟨S49152x6656, .f32⟩
  | .hbm, ⟨9, _⟩ => ⟨S49152x9728, .f32⟩
  | .hbm, ⟨10, _⟩ => ⟨S49152x9728, .bf16⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Experts.lean ====
abbrev S114688x1024 : Shape := ⟨2, ![114688, 1024]⟩
abbrev S224 : Shape := ⟨1, ![224]⟩
abbrev S2x32x1024x512 : Shape := ⟨4, ![2, 32, 1024, 512]⟩
abbrev S2x32x512x1024 : Shape := ⟨4, ![2, 32, 512, 1024]⟩
abbrev S512x1024 : Shape := ⟨2, ![512, 1024]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 10
  | .smem => 2
  | _ => 0

abbrev bufTy : (tb : Table) → Fin (tcTables nBuf tb) → BufTy
  | .hbm, ⟨0, _⟩ => ⟨S114688x1024, .bf16⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S114688x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .smem, ⟨0, _⟩ => ⟨S224, .i32⟩
  | .local _ .smem, ⟨1, _⟩ => ⟨S224, .i32⟩
  | _, _ => ⟨S114688x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S114688x1024 : Shape := ⟨2, ![114688, 1024]⟩
abbrev S224 : Shape := ⟨1, ![224]⟩
abbrev S2x32x1024x512 : Shape := ⟨4, ![2, 32, 1024, 512]⟩
abbrev S2x32x512x1024 : Shape := ⟨4, ![2, 32, 512, 1024]⟩
abbrev S224x512x1024 : Shape := ⟨3, ![224, 512, 1024]⟩
abbrev S1x32x1024x512 : Shape := ⟨4, ![1, 32, 1024, 512]⟩
abbrev S32x1024x512 : Shape := ⟨3, ![32, 1024, 512]⟩
abbrev S_ : Shape := ⟨0, ![]⟩
abbrev S224x1 : Shape := ⟨2, ![224, 1]⟩
abbrev S224x1024x512 : Shape := ⟨3, ![224, 1024, 512]⟩
abbrev S224x512x512 : Shape := ⟨3, ![224, 512, 512]⟩
abbrev S1x32x512x1024 : Shape := ⟨4, ![1, 32, 512, 1024]⟩
abbrev S32x512x1024 : Shape := ⟨3, ![32, 512, 1024]⟩
abbrev S224x1x1 : Shape := ⟨3, ![224, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S114688x1024, .bf16⟩
  | .hbm, ⟨1, _⟩ => ⟨S224, .i32⟩
  | .hbm, ⟨2, _⟩ => ⟨S224, .i32⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S114688x1024, .f32⟩
  | .hbm, ⟨7, _⟩ => ⟨S224x512x1024, .f32⟩
  | .hbm, ⟨8, _⟩ => ⟨S1x32x1024x512, .f32⟩
  | .hbm, ⟨9, _⟩ => ⟨S32x1024x512, .f32⟩
  | .hbm, ⟨10, _⟩ => ⟨S_, .i32⟩
  | .hbm, ⟨11, _⟩ => ⟨S224, .i32⟩
  | .hbm, ⟨12, _⟩ => ⟨S224, .i1⟩
  | .hbm, ⟨13, _⟩ => ⟨S_, .i32⟩
  | .hbm, ⟨14, _⟩ => ⟨S224, .i32⟩
  | .hbm, ⟨15, _⟩ => ⟨S224, .i32⟩
  | .hbm, ⟨16, _⟩ => ⟨S224, .i32⟩
  | .hbm, ⟨17, _⟩ => ⟨S224x1, .i32⟩
  | .hbm, ⟨18, _⟩ => ⟨S224x1024x512, .f32⟩
  | .hbm, ⟨19, _⟩ => ⟨S224x512x512, .f32⟩
  | .hbm, ⟨20, _⟩ => ⟨S224x512x512, .f32⟩
  | .hbm, ⟨21, _⟩ => ⟨S224x512x512, .f32⟩
  | .hbm, ⟨22, _⟩ => ⟨S_, .f32⟩
  | .hbm, ⟨23, _⟩ => ⟨S224x512x512, .f32⟩
  | .hbm, ⟨24, _⟩ => ⟨S224x512x512, .f32⟩
  | .hbm, ⟨25, _⟩ => ⟨S_, .f32⟩
  | .hbm, ⟨26, _⟩ => ⟨S224x512x512, .f32⟩
  | .hbm, ⟨27, _⟩ => ⟨S224x512x512, .f32⟩
  | .hbm, ⟨28, _⟩ => ⟨S224x512x512, .f32⟩
  | .hbm, ⟨29, _⟩ => ⟨S1x32x1024x512, .f32⟩
  | .hbm, ⟨30, _⟩ => ⟨S32x1024x512, .f32⟩
  | .hbm, ⟨31, _⟩ => ⟨S_, .i32⟩
  | .hbm, ⟨32, _⟩ => ⟨S224, .i32⟩
  | .hbm, ⟨33, _⟩ => ⟨S224, .i1⟩
  | .hbm, ⟨34, _⟩ => ⟨S_, .i32⟩
  | .hbm, ⟨35, _⟩ => ⟨S224, .i32⟩
  | .hbm, ⟨36, _⟩ => ⟨S224, .i32⟩
  | .hbm, ⟨37, _⟩ => ⟨S224, .i32⟩
  | .hbm, ⟨38, _⟩ => ⟨S224x1, .i32⟩
  | .hbm, ⟨39, _⟩ => ⟨S224x1024x512, .f32⟩
  | .hbm, ⟨40, _⟩ => ⟨S224x512x512, .f32⟩
  | .hbm, ⟨41, _⟩ => ⟨S224x512x512, .f32⟩
  | .hbm, ⟨42, _⟩ => ⟨S1x32x512x1024, .f32⟩
  | .hbm, ⟨43, _⟩ => ⟨S32x512x1024, .f32⟩
  | .hbm, ⟨44, _⟩ => ⟨S_, .i32⟩
  | .hbm, ⟨45, _⟩ => ⟨S224, .i32⟩
  | .hbm, ⟨46, _⟩ => ⟨S224, .i1⟩
  | .hbm, ⟨47, _⟩ => ⟨S_, .i32⟩
  | .hbm, ⟨48, _⟩ => ⟨S224, .i32⟩
  | .hbm, ⟨49, _⟩ => ⟨S224, .i32⟩
  | .hbm, ⟨50, _⟩ => ⟨S224, .i32⟩
  | .hbm, ⟨51, _⟩ => ⟨S224x1, .i32⟩
  | .hbm, ⟨52, _⟩ => ⟨S224x512x1024, .f32⟩
  | .hbm, ⟨53, _⟩ => ⟨S224x512x1024, .f32⟩
  | .hbm, ⟨54, _⟩ => ⟨S224x1x1, .i32⟩
  | .hbm, ⟨55, _⟩ => ⟨S_, .i32⟩
  | .hbm, ⟨56, _⟩ => ⟨S224x1x1, .i32⟩
  | .hbm, ⟨57, _⟩ => ⟨S224x1x1, .i1⟩
  | .hbm, ⟨58, _⟩ => ⟨S_, .f32⟩
  | .hbm, ⟨59, _⟩ => ⟨S_, .f32⟩
  | .hbm, ⟨60, _⟩ => ⟨S224x512x1024, .i1⟩
  | .hbm, ⟨61, _⟩ => ⟨S224x512x1024, .f32⟩
  | .hbm, ⟨62, _⟩ => ⟨S224x512x1024, .f32⟩
  | .hbm, ⟨63, _⟩ => ⟨S114688x1024, .f32⟩
  | .hbm, ⟨64, _⟩ => ⟨S114688x1024, .bf16⟩
  | _, _ => ⟨S114688x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Merge.lean ====
abbrev S32768x1024 : Shape := ⟨2, ![32768, 1024]⟩
abbrev S16384x1024 : Shape := ⟨2, ![16384, 1024]⟩
abbrev S49152x9728 : Shape := ⟨2, ![49152, 9728]⟩
abbrev S49152x512 : Shape := ⟨2, ![49152, 512]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S49152x1024 : Shape := ⟨2, ![49152, 1024]⟩
abbrev S49152x128 : Shape := ⟨2, ![49152, 128]⟩
abbrev S96x8x128 : Shape := ⟨3, ![96, 8, 128]⟩
abbrev S512x1024 : Shape := ⟨2, ![512, 1024]⟩
abbrev S512x512 : Shape := ⟨2, ![512, 512]⟩
abbrev S512x128 : Shape := ⟨2, ![512, 128]⟩
abbrev S1x8x128 : Shape := ⟨3, ![1, 8, 128]⟩
abbrev S1x512x1024 : Shape := ⟨3, ![1, 512, 1024]⟩
abbrev S512 : Shape := ⟨1, ![512]⟩
abbrev S512x1 : Shape := ⟨2, ![512, 1]⟩
abbrev S128 : Shape := ⟨1, ![128]⟩
abbrev S8x128 : Shape := ⟨2, ![8, 128]⟩

abbrev nBuf : Space → Nat
  | .hbm => 44
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S16384x1024, .f32⟩
  | .hbm, ⟨2, _⟩ => ⟨S49152x9728, .bf16⟩
  | .hbm, ⟨3, _⟩ => ⟨S49152x512, .bf16⟩
  | .hbm, ⟨4, _⟩ => ⟨S49152x512, .bf16⟩
  | .hbm, ⟨5, _⟩ => ⟨S49152x512, .bf16⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S3x512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S49152x1024, .f32⟩
  | .hbm, ⟨41, _⟩ => ⟨S49152x1024, .bf16⟩
  | .hbm, ⟨42, _⟩ => ⟨S49152x128, .f32⟩
  | .hbm, ⟨43, _⟩ => ⟨S96x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S3x512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x128, .f32⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S1x8x128, .f32⟩
  | .local _ .vmem, ⟨29, _⟩ => ⟨S1x8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_c_2 : Ref sig .tc := ⟨.hbm, 24, rfl⟩
abbrev main_v6 : Ref sig .tc := ⟨.hbm, 25, rfl⟩
abbrev main_c_3 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_c_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S32768x1024 : Shape := ⟨2, ![32768, 1024]⟩
abbrev S16384x1024 : Shape := ⟨2, ![16384, 1024]⟩
abbrev S49152x9728 : Shape := ⟨2, ![49152, 9728]⟩
abbrev S49152x512 : Shape := ⟨2, ![49152, 512]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S49152x1024 : Shape := ⟨2, ![49152, 1024]⟩
abbrev S49152x1x512 : Shape := ⟨3, ![49152, 1, 512]⟩
abbrev S49152x3x512 : Shape := ⟨3, ![49152, 3, 512]⟩
abbrev S3x1024x49152 : Shape := ⟨3, ![3, 1024, 49152]⟩
abbrev S49152x3x1024 : Shape := ⟨3, ![49152, 3, 1024]⟩
abbrev S49152x3072 : Shape := ⟨2, ![49152, 3072]⟩
abbrev S_ : Shape := ⟨0, ![]⟩
abbrev S49152 : Shape := ⟨1, ![49152]⟩
abbrev S49152x1 : Shape := ⟨2, ![49152, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16384x1024, .f32⟩
  | .hbm, ⟨2, _⟩ => ⟨S49152x9728, .bf16⟩
  | .hbm, ⟨3, _⟩ => ⟨S49152x512, .bf16⟩
  | .hbm, ⟨4, _⟩ => ⟨S49152x512, .bf16⟩
  | .hbm, ⟨5, _⟩ => ⟨S49152x512, .bf16⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S49152x1024, .f32⟩
  | .hbm, ⟨15, _⟩ => ⟨S49152x1x512, .bf16⟩
  | .hbm, ⟨16, _⟩ => ⟨S49152x1x512, .bf16⟩
  | .hbm, ⟨17, _⟩ => ⟨S49152x1x512, .bf16⟩
  | .hbm, ⟨18, _⟩ => ⟨S49152x3x512, .bf16⟩
  | .hbm, ⟨19, _⟩ => ⟨S49152x3x512, .f32⟩
  | .hbm, ⟨20, _⟩ => ⟨S3x1024x49152, .f32⟩
  | .hbm, ⟨21, _⟩ => ⟨S49152x3x1024, .f32⟩
  | .hbm, ⟨22, _⟩ => ⟨S49152x3072, .bf16⟩
  | .hbm, ⟨23, _⟩ => ⟨S49152x3072, .f32⟩
  | .hbm, ⟨24, _⟩ => ⟨S49152x3x1024, .f32⟩
  | .hbm, ⟨25, _⟩ => ⟨S49152x3x1024, .f32⟩
  | .hbm, ⟨26, _⟩ => ⟨S49152x3x1024, .f32⟩
  | .hbm, ⟨27, _⟩ => ⟨S_, .f32⟩
  | .hbm, ⟨28, _⟩ => ⟨S49152x3x1024, .f32⟩
  | .hbm, ⟨29, _⟩ => ⟨S49152x3x1024, .f32⟩
  | .hbm, ⟨30, _⟩ => ⟨S_, .f32⟩
  | .hbm, ⟨31, _⟩ => ⟨S49152x3x1024, .f32⟩
  | .hbm, ⟨32, _⟩ => ⟨S49152x3x1024, .f32⟩
  | .hbm, ⟨33, _⟩ => ⟨S49152x1024, .f32⟩
  | .hbm, ⟨34, _⟩ => ⟨S49152x1024, .f32⟩
  | .hbm, ⟨35, _⟩ => ⟨S_, .f32⟩
  | .hbm, ⟨36, _⟩ => ⟨S49152x1024, .f32⟩
  | .hbm, ⟨37, _⟩ => ⟨S49152x1024, .f32⟩
  | .hbm, ⟨38, _⟩ => ⟨S49152x1024, .f32⟩
  | .hbm, ⟨39, _⟩ => ⟨S_, .f32⟩
  | .hbm, ⟨40, _⟩ => ⟨S49152, .f32⟩
  | .hbm, ⟨41, _⟩ => ⟨S49152x1, .f32⟩
  | .hbm, ⟨42, _⟩ => ⟨S_, .f32⟩
  | .hbm, ⟨43, _⟩ => ⟨S49152x1, .f32⟩
  | .hbm, ⟨44, _⟩ => ⟨S49152x1, .f32⟩
  | .hbm, ⟨45, _⟩ => ⟨S49152x1024, .f32⟩
  | .hbm, ⟨46, _⟩ => ⟨S49152x1024, .f32⟩
  | .hbm, ⟨47, _⟩ => ⟨S49152x1024, .f32⟩
  | .hbm, ⟨48, _⟩ => ⟨S_, .f32⟩
  | .hbm, ⟨49, _⟩ => ⟨S49152, .f32⟩
  | .hbm, ⟨50, _⟩ => ⟨S49152x1, .f32⟩
  | .hbm, ⟨51, _⟩ => ⟨S_, .f32⟩
  | .hbm, ⟨52, _⟩ => ⟨S49152x1, .f32⟩
  | .hbm, ⟨53, _⟩ => ⟨S49152x1, .f32⟩
  | .hbm, ⟨54, _⟩ => ⟨S49152x1024, .f32⟩
  | .hbm, ⟨55, _⟩ => ⟨S49152x1024, .f32⟩
  | .hbm, ⟨56, _⟩ => ⟨S_, .f32⟩
  | .hbm, ⟨57, _⟩ => ⟨S49152x1, .f32⟩
  | .hbm, ⟨58, _⟩ => ⟨S49152x1, .f32⟩
  | .hbm, ⟨59, _⟩ => ⟨S49152x1, .f32⟩
  | .hbm, ⟨60, _⟩ => ⟨S49152x1024, .f32⟩
  | .hbm, ⟨61, _⟩ => ⟨S49152x1024, .f32⟩
  | .hbm, ⟨62, _⟩ => ⟨S1x1024, .f32⟩
  | .hbm, ⟨63, _⟩ => ⟨S49152x1024, .f32⟩
  | .hbm, ⟨64, _⟩ => ⟨S49152x1024, .f32⟩
  | .hbm, ⟨65, _⟩ => ⟨S1x1024, .f32⟩
  | .hbm, ⟨66, _⟩ => ⟨S49152x1024, .f32⟩
  | .hbm, ⟨67, _⟩ => ⟨S49152x1024, .f32⟩
  | .hbm, ⟨68, _⟩ => ⟨S49152x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Pool.lean ====
abbrev S49152x9728 : Shape := ⟨2, ![49152, 9728]⟩
abbrev S4x128x128 : Shape := ⟨3, ![4, 128, 128]⟩
abbrev S512 : Shape := ⟨1, ![512]⟩
abbrev S24x2048x9728 : Shape := ⟨3, ![24, 2048, 9728]⟩
abbrev S1x512 : Shape := ⟨2, ![1, 512]⟩
abbrev S24x2048x512 : Shape := ⟨3, ![24, 2048, 512]⟩
abbrev S1x2048x512 : Shape := ⟨3, ![1, 2048, 512]⟩
abbrev S2064x128 : Shape := ⟨2, ![2064, 128]⟩
abbrev S2048x128 : Shape := ⟨2, ![2048, 128]⟩
abbrev S8x128 : Shape := ⟨2, ![8, 128]⟩
abbrev S1x2048x128 : Shape := ⟨3, ![1, 2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S49152x9728, .bf16⟩
  | .hbm, ⟨1, _⟩ => ⟨S4x128x128, .f32⟩
  | .hbm, ⟨2, _⟩ => ⟨S512, .f32⟩
  | .hbm, ⟨3, _⟩ => ⟨S24x2048x9728, .bf16⟩
  | .hbm, ⟨4, _⟩ => ⟨S4x128x128, .bf16⟩
  | .hbm, ⟨5, _⟩ => ⟨S1x512, .f32⟩
  | .hbm, ⟨6, _⟩ => ⟨S24x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S4x128x128, .bf16⟩
  | .local _ .vmem, ⟨3, _⟩ => ⟨S1x512, .f32⟩
  | .local _ .vmem, ⟨4, _⟩ => ⟨S1x2048x512, .bf16⟩
  | .local _ .vmem, ⟨5, _⟩ => ⟨S1x2048x512, .bf16⟩
  | .local _ .vmem, ⟨6, _⟩ => ⟨S2064x128, .f32⟩
  | _, _ => ⟨S49152x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  ![arg0.toNat, c0_i32.toNat, c15_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S49152x9728 : Shape := ⟨2, ![49152, 9728]⟩
abbrev S4x128x128 : Shape := ⟨3, ![4, 128, 128]⟩
abbrev S512 : Shape := ⟨1, ![512]⟩
abbrev S4 : Shape := ⟨1, ![4]⟩
abbrev S24x2048x9728 : Shape := ⟨3, ![24, 2048, 9728]⟩
abbrev S24x2048x512 : Shape := ⟨3, ![24, 2048, 512]⟩
abbrev S24x2048x4x128 : Shape := ⟨4, ![24, 2048, 4, 128]⟩
abbrev S4x1 : Shape := ⟨2, ![4, 1]⟩
abbrev S2048 : Shape := ⟨1, ![2048]⟩
abbrev S1x2048 : Shape := ⟨2, ![1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S4x2048x2048 : Shape := ⟨3, ![4, 2048, 2048]⟩
abbrev S4x24x128x2048 : Shape := ⟨4, ![4, 24, 128, 2048]⟩
abbrev S2048x4 : Shape := ⟨2, ![2048, 4]⟩
abbrev S1x2048x4x1 : Shape := ⟨4, ![1, 2048, 4, 1]⟩
abbrev S4x128x24x2048 : Shape := ⟨4, ![4, 128, 24, 2048]⟩
abbrev S1x1x512 : Shape := ⟨3, ![1, 1, 512]⟩

abbrev nBuf : Space → Nat
  | .hbm => 56
  | .vmem => 0
  | .smem => 0
  | _ => 0

abbrev bufTy : (tb : Table) → Fin (tcTables nBuf tb) → BufTy
  | .hbm, ⟨0, _⟩ => ⟨S49152x9728, .bf16⟩
  | .hbm, ⟨1, _⟩ => ⟨S4x128x128, .f32⟩
  | .hbm, ⟨2, _⟩ => ⟨S512, .f32⟩
  | .hbm, ⟨3, _⟩ => ⟨S4, .i32⟩
  | .hbm, ⟨4, _⟩ => ⟨S24x2048x9728, .bf16⟩
  | .hbm, ⟨5, _⟩ => ⟨S24x2048x512, .bf16⟩
  | .hbm, ⟨6, _⟩ => ⟨S24x2048x512, .f32⟩
  | .hbm, ⟨7, _⟩ => ⟨S24x2048x4x128, .f32⟩
  | .hbm, ⟨8, _⟩ => ⟨S4x1, .i32⟩
  | .hbm, ⟨9, _⟩ => ⟨S2048, .i32⟩
  | .hbm, ⟨10, _⟩ => ⟨S1x2048, .i32⟩
  | .hbm, ⟨11, _⟩ => ⟨S4x2048, .i32⟩
  | .hbm, ⟨12, _⟩ => ⟨S4x2048, .i32⟩
  | .hbm, ⟨13, _⟩ => ⟨S4x2048, .i32⟩
  | .hbm, ⟨14, _⟩ => ⟨S_, .i32⟩
  | .hbm, ⟨15, _⟩ => ⟨S4x2048, .i32⟩
  | .hbm, ⟨16, _⟩ => ⟨S4x2048, .i32⟩
  | .hbm, ⟨17, _⟩ => ⟨S1x2048, .i32⟩
  | .hbm, ⟨18, _⟩ => ⟨S4x2048, .i32⟩
  | .hbm, ⟨19, _⟩ => ⟨S4x2048, .i32⟩
  | .hbm, ⟨20, _⟩ => ⟨S4x2048, .i32⟩
  | .hbm, ⟨21, _⟩ => ⟨S_, .i32⟩
  | .hbm, ⟨22, _⟩ => ⟨S4x2048, .i32⟩
  | .hbm, ⟨23, _⟩ => ⟨S4x2048, .i32⟩
  | .hbm, ⟨24, _⟩ => ⟨S4x2048x1, .i32⟩
  | .hbm, ⟨25, _⟩ => ⟨S1x1x2048, .i32⟩
  | .hbm, ⟨26, _⟩ => ⟨S4x2048x2048, .i32⟩
  | .hbm, ⟨27, _⟩ => ⟨S4x2048x2048, .i32⟩
  | .hbm, ⟨28, _⟩ => ⟨S4x2048x2048, .i1⟩
  | .hbm, ⟨29, _⟩ => ⟨S4x2048x1, .i32⟩
  | .hbm, ⟨30, _⟩ => ⟨S1x1x2048, .i32⟩
  | .hbm, ⟨31, _⟩ => ⟨S4x2048x2048, .i32⟩
  | .hbm, ⟨32, _⟩ => ⟨S4x2048x2048, .i32⟩
  | .hbm, ⟨33, _⟩ => ⟨S4x2048x2048, .i1⟩
  | .hbm, ⟨34, _⟩ => ⟨S4x2048x2048, .i1⟩
  | .hbm, ⟨35, _⟩ => ⟨S_, .f32⟩
  | .hbm, ⟨36, _⟩ => ⟨S4x2048x2048, .f32⟩
  | .hbm, ⟨37, _⟩ => ⟨S_, .f32⟩
  | .hbm, ⟨38, _⟩ => ⟨S4x2048x2048, .f32⟩
  | .hbm, ⟨39, _⟩ => ⟨S4x2048x2048, .f32⟩
  | .hbm, ⟨40, _⟩ => ⟨S4x24x128x2048, .f32⟩
  | .hbm, ⟨41, _⟩ => ⟨S24x2048x4x128, .f32⟩
  | .hbm, ⟨42, _⟩ => ⟨S4x2048, .i32⟩
  | .hbm, ⟨43, _⟩ => ⟨S4x2048, .f32⟩
  | .hbm, ⟨44, _⟩ => ⟨S2048x4, .f32⟩
  | .hbm, ⟨45, _⟩ => ⟨S1x2048x4x1, .f32⟩
  | .hbm, ⟨46, _⟩ => ⟨S24x2048x4x128, .f32⟩
  | .hbm, ⟨47, _⟩ => ⟨S24x2048x4x128, .f32⟩
  | .hbm, ⟨48, _⟩ => ⟨S24x2048x4x128, .f32⟩
  | .hbm, ⟨49, _⟩ => ⟨S4x128x24x2048, .f32⟩
  | .hbm, ⟨50, _⟩ => ⟨S24x2048x4x128, .f32⟩
  | .hbm, ⟨51, _⟩ => ⟨S24x2048x512, .f32⟩
  | .hbm, ⟨52, _⟩ => ⟨S1x1x512, .f32⟩
  | .hbm, ⟨53, _⟩ => ⟨S24x2048x512, .f32⟩
  | .hbm, ⟨54, _⟩ => ⟨S24x2048x512, .f32⟩
  | .hbm, ⟨55, _⟩ => ⟨S24x2048x512, .bf16⟩
  | _, _ => ⟨S49152x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Conv.lean ====
abbrev S49152x9728 : Shape := ⟨2, ![49152, 9728]⟩
abbrev S3x1536 : Shape := ⟨2, ![3, 1536]⟩
abbrev S1536 : Shape := ⟨1, ![1536]⟩
abbrev S24x2048x9728 : Shape := ⟨3, ![24, 2048, 9728]⟩
abbrev S1x1536 : Shape := ⟨2, ![1, 1536]⟩
abbrev S24x2048x512 : Shape := ⟨3, ![24, 2048, 512]⟩
abbrev S1x2048x512 : Shape := ⟨3, ![1, 2048, 512]⟩
abbrev S2048x512 : Shape := ⟨2, ![2048, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S49152x9728, .bf16⟩
  | .hbm, ⟨1, _⟩ => ⟨S3x1536, .f32⟩
  | .hbm, ⟨2, _⟩ => ⟨S1536, .f32⟩
  | .hbm, ⟨3, _⟩ => ⟨S24x2048x9728, .bf16⟩
  | .hbm, ⟨4, _⟩ => ⟨S1x1536, .f32⟩
  | .hbm, ⟨5, _⟩ => ⟨S24x2048x512, .bf16⟩
  | .hbm, ⟨6, _⟩ => ⟨S24x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S3x1536, .f32⟩
  | .local _ .vmem, ⟨7, _⟩ => ⟨S1x1536, .f32⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | _, _ => ⟨S49152x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c16_i32 : BitVec 32 := 16#32
  let c0_i32_0 : BitVec 32 := 0#32
  ![arg0.toNat, c0_i32.toNat, c16_i32.toNat]

def cc0_transform_1 (i : grid0.Coords) : Fin 3 → Nat :=
  let arg0 : BitVec 32 := BitVec.ofNat 32 (i 0).val
  let c0_i32 : BitVec 32 := 0#32
  let c17_i32 : BitVec 32 := 17#32
  let c0_i32_0 : BitVec 32 := 0#32
  ![arg0.toNat, c0_i32.toNat, c17_i32.toNat]

def cc0_transform_2 (i : grid0.Coords) : Fin 3 → Nat :=
  let arg0 : BitVec 32 := BitVec.ofNat 32 (i 0).val
  let c0_i32 : BitVec 32 := 0#32
  let c18_i32 : BitVec 32 := 18#32
  let c0_i32_0 : BitVec 32 := 0#32
  ![arg0.toNat, c0_i32.toNat, c18_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S49152x9728 : Shape := ⟨2, ![49152, 9728]⟩
abbrev S3x1536 : Shape := ⟨2, ![3, 1536]⟩
abbrev S1536 : Shape := ⟨1, ![1536]⟩
abbrev S24x2048x9728 : Shape := ⟨3, ![24, 2048, 9728]⟩
abbrev S24x2048x1536 : Shape := ⟨3, ![24, 2048, 1536]⟩
abbrev S_ : Shape := ⟨0, ![]⟩
abbrev S24x2050x1536 : Shape := ⟨3, ![24, 2050, 1536]⟩
abbrev S1x1536 : Shape := ⟨2, ![1, 1536]⟩
abbrev S1x1x1536 : Shape := ⟨3, ![1, 1, 1536]⟩
abbrev S24x2048x512 : Shape := ⟨3, ![24, 2048, 512]⟩

abbrev nBuf : Space → Nat
  | .hbm => 38
  | .vmem => 0
  | .smem => 0
  | _ => 0

abbrev bufTy : (tb : Table) → Fin (tcTables nBuf tb) → BufTy
  | .hbm, ⟨0, _⟩ => ⟨S49152x9728, .bf16⟩
  | .hbm, ⟨1, _⟩ => ⟨S3x1536, .f32⟩
  | .hbm, ⟨2, _⟩ => ⟨S1536, .f32⟩
  | .hbm, ⟨3, _⟩ => ⟨S24x2048x9728, .bf16⟩
  | .hbm, ⟨4, _⟩ => ⟨S24x2048x1536, .bf16⟩
  | .hbm, ⟨5, _⟩ => ⟨S24x2048x1536, .f32⟩
  | .hbm, ⟨6, _⟩ => ⟨S_, .i32⟩
  | .hbm, ⟨7, _⟩ => ⟨S_, .f32⟩
  | .hbm, ⟨8, _⟩ => ⟨S24x2050x1536, .f32⟩
  | .hbm, ⟨9, _⟩ => ⟨S24x2048x1536, .f32⟩
  | .hbm, ⟨10, _⟩ => ⟨S1x1536, .f32⟩
  | .hbm, ⟨11, _⟩ => ⟨S1536, .f32⟩
  | .hbm, ⟨12, _⟩ => ⟨S1x1x1536, .f32⟩
  | .hbm, ⟨13, _⟩ => ⟨S24x2048x1536, .f32⟩
  | .hbm, ⟨14, _⟩ => ⟨S24x2048x1536, .f32⟩
  | .hbm, ⟨15, _⟩ => ⟨S24x2048x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S24x2048x1536, .f32⟩
  | .hbm, ⟨20, _⟩ => ⟨S24x2048x1536, .f32⟩
  | .hbm, ⟨21, _⟩ => ⟨S24x2048x1536, .f32⟩
  | .hbm, ⟨22, _⟩ => ⟨S24x2048x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S24x2048x1536, .f32⟩
  | .hbm, ⟨27, _⟩ => ⟨S24x2048x1536, .f32⟩
  | .hbm, ⟨28, _⟩ => ⟨S24x2048x1536, .f32⟩
  | .hbm, ⟨29, _⟩ => ⟨S1x1x1536, .f32⟩
  | .hbm, ⟨30, _⟩ => ⟨S24x2048x1536, .f32⟩
  | .hbm, ⟨31, _⟩ => ⟨S24x2048x1536, .f32⟩
  | .hbm, ⟨32, _⟩ => ⟨S24x2048x512, .f32⟩
  | .hbm, ⟨33, _⟩ => ⟨S24x2048x512, .f32⟩
  | .hbm, ⟨34, _⟩ => ⟨S24x2048x512, .f32⟩
  | .hbm, ⟨35, _⟩ => ⟨S24x2048x512, .bf16⟩
  | .hbm, ⟨36, _⟩ => ⟨S24x2048x512, .f32⟩
  | .hbm, ⟨37, _⟩ => ⟨S24x2048x512, .bf16⟩
  | _, _ => ⟨S49152x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Forward.lean ====
abbrev S4096x2048 : Shape := ⟨2, ![4096, 2048]⟩
abbrev S24x2048x512 : Shape := ⟨3, ![24, 2048, 512]⟩
abbrev S4096x512 : Shape := ⟨2, ![4096, 512]⟩
abbrev S24x4096x512 : Shape := ⟨3, ![24, 4096, 512]⟩
abbrev S1024x2048 : Shape := ⟨2, ![1024, 2048]⟩
abbrev S1x2048x512 : Shape := ⟨3, ![1, 2048, 512]⟩
abbrev S1024x512 : Shape := ⟨2, ![1024, 512]⟩
abbrev S1x1024x512 : Shape := ⟨3, ![1, 1024, 512]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S24x2048x512, .bf16⟩
  | .hbm, ⟨2, _⟩ => ⟨S4096x512, .f32⟩
  | .hbm, ⟨3, _⟩ => ⟨S4096x2048, .bf16⟩
  | .hbm, ⟨4, _⟩ => ⟨S24x4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1x1024x512, .bf16⟩
  | .local _ .vmem, ⟨7, _⟩ => ⟨S1x1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ForwardRefIdeal.lean ====
abbrev S4096x2048 : Shape := ⟨2, ![4096, 2048]⟩
abbrev S24x2048x512 : Shape := ⟨3, ![24, 2048, 512]⟩
abbrev S4096x512 : Shape := ⟨2, ![4096, 512]⟩
abbrev S4x2x512x2048 : Shape := ⟨4, ![4, 2, 512, 2048]⟩
abbrev S4x2x512x512 : Shape := ⟨4, ![4, 2, 512, 512]⟩
abbrev S4x1x512x2048 : Shape := ⟨4, ![4, 1, 512, 2048]⟩
abbrev S4x512x2048 : Shape := ⟨3, ![4, 512, 2048]⟩
abbrev S4x512x24x512 : Shape := ⟨4, ![4, 512, 24, 512]⟩
abbrev S24x4x512x512 : Shape := ⟨4, ![24, 4, 512, 512]⟩
abbrev S4x1x512x512 : Shape := ⟨4, ![4, 1, 512, 512]⟩
abbrev S4x512x512 : Shape := ⟨3, ![4, 512, 512]⟩
abbrev S1x4x512x512 : Shape := ⟨4, ![1, 4, 512, 512]⟩
abbrev S2048 : Shape := ⟨1, ![2048]⟩
abbrev S1x4x512x1 : Shape := ⟨4, ![1, 4, 512, 1]⟩
abbrev S_ : Shape := ⟨0, ![]⟩
abbrev S24x4x1x512x512 : Shape := ⟨5, ![24, 4, 1, 512, 512]⟩
abbrev S24x4x2x512x512 : Shape := ⟨5, ![24, 4, 2, 512, 512]⟩
abbrev S24x4096x512 : Shape := ⟨3, ![24, 4096, 512]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S24x2048x512, .bf16⟩
  | .hbm, ⟨2, _⟩ => ⟨S4096x512, .f32⟩
  | .hbm, ⟨3, _⟩ => ⟨S4x2x512x2048, .f32⟩
  | .hbm, ⟨4, _⟩ => ⟨S4x2x512x512, .f32⟩
  | .hbm, ⟨5, _⟩ => ⟨S24x2048x512, .f32⟩
  | .hbm, ⟨6, _⟩ => ⟨S4x1x512x2048, .f32⟩
  | .hbm, ⟨7, _⟩ => ⟨S4x512x2048, .f32⟩
  | .hbm, ⟨8, _⟩ => ⟨S4x512x24x512, .f32⟩
  | .hbm, ⟨9, _⟩ => ⟨S24x4x512x512, .f32⟩
  | .hbm, ⟨10, _⟩ => ⟨S4x1x512x2048, .f32⟩
  | .hbm, ⟨11, _⟩ => ⟨S4x512x2048, .f32⟩
  | .hbm, ⟨12, _⟩ => ⟨S4x512x24x512, .f32⟩
  | .hbm, ⟨13, _⟩ => ⟨S24x4x512x512, .f32⟩
  | .hbm, ⟨14, _⟩ => ⟨S4x1x512x512, .f32⟩
  | .hbm, ⟨15, _⟩ => ⟨S4x512x512, .f32⟩
  | .hbm, ⟨16, _⟩ => ⟨S4x1x512x512, .f32⟩
  | .hbm, ⟨17, _⟩ => ⟨S4x512x512, .f32⟩
  | .hbm, ⟨18, _⟩ => ⟨S1x4x512x512, .f32⟩
  | .hbm, ⟨19, _⟩ => ⟨S24x4x512x512, .f32⟩
  | .hbm, ⟨20, _⟩ => ⟨S24x4x512x512, .f32⟩
  | .hbm, ⟨21, _⟩ => ⟨S2048, .i32⟩
  | .hbm, ⟨22, _⟩ => ⟨S1x4x512x1, .i32⟩
  | .hbm, ⟨23, _⟩ => ⟨S_, .i32⟩
  | .hbm, ⟨24, _⟩ => ⟨S1x4x512x1, .i32⟩
  | .hbm, ⟨25, _⟩ => ⟨S1x4x512x1, .i1⟩
  | .hbm, ⟨26, _⟩ => ⟨S24x4x512x512, .i1⟩
  | .hbm, ⟨27, _⟩ => ⟨S1x4x512x512, .f32⟩
  | .hbm, ⟨28, _⟩ => ⟨S24x4x512x512, .f32⟩
  | .hbm, ⟨29, _⟩ => ⟨S24x4x512x512, .f32⟩
  | .hbm, ⟨30, _⟩ => ⟨S_, .f32⟩
  | .hbm, ⟨31, _⟩ => ⟨S24x4x512x512, .f32⟩
  | .hbm, ⟨32, _⟩ => ⟨S24x4x512x512, .f32⟩
  | .hbm, ⟨33, _⟩ => ⟨S24x4x512x512, .f32⟩
  | .hbm, ⟨34, _⟩ => ⟨S1x4x512x512, .f32⟩
  | .hbm, ⟨35, _⟩ => ⟨S24x4x512x512, .f32⟩
  | .hbm, ⟨36, _⟩ => ⟨S24x4x512x512, .f32⟩
  | .hbm, ⟨37, _⟩ => ⟨S1x4x512x512, .f32⟩
  | .hbm, ⟨38, _⟩ => ⟨S24x4x512x512, .f32⟩
  | .hbm, ⟨39, _⟩ => ⟨S24x4x512x512, .f32⟩
  | .hbm, ⟨40, _⟩ => ⟨S24x4x512x512, .f32⟩
  | .hbm, ⟨41, _⟩ => ⟨S24x4x512x512, .f32⟩
  | .hbm, ⟨42, _⟩ => ⟨S24x4x1x512x512, .f32⟩
  | .hbm, ⟨43, _⟩ => ⟨S24x4x1x512x512, .f32⟩
  | .hbm, ⟨44, _⟩ => ⟨S24x4x2x512x512, .f32⟩
  | .hbm, ⟨45, _⟩ => ⟨S24x4096x512, .f32⟩
  | .hbm, ⟨46, _⟩ => ⟨S24x4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]
-- ==== Inverse.lean ====
abbrev S2048x4096 : Shape := ⟨2, ![2048, 4096]⟩
abbrev S24x4096x512 : Shape := ⟨3, ![24, 4096, 512]⟩
abbrev S24x2048x512 : Shape := ⟨3, ![24, 2048, 512]⟩
abbrev S1024x4096 : Shape := ⟨2, ![1024, 4096]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S24x4096x512, .bf16⟩
  | .hbm, ⟨2, _⟩ => ⟨S24x2048x512, .bf16⟩
  | .hbm, ⟨3, _⟩ => ⟨S2048x4096, .bf16⟩
  | .hbm, ⟨4, _⟩ => ⟨S24x2048x512, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InverseRefIdeal.lean ====
abbrev S2048x4096 : Shape := ⟨2, ![2048, 4096]⟩
abbrev S24x4096x512 : Shape := ⟨3, ![24, 4096, 512]⟩
abbrev S24x2048x512 : Shape := ⟨3, ![24, 2048, 512]⟩
abbrev S24x512x2048 : Shape := ⟨3, ![24, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S24x4096x512, .bf16⟩
  | .hbm, ⟨2, _⟩ => ⟨S24x2048x512, .bf16⟩
  | .hbm, ⟨3, _⟩ => ⟨S24x4096x512, .f32⟩
  | .hbm, ⟨4, _⟩ => ⟨S24x512x2048, .f32⟩
  | .hbm, ⟨5, _⟩ => ⟨S24x2048x512, .f32⟩
  | .hbm, ⟨6, _⟩ => ⟨S24x2048x512, .f32⟩
  | .hbm, ⟨7, _⟩ => ⟨S24x2048x512, .f32⟩
  | .hbm, ⟨8, _⟩ => ⟨S24x2048x512, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Spectrum.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S2048x512, .f32⟩
  | .hbm, ⟨3, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SpectrumRefIdeal.lean ====
abbrev S4096x2048 : Shape := ⟨2, ![4096, 2048]⟩
abbrev S2048x512 : Shape := ⟨2, ![2048, 512]⟩
abbrev S4096 : Shape := ⟨1, ![4096]⟩
abbrev S_ : Shape := ⟨0, ![]⟩
abbrev S4096x1 : Shape := ⟨2, ![4096, 1]⟩
abbrev S4096x512 : Shape := ⟨2, ![4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S2048x512, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i1⟩
  | .hbm, ⟨17, _⟩ => ⟨S4096x1, .i1⟩
  | .hbm, ⟨18, _⟩ => ⟨S4096x512, .i1⟩
  | .hbm, ⟨19, _⟩ => ⟨S4096x512, .f32⟩
  | .hbm, ⟨20, _⟩ => ⟨S4096x512, .f32⟩
  | .hbm, ⟨21, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Taps.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512 : Shape := ⟨1, ![512]⟩
abbrev S2048 : Shape := ⟨1, ![2048]⟩
abbrev S_ : Shape := ⟨0, ![]⟩
abbrev S2048x1 : Shape := ⟨2, ![2048, 1]⟩
abbrev S15 : Shape := ⟨1, ![15]⟩
abbrev S1 : Shape := ⟨1, ![1]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x128 : Shape := ⟨2, ![2048, 128]⟩
abbrev S511 : Shape := ⟨1, ![511]⟩
abbrev S1x512 : Shape := ⟨2, ![1, 512]⟩
abbrev S2048x512 : Shape := ⟨2, ![2048, 512]⟩
abbrev S128x128 : Shape := ⟨2, ![128, 128]⟩
abbrev S1x64 : Shape := ⟨2, ![1, 64]⟩
abbrev S1x128 : Shape := ⟨2, ![1, 128]⟩
abbrev S128x1024 : Shape := ⟨2, ![128, 1024]⟩
abbrev S2048x1024 : Shape := ⟨2, ![2048, 1024]⟩

abbrev nBuf : Space → Nat
  | .hbm => 113
  | .vmem => 12
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1024, .f32⟩
  | .hbm, ⟨7, _⟩ => ⟨S512, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S15, .f32⟩
  | .hbm, ⟨28, _⟩ => ⟨S_, .f32⟩
  | .hbm, ⟨29, _⟩ => ⟨S15, .f32⟩
  | .hbm, ⟨30, _⟩ => ⟨S15, .f32⟩
  | .hbm, ⟨31, _⟩ => ⟨S1, .f32⟩
  | .hbm, ⟨32, _⟩ => ⟨S_, .f32⟩
  | .hbm, ⟨33, _⟩ => ⟨S15, .f32⟩
  | .hbm, ⟨34, _⟩ => ⟨S15, .f32⟩
  | .hbm, ⟨35, _⟩ => ⟨S15, .f32⟩
  | .hbm, ⟨36, _⟩ => ⟨S15, .f32⟩
  | .hbm, ⟨37, _⟩ => ⟨S1, .f32⟩
  | .hbm, ⟨38, _⟩ => ⟨S15, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S16, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x1, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x33, .f32⟩
  | .hbm, ⟨52, _⟩ => ⟨S_, .i32⟩
  | .hbm, ⟨53, _⟩ => ⟨S_, .f32⟩
  | .hbm, ⟨54, _⟩ => ⟨S2048x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S511, .f32⟩
  | .hbm, ⟨63, _⟩ => ⟨S_, .f32⟩
  | .hbm, ⟨64, _⟩ => ⟨S511, .f32⟩
  | .hbm, ⟨65, _⟩ => ⟨S511, .f32⟩
  | .hbm, ⟨66, _⟩ => ⟨S1, .f32⟩
  | .hbm, ⟨67, _⟩ => ⟨S_, .f32⟩
  | .hbm, ⟨68, _⟩ => ⟨S511, .f32⟩
  | .hbm, ⟨69, _⟩ => ⟨S511, .f32⟩
  | .hbm, ⟨70, _⟩ => ⟨S511, .f32⟩
  | .hbm, ⟨71, _⟩ => ⟨S511, .f32⟩
  | .hbm, ⟨72, _⟩ => ⟨S1, .f32⟩
  | .hbm, ⟨73, _⟩ => ⟨S511, .f32⟩
  | .hbm, ⟨74, _⟩ => ⟨S511, .f32⟩
  | .hbm, ⟨75, _⟩ => ⟨S511, .f32⟩
  | .hbm, ⟨76, _⟩ => ⟨S1, .f32⟩
  | .hbm, ⟨77, _⟩ => ⟨S512, .f32⟩
  | .hbm, ⟨78, _⟩ => ⟨S512, .f32⟩
  | .hbm, ⟨79, _⟩ => ⟨S2048x1, .f32⟩
  | .hbm, ⟨80, _⟩ => ⟨S2048x1, .f32⟩
  | .hbm, ⟨81, _⟩ => ⟨S1x512, .f32⟩
  | .hbm, ⟨82, _⟩ => ⟨S2048x512, .f32⟩
  | .hbm, ⟨83, _⟩ => ⟨S2048x512, .f32⟩
  | .hbm, ⟨84, _⟩ => ⟨S2048x512, .f32⟩
  | .hbm, ⟨85, _⟩ => ⟨S2048x512, .f32⟩
  | .hbm, ⟨86, _⟩ => ⟨S_, .i32⟩
  | .hbm, ⟨87, _⟩ => ⟨S_, .f32⟩
  | .hbm, ⟨88, _⟩ => ⟨S128x128, .f32⟩
  | .hbm, ⟨89, _⟩ => ⟨S1x64, .f32⟩
  | .hbm, ⟨90, _⟩ => ⟨S_, .i32⟩
  | .hbm, ⟨91, _⟩ => ⟨S_, .f32⟩
  | .hbm, ⟨92, _⟩ => ⟨S1x128, .f32⟩
  | .hbm, ⟨93, _⟩ => ⟨S_, .i32⟩
  | .hbm, ⟨94, _⟩ => ⟨S_, .f32⟩
  | .hbm, ⟨95, _⟩ => ⟨S128x128, .f32⟩
  | .hbm, ⟨96, _⟩ => ⟨S1x64, .f32⟩
  | .hbm, ⟨97, _⟩ => ⟨S_, .i32⟩
  | .hbm, ⟨98, _⟩ => ⟨S_, .f32⟩
  | .hbm, ⟨99, _⟩ => ⟨S1x128, .f32⟩
  | .hbm, ⟨100, _⟩ => ⟨S_, .i32⟩
  | .hbm, ⟨101, _⟩ => ⟨S_, .f32⟩
  | .hbm, ⟨102, _⟩ => ⟨S128x128, .f32⟩
  | .hbm, ⟨103, _⟩ => ⟨S1x64, .f32⟩
  | .hbm, ⟨104, _⟩ => ⟨S_, .i32⟩
  | .hbm, ⟨105, _⟩ => ⟨S_, .f32⟩
  | .hbm, ⟨106, _⟩ => ⟨S1x128, .f32⟩
  | .hbm, ⟨107, _⟩ => ⟨S_, .i32⟩
  | .hbm, ⟨108, _⟩ => ⟨S_, .f32⟩
  | .hbm, ⟨109, _⟩ => ⟨S128x1024, .f32⟩
  | .hbm, ⟨110, _⟩ => ⟨S1x512, .f32⟩
  | .hbm, ⟨111, _⟩ => ⟨S2048x512, .f32⟩
  | .hbm, ⟨112, _⟩ => ⟨S2048x512, .f32⟩
  | .local _ .vmem, ⟨0, _⟩ => ⟨S2048x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x1024, .f32⟩
  | .local _ .vmem, ⟨8, _⟩ => ⟨S2048x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_3 : Ref sig .tc := ⟨.hbm, 52, rfl⟩
abbrev main_call1_v0 : Ref sig .tc := ⟨.hbm, 53, rfl⟩
abbrev main_v19 : Ref sig .tc := ⟨.hbm, 54, rfl⟩
abbrev main_cst_4 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_cst : Ref sig .tc := ⟨.hbm, 60, rfl⟩
abbrev main_call2_v3 : Ref sig .tc := ⟨.hbm, 61, rfl⟩
abbrev main_call2_v4 : Ref sig .tc := ⟨.hbm, 62, rfl⟩
abbrev main_call2_cst_0 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_v15 : Ref sig .tc := ⟨.hbm, 75, rfl⟩
abbrev main_call2_v16 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_6 : Ref sig .tc := ⟨.hbm, 86, rfl⟩
abbrev main_call3_v0 : Ref sig .tc := ⟨.hbm, 87, rfl⟩
abbrev main_v29 : Ref sig .tc := ⟨.hbm, 88, rfl⟩
abbrev main_v30 : Ref sig .tc := ⟨.hbm, 89, rfl⟩
abbrev main_c_7 : Ref sig .tc := ⟨.hbm, 90, rfl⟩
abbrev main_call4_v0 : Ref sig .tc := ⟨.hbm, 91, rfl⟩
abbrev main_v31 : Ref sig .tc := ⟨.hbm, 92, rfl⟩
abbrev main_c_8 : Ref sig .tc := ⟨.hbm, 93, rfl⟩
abbrev main_call5_v0 : Ref sig .tc := ⟨.hbm, 94, rfl⟩
abbrev main_v32 : Ref sig .tc := ⟨.hbm, 95, rfl⟩
abbrev main_v33 : Ref sig .tc := ⟨.hbm, 96, rfl⟩
abbrev main_c_9 : Ref sig .tc := ⟨.hbm, 97, rfl⟩
abbrev main_call6_v0 : Ref sig .tc := ⟨.hbm, 98, rfl⟩
abbrev main_v34 : Ref sig .tc := ⟨.hbm, 99, rfl⟩
abbrev main_c_10 : Ref sig .tc := ⟨.hbm, 100, rfl⟩
abbrev main_call7_v0 : Ref sig .tc := ⟨.hbm, 101, rfl⟩
abbrev main_v35 : Ref sig .tc := ⟨.hbm, 102, rfl⟩
abbrev main_v36 : Ref sig .tc := ⟨.hbm, 103, rfl⟩
abbrev main_c_11 : Ref sig .tc := ⟨.hbm, 104, rfl⟩
abbrev main_call8_v0 : Ref sig .tc := ⟨.hbm, 105, rfl⟩
abbrev main_v37 : Ref sig .tc := ⟨.hbm, 106, rfl⟩
abbrev main_c_12 : Ref sig .tc := ⟨.hbm, 107, rfl⟩
abbrev main_call9_v0 : Ref sig .tc := ⟨.hbm, 108, rfl⟩
abbrev main_v38 : Ref sig .tc := ⟨.hbm, 109, rfl⟩
abbrev main_v39 : Ref sig .tc := ⟨.hbm, 110, rfl⟩
abbrev main_v40_0 : Ref sig .tc := ⟨.hbm, 111, rfl⟩
abbrev main_v40_1 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== TapsRefIdeal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512 : Shape := ⟨1, ![512]⟩
abbrev S2048 : Shape := ⟨1, ![2048]⟩
abbrev S_ : Shape := ⟨0, ![]⟩
abbrev S2048x1 : Shape := ⟨2, ![2048, 1]⟩
abbrev S15 : Shape := ⟨1, ![15]⟩
abbrev S1 : Shape := ⟨1, ![1]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x1024 : Shape := ⟨2, ![2048, 1024]⟩
abbrev S2048x2x512 : Shape := ⟨3, ![2048, 2, 512]⟩
abbrev S511 : Shape := ⟨1, ![511]⟩
abbrev S2048x1x1 : Shape := ⟨3, ![2048, 1, 1]⟩
abbrev S1x1x512 : Shape := ⟨3, ![1, 1, 512]⟩
abbrev S2048x1x512 : Shape := ⟨3, ![2048, 1, 512]⟩
abbrev S2048x512 : Shape := ⟨2, ![2048, 512]⟩
abbrev S2047x1x512 : Shape := ⟨3, ![2047, 1, 512]⟩
abbrev S2047x512 : Shape := ⟨2, ![2047, 512]⟩
abbrev S1x512 : Shape := ⟨2, ![1, 512]⟩

abbrev nBuf : Space → Nat
  | .hbm => 129
  | .vmem => 0
  | .smem => 0
  | _ => 0

abbrev hbmTy0_0 (i : Nat) : BufTy := match i % 128 with
  | 0 => ⟨S33x64, .f32⟩
  | 1 => ⟨S64, .f32⟩
  | 2 => ⟨S64x64, .f32⟩
  | 3 => ⟨S64, .f32⟩
  | 4 => ⟨S64x64, .f32⟩
  | 5 => ⟨S64, .f32⟩
  | 6 => ⟨S64x1024, .f32⟩
  | 7 => ⟨S512, .f32⟩
  | 8 => ⟨S2048, .f32⟩
  | 9 => ⟨S_, .f32⟩
  | 10 => ⟨S2048, .f32⟩
  | 11 => ⟨S2048, .f32⟩
  | 12 => ⟨S2048, .f32⟩
  | 13 => ⟨S_, .f32⟩
  | 14 => ⟨S2048, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S_, .f32⟩
  | 21 => ⟨S_, .i32⟩
  | 22 => ⟨S_, .f32⟩
  | 23 => ⟨S_, .f32⟩
  | 24 => ⟨S_, .f32⟩
  | 25 => ⟨S_, .f32⟩
  | 26 => ⟨S_, .f32⟩
  | 27 => ⟨S15, .f32⟩
  | 28 => ⟨S_, .f32⟩
  | 29 => ⟨S15, .f32⟩
  | 30 => ⟨S15, .f32⟩
  | 31 => ⟨S1, .f32⟩
  | 32 => ⟨S_, .f32⟩
  | 33 => ⟨S15, .f32⟩
  | 34 => ⟨S15, .f32⟩
  | 35 => ⟨S15, .f32⟩
  | 36 => ⟨S15, .f32⟩
  | 37 => ⟨S1, .f32⟩
  | 38 => ⟨S15, .f32⟩
  | 39 => ⟨S15, .f32⟩
  | 40 => ⟨S15, .f32⟩
  | 41 => ⟨S1, .f32⟩
  | 42 => ⟨S16, .f32⟩
  | 43 => ⟨S1x16, .f32⟩
  | 44 => ⟨S2048x16, .f32⟩
  | 45 => ⟨S2048x16, .f32⟩
  | 46 => ⟨S2048x16, .f32⟩
  | 47 => ⟨S2048x1, .f32⟩
  | 48 => ⟨S2048x16, .f32⟩
  | 49 => ⟨S2048x16, .f32⟩
  | 50 => ⟨S2048x16, .f32⟩
  | 51 => ⟨S2048x33, .f32⟩
  | 52 => ⟨S2048x64, .f32⟩
  | 53 => ⟨S1x64, .f32⟩
  | 54 => ⟨S2048x64, .f32⟩
  | 55 => ⟨S2048x64, .f32⟩
  | 56 => ⟨S2048x64, .f32⟩
  | 57 => ⟨S2048x64, .f32⟩
  | 58 => ⟨S1x64, .f32⟩
  | 59 => ⟨S2048x64, .f32⟩
  | 60 => ⟨S2048x64, .f32⟩
  | 61 => ⟨S2048x64, .f32⟩
  | 62 => ⟨S2048x64, .f32⟩
  | 63 => ⟨S1x64, .f32⟩
  | 64 => ⟨S2048x64, .f32⟩
  | 65 => ⟨S2048x64, .f32⟩
  | 66 => ⟨S2048x64, .f32⟩
  | 67 => ⟨S2048x1024, .f32⟩
  | 68 => ⟨S2048x2x512, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S511, .f32⟩
  | 77 => ⟨S_, .f32⟩
  | 78 => ⟨S511, .f32⟩
  | 79 => ⟨S511, .f32⟩
  | 80 => ⟨S1, .f32⟩
  | 81 => ⟨S_, .f32⟩
  | 82 => ⟨S511, .f32⟩
  | 83 => ⟨S511, .f32⟩
  | 84 => ⟨S511, .f32⟩
  | 85 => ⟨S511, .f32⟩
  | 86 => ⟨S1, .f32⟩
  | 87 => ⟨S511, .f32⟩
  | 88 => ⟨S511, .f32⟩
  | 89 => ⟨S511, .f32⟩
  | 90 => ⟨S1, .f32⟩
  | 91 => ⟨S512, .f32⟩
  | 92 => ⟨S512, .f32⟩
  | 93 => ⟨S2048x1x1, .f32⟩
  | 94 => ⟨S2048x1x1, .f32⟩
  | 95 => ⟨S1x1x512, .f32⟩
  | 96 => ⟨S2048x1x512, .f32⟩
  | 97 => ⟨S2048x1x512, .f32⟩
  | 98 => ⟨S2048x1x512, .f32⟩
  | 99 => ⟨S2048x1x512, .f32⟩
  | 100 => ⟨S2048x2x512, .f32⟩
  | 101 => ⟨S2048x2x512, .f32⟩
  | 102 => ⟨S2048x1x512, .f32⟩
  | 103 => ⟨S2048x512, .f32⟩
  | 104 => ⟨S2047x1x512, .f32⟩
  | 105 => ⟨S2047x512, .f32⟩
  | 106 => ⟨S_, .i32⟩
  | 107 => ⟨S_, .f32⟩
  | 108 => ⟨S2048x512, .f32⟩
  | 109 => ⟨S2048x512, .f32⟩
  | 110 => ⟨S_, .f32⟩
  | 111 => ⟨S512, .f32⟩
  | 112 => ⟨S2048x512, .f32⟩
  | 113 => ⟨S_, .f32⟩
  | 114 => ⟨S512, .f32⟩
  | 115 => ⟨S512, .f32⟩
  | 116 => ⟨S1x512, .f32⟩
  | 117 => ⟨S2048x512, .f32⟩
  | 118 => ⟨S2048x512, .f32⟩
  | 119 => ⟨S1x512, .f32⟩
  | 120 => ⟨S_, .i32⟩
  | 121 => ⟨S_, .f32⟩
  | 122 => ⟨S2048x512, .f32⟩
  | 123 => ⟨S2048x512, .f32⟩
  | 124 => ⟨S1x512, .f32⟩
  | 125 => ⟨S2048x512, .f32⟩
  | 126 => ⟨S2048x512, .f32⟩
  | 127 => ⟨S2048x512, .f32⟩
  | _ => ⟨S33x64, .f32⟩

abbrev hbmTy0_1 (i : Nat) : BufTy := match i % 128 with
  | 0 => ⟨S2048x512, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_3 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_cst : Ref sig .tc := ⟨.hbm, 74, rfl⟩
abbrev main_call1_v3 : Ref sig .tc := ⟨.hbm, 75, rfl⟩
abbrev main_call1_v4 : Ref sig .tc := ⟨.hbm, 76, rfl⟩
abbrev main_call1_cst_0 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_v15 : Ref sig .tc := ⟨.hbm, 89, rfl⟩
abbrev main_call1_v16 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_c_5 : Ref sig .tc := ⟨.hbm, 106, rfl⟩
abbrev main_call2_v0 : Ref sig .tc := ⟨.hbm, 107, rfl⟩
abbrev main_v51 : Ref sig .tc := ⟨.hbm, 108, rfl⟩
abbrev main_v52 : Ref sig .tc := ⟨.hbm, 109, rfl⟩
abbrev main_cst_6 : Ref sig .tc := ⟨.hbm, 110, rfl⟩
abbrev main_v53 : Ref sig .tc := ⟨.hbm, 111, rfl⟩
abbrev main_v54 : Ref sig .tc := ⟨.hbm, 112, rfl⟩
abbrev main_cst_7 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_8 : Ref sig .tc := ⟨.hbm, 120, rfl⟩
abbrev main_call3_v0 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩

abbrev nD : Nat := 1
abbrev τ : Topo := Topo.v7x

variable {F : FTy → Type} [FloatOps F]
-- ==== Proof.InprojValue.lean ====
/-
  The input projection's value over the extended reals. One grid point multiplies a block of 4096 tokens by a block of 512
  columns of the weight and adds the bias; the columns are laid out with the last 3072 first. The whole array is therefore
  `spec`: token row times weight column `col n`, plus the bias of that column.
-/
module

public import proofs.«01_k».proof.Defs
public import proofs.«01_k».proof.Proof.Gen.InprojIdeal.Value
public import proofs.«01_k».proof.Proof.Gen.InprojRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Inproj

open Cert.InprojIdeal Cert.InprojIdeal.Gen Idealize.ShloMosaic Idealize.ShloMosaic.TcCoe Idealize.SL.Sem
open Idealize.ShloMosaic.Pipeline (Dat)

/-- The column of the weight that result column `n` is computed from: the last 3072 columns come first. -/
def col (n : Fin 9728) : Fin 9728 :=
  if h : n.val < 3072 then ⟨n.val + 6656, by omega⟩ else ⟨n.val - 3072, by omega⟩

/-- A value read off one of the two runs of columns, by which run the column lies in, is the value at `col`. -/
theorem ite_col {α : Type} (f : Fin 9728 → α) (n : Fin 9728) :
    (if h : n.val < 3072 then f ⟨6656 + n.val, by omega⟩ else f ⟨n.val - 3072, by omega⟩) = f (col n) := by
  unfold col
  split
  · exact congrArg f (Fin.ext (Nat.add_comm _ _))
  · rfl

/-- A token's row times one column of the weight, plus that column's bias. -/
def entry (x : Vec Ideal S49152x1024 .f32) (w : Vec Ideal S1024x9728 .f32) (b : Vec Ideal S9728 .f32)
    (r : Fin 49152) (q : Fin 9728) : EReal :=
  (∑ k : Fin 1024, x (ix2 r k) * w (ix2 k q)) + b (ix1 q)

/-- The projection: the result's column `n` is the projection's column `col n`. -/
def spec (x : Vec Ideal S49152x1024 .f32) (w : Vec Ideal S1024x9728 .f32) (b : Vec Ideal S9728 .f32) :
    Vec Ideal S49152x9728 .bf16 := fun j =>
  entry x w b (j 0) (col (j 1))

variable (m : (ℓ : Loc nD τ sig) → Buf (Elt Ideal) ℓ) (ρ : Dev nD → PrngReg)

/-- Where the four windows stand at point `t`: token block `t / 19`, column block `t % 19`. -/
theorem idx : ∀ t : Fin cfg0.N,
    win0_0.index t = ![t.val / 19, 0] ∧ win0_1.index t = ![0, t.val % 19]
      ∧ win0_2.index t = ![0, t.val % 19] ∧ win0_3.index t = ![t.val / 19, t.val % 19] := by
  decide +kernel

/-- The kernel's result array after the run. -/
theorem final (c : Dev nD) :
    (dats m 0 c).arrAt 3 cfg0.N
      = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  frame_out
  unfold k0_pay1 spec entry
  pointwise
  refine congrArg₂ (· + ·) (Finset.sum_congr rfl fun k _ => congrArg₂ (· * ·) ?_ ?_) ?_
  · blk_simp [iblk, e0]
    entry_read
    pointwise
    blk_ext [iblk, V, e0, e3]
  · blk_simp [iblk, e1]
    entry_read
    pointwise
    refine (ite_col (fun q => m (c.tc.loc main_arg1) (ix2 _ q)) _).trans ?_
    rw [show (((View.whole main_v3).slice (win0_1.rect t)).emb (ix2 k (y 1)) 0) = k from by
        apply Fin.ext; blk_simp [e1],
      show (((View.whole main_v3).slice (win0_1.rect t)).emb (ix2 k (y 1)) 1)
          = ((View.whole main_v9).slice (win0_3.rect t)).emb y 1 from by apply Fin.ext; blk_simp [e1, e3]]
  · blk_simp [iblk, e2]
    entry_read
    pointwise
    refine (ite_col (fun q => m (c.tc.loc main_arg2) (ix1 q)) _).trans ?_
    rw [show (((View.whole main_v7).slice (win0_2.rect t)).emb (ix2 0 (y 1)) 1)
          = ((View.whole main_v9).slice (win0_3.rect t)).emb y 1 from by apply Fin.ext; blk_simp [e2, e3]]

/-- The kernel's run: the result array is `spec` of the arguments, which end unchanged. -/
theorem run : θ_run (defs (F := Ideal)) (onTc (τ := τ) (main (F := Ideal))) ⟨m, fun _ => 0, ρ⟩ fun r => ∀ c : Dev nD,
      r.2.mem ((c.tc : Thread nD τ).loc main_v9)
        = spec (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- The claim: both programs end with `spec` of the arguments. -/
theorem algebraic : Cert.algebraic_InprojIdeal_InprojRefIdeal := by
  pair_intro
  · exact run m g
  · run_from Cert.InprojRefIdeal.Value.run (F := Ideal) m' g'
    rw [(hagree c).2.2]
    funext j
    unfold spec
    pointwise
    exact ite_col (fun q => entry (m (c.tc.loc main_arg0)) (m (c.tc.loc main_arg1)) (m (c.tc.loc main_arg2)) (j 0) q) (j 1)

end Cert.Proof.Inproj

end
-- ==== Proof.ExpertsRun.lean ====
/-
  The routed experts' kernel, run for ANY table of expert indices whose blocks lie inside the expert weights and any table
  of block marks. A grid point handles one block of 512 dispatched rows: where the block's mark is not zero the body stores
  the expert's gated product of the rows, and where it is zero it stores zeros; one of the two happens at every point. The
  run is over any float values; the two frames and the value claim come from it.
-/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.ValueKit
public import Idealize.ShloMosaic.Lib.Pipeline.Frame
public import Idealize.ShloMosaic.Lib.Pipeline.FrameBody
public import Idealize.ShloMosaic.Lib.Exec
public import Idealize.ShloMosaic.Lib.VecWindow
public import Idealize.ShloMosaic.Lib.Claim

@[expose] public section

set_option maxRecDepth 16384

noncomputable section

namespace Cert.Proof.Experts

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- The two tables as the body is handed them: the blocks' experts and the blocks' marks. -/
abbrev eidM : Memref sig .tc .smem S224 .i32 := Memref.whole main_arg1
abbrev markM : Memref sig .tc .smem S224 .i32 := Memref.whole main_arg2

/-- A table's buffer on core `c`, and half of it held at contents `f`: the body only reads it. -/
abbrev TabBuf (c : Dev nD) (M : Memref sig .tc .smem S224 .i32) : Type := Buf (Elt F) (M.view.loc (c : Thread nD τ))
abbrev tabHeld (c : Dev nD) (M : Memref sig .tc .smem S224 .i32) (f : TabBuf (F := F) c M) : sProp 𝕄 :=
  M.view.loc (c : Thread nD τ) ↦{fullShare.right} f

/-- The two conditions the body branches on, of the block's mark: not zero, and zero. -/
theorem cond1_iff (v : BitVec 32) : k0_cond1 v = 1#1 ↔ v ≠ 0#32 := by
  unfold k0_cond1
  by_cases h : v = 0#32
  · subst h; decide
  · have e : Scalar.cmpi .ne v 0#32 = 1#1 := by
      show BitVec.ofBool (v != 0#32) = 1#1
      rw [bne_iff_ne.2 h]; rfl
    simp only [e]; exact ⟨fun _ => h, fun _ => by decide⟩
theorem cond2_iff (v : BitVec 32) : k0_cond2 v = 1#1 ↔ v = 0#32 := by
  unfold k0_cond2
  by_cases h : v = 0#32
  · subst h; decide
  · have e : Scalar.cmpi .eq v 0#32 = 0#1 := by
      show BitVec.ofBool (v == 0#32) = 0#1
      rw [beq_false_of_ne h]; rfl
    simp only [e]; exact ⟨fun h' => absurd h' (by decide), fun h' => absurd h' h⟩

/-- The block's mark: the table's word at the grid point. -/
def mark (bv : S224.Idx → BitVec 32) (i : grid0.Coords) : BitVec 32 :=
  bv ((Rect.unit (s := S224) (k0_off1 i) S1.size (k0_off1_inb i)).emb (Shape.Idx.first (numel1_S1.symm ▸ Nat.one_pos)))

/-- What the body leaves in the result block: the expert's product where the block is marked, zeros where it is not. -/
def blockOut (v : BitVec 32) (x0 : Vec F S512x1024 .bf16) (x1 x2 : Vec F S1x1x1024x512 .f32) (x3 : Vec F S1x1x512x1024 .f32) :
    Vec F S512x1024 .bf16 :=
  if v = 0#32 then k0_pay2 else k0_pay1 x0 x1 x2 x3

set_option maxHeartbeats 1000000 in
/-- The body on whole staging memrefs: it leaves the inputs and the tables as they were and the result block at
    `blockOut` of the block's mark and the inputs. -/
theorem body_run (c : Dev nD) (E : Set ℕ) (i : grid0.Coords)
    (arg3 : Memref sig .tc .vmem S512x1024 .bf16) (harg3 : arg3.IsWhole)
    (arg4 : Memref sig .tc .vmem S1x1x1024x512 .f32) (harg4 : arg4.IsWhole)
    (arg5 : Memref sig .tc .vmem S1x1x1024x512 .f32) (harg5 : arg5.IsWhole)
    (arg6 : Memref sig .tc .vmem S1x1x512x1024 .f32) (harg6 : arg6.IsWhole)
    (arg7 : Memref sig .tc .vmem S512x1024 .bf16) (harg7 : arg7.IsWhole)
    (x0 : Vec F S512x1024 .bf16) (x1 x2 : Vec F S1x1x1024x512 .f32) (x3 : Vec F S1x1x512x1024 .f32)
    (be : TabBuf (F := F) c eidM) (bv : TabBuf (F := F) c markM) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ tabHeld c eidM be ∗ tabHeld c markM bv
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (blockOut (mark bv i) x0 x1 x2 x3)
            ∗ tabHeld c eidM be ∗ tabHeld c markM bv) -∗ K ⟨⟩))
      ⊢ wp frame (wpE (defs₀ (F := F)) Variants.none c none) E
          (cc0_moe_experts i eidM (Memref.isWhole_whole _) markM (Memref.isWhole_whole _) arg3 harg3 arg4 harg4 arg5 harg5 arg6 harg6 arg7 harg7) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    have e1 : body_run.sl.r c i bv = mark bv i := rfl
    have e2 : body_run.sl.r_1 c i bv = mark bv i := rfl
    rw [e1, e2]
    have a0 := View.readAt_full arg3.view f0 (off := ![0, 0]) inb_S512x1024_S512x1024_0_0
    have a1 := View.readAt_full arg4.view f1 (off := ![0, 0, 0, 0]) inb_S1x1x1024x512_S1x1x1024x512_0_0_0_0
    have a2 := View.readAt_full arg5.view f2 (off := ![0, 0, 0, 0]) inb_S1x1x1024x512_S1x1x1024x512_0_0_0_0
    have a3 := View.readAt_full arg6.view f3 (off := ![0, 0, 0, 0]) inb_S1x1x512x1024_S1x1x512x1024_0_0_0_0
    rw [a0, a1, a2, a3]
    unfold blockOut
    by_cases h : mark bv i = 0#32
    · rw [dif_pos ((cond2_iff _).2 h), if_pos h]
      exact View.read_writes_full arg7.view _ (off := ![0, 0]) inb_S512x1024_S512x1024_0_0 _ _
    · rw [dif_neg (fun h' => h ((cond2_iff _).1 h')), dif_pos ((cond1_iff _).2 h), if_neg h]
      exact View.read_writes_full arg7.view _ (off := ![0, 0]) inb_S512x1024_S512x1024_0_0 _ _
  isplitl [HT0]; · iexact HT0
  iexact HT1

/-! ## Where the call starts -/

variable (m : (ℓ : Loc nD τ sig) → Buf (Elt F) ℓ) (ρ : Dev nD → PrngReg)

/-- Core `c`'s buffers when the call starts: as launched. -/
abbrev atStart (c : Dev nD) (b : Ref sig .tc) : Buf (Elt F) ((c : Thread nD τ).loc b) := m ((c : Thread nD τ).loc b)

theorem starts (𝒱₀ : Variants) :
    Pipeline.HMainP (Ix := Unit) (Name := ℕ) (U := UR sig nD τ) (Lvl := ℕ) pcfgs 0 defs₀ 𝒱₀ m (main (F := F)) (atStart m) :=
  Pipeline.hmainP_region pcfgs 0 defs₀ 𝒱₀ m main fun c => (main_chain c).trans rfl

/-- The two tables' contents, read off the launch memory (there is one device). -/
def tables : pre0.Contents (Elt F) := fun j => atStart m (0 : Dev nD) (pre0.ref j)

theorem atStart_tables (c : Dev nD) (j : Fin 2) : atStart m c (pre0.ref j) = tables m j := by
  obtain rfl : c = 0 := Subsingleton.elim _ _; rfl

/-- The tables' side condition: every block they name lies inside the expert weights. -/
abbrev Inside : Prop := ok0 (F := F) (tables m)

/-- The pipeline at the tables of the launch memory. -/
abbrev tabs (hO : Inside m) : (pcfg0 (F := F)).Adm := ⟨tables m, hO⟩
abbrev pipe (hO : Inside m) : Cfg sig Λ₀ := cfg0 (tabs m hO)

/-- The tables' halves handed to the body, table by table. -/
theorem tables_held (c : Dev nD) :
    (Pipeline.ΦT pre0 (tables m) c : sProp 𝕄) = iprop(tabHeld c eidM (tables m 0) ∗ tabHeld c markM (tables m 1)) := by
  unfold Pipeline.ΦT Pipeline.prefHeld
  rw [show (Finset.univ : Finset (Fin 2)) = insert (0 : Fin 2) {(1 : Fin 2)} from by decide,
    bigSep_insert (by decide), bigSep_singleton]
  rfl

/-- The result window is stored at every point: a mark is zero or it is not. -/
theorem stored (pf : pre0.Contents (Elt F)) (i : grid0.Coords) : idle0 pf 4 i = false := by
  show (!(k0_cond1 (pf.atD 1 (k0_off1 i)) == 1#1) && !(k0_cond2 (pf.atD 1 (k0_off1 i)) == 1#1)) = false
  generalize pf.atD 1 (k0_off1 i) = v
  by_cases h : v = 0#32
  · rw [(cond2_iff v).2 h]; simp
  · rw [(cond1_iff v).2 h]; simp

/-! ## The blocks and the proof data -/

/-- Window `w`'s block at point `t`, read off its array as launched. -/
def blkAt (hO : Inside m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (atStart m c (Pipeline.arrRef spec0 w))

/-- Each window's staging memref at point `t`. -/
abbrev mem0 (hO : Inside m) (t : Fin (pipe m hO).N) : Memref sig .tc .vmem S512x1024 .bf16 := spec0_0.stage ((pipe m hO).slots t 0)
abbrev mem1 (hO : Inside m) (t : Fin (pipe m hO).N) : Memref sig .tc .vmem S1x1x1024x512 .f32 := spec0_1.stage ((pipe m hO).slots t 1)
abbrev mem2 (hO : Inside m) (t : Fin (pipe m hO).N) : Memref sig .tc .vmem S1x1x1024x512 .f32 := spec0_2.stage ((pipe m hO).slots t 2)
abbrev mem3 (hO : Inside m) (t : Fin (pipe m hO).N) : Memref sig .tc .vmem S1x1x512x1024 .f32 := spec0_3.stage ((pipe m hO).slots t 3)
abbrev mem4 (hO : Inside m) (t : Fin (pipe m hO).N) : Memref sig .tc .vmem S512x1024 .bf16 := spec0_4.stage ((pipe m hO).slots t 4)

/-- What point `t` leaves in the result block. -/
def outAt (hO : Inside m) (c : Dev nD) (t : Fin (pipe m hO).N) : Vec F S512x1024 .bf16 :=
  blockOut (mark (tables m 1) (grid0.coords t)) (blkAt m hO c 0 t) (blkAt m hO c 1 t) (blkAt m hO c 2 t) (blkAt m hO c 3 t)

/-- The proof data: the arrays as launched; after the body each input's buffer at its block and the result's at `outAt`. -/
def datas (hO : Inside m) (_ : Fin 1) (c : Dev nD) : Dat τ (Elt F) Unit ℕ (UR sig nD τ) ℕ (pipe m hO) c where
  A w := atStart m c (Pipeline.arrRef spec0 w)
  after w t := match w with
    | ⟨0, _⟩ => blkAt m hO c 0 t
    | ⟨1, _⟩ => blkAt m hO c 1 t
    | ⟨2, _⟩ => blkAt m hO c 2 t
    | ⟨3, _⟩ => blkAt m hO c 3 t
    | ⟨4, _⟩ => outAt m hO c t
  Φ _ := iprop(Pipeline.ΦA spec0 c ∗ Pipeline.ΦT pre0 (tables m) c)
  q _ := fullShare
  owed _ := 0

theorem datas_A (hO : Inside m) (c : Dev nD) (w : Fin (pipe m hO).W) :
    (datas m hO 0 c).A w = atStart m c (Pipeline.arrRef spec0 w) := by
  dsimp only [datas]

theorem after0 (hO : Inside m) (c : Dev nD) (t : Fin (pipe m hO).N) : (datas m hO 0 c).after 0 t = blkAt m hO c 0 t := by dsimp only [datas]; try rfl
theorem after1 (hO : Inside m) (c : Dev nD) (t : Fin (pipe m hO).N) : (datas m hO 0 c).after 1 t = blkAt m hO c 1 t := by dsimp only [datas]; try rfl
theorem after2 (hO : Inside m) (c : Dev nD) (t : Fin (pipe m hO).N) : (datas m hO 0 c).after 2 t = blkAt m hO c 2 t := by dsimp only [datas]; try rfl
theorem after3 (hO : Inside m) (c : Dev nD) (t : Fin (pipe m hO).N) : (datas m hO 0 c).after 3 t = blkAt m hO c 3 t := by dsimp only [datas]; try rfl
theorem after4 (hO : Inside m) (c : Dev nD) (t : Fin (pipe m hO).N) : (datas m hO 0 c).after 4 t = outAt m hO c t := by dsimp only [datas]; try rfl

/-- An input's buffer holds its block at every point, fetched there or not. -/
theorem before0 (hO : Inside m) (c : Dev nD) (t : Fin (pipe m hO).N) (d) : (datas m hO 0 c).before 0 t d = blkAt m hO c 0 t :=
  ((datas m hO 0 c).before_in_eq_fetched 0 rfl (fun _ => rfl) (fun _ _ _ => rfl)
    (fun t => by rw [after0]; unfold Dat.blockOf blkAt; rw [datas_A]; try rfl) t d).trans
    (by unfold Dat.fetched Dat.blockOf blkAt; rw [datas_A]; try rfl)
theorem before1 (hO : Inside m) (c : Dev nD) (t : Fin (pipe m hO).N) (d) : (datas m hO 0 c).before 1 t d = blkAt m hO c 1 t :=
  ((datas m hO 0 c).before_in_eq_fetched 1 rfl (fun _ => rfl) (fun _ _ _ => rfl)
    (fun t => by rw [after1]; unfold Dat.blockOf blkAt; rw [datas_A]; try rfl) t d).trans
    (by unfold Dat.fetched Dat.blockOf blkAt; rw [datas_A]; try rfl)
theorem before2 (hO : Inside m) (c : Dev nD) (t : Fin (pipe m hO).N) (d) : (datas m hO 0 c).before 2 t d = blkAt m hO c 2 t :=
  ((datas m hO 0 c).before_in_eq_fetched 2 rfl (fun _ => rfl) (fun _ _ _ => rfl)
    (fun t => by rw [after2]; unfold Dat.blockOf blkAt; rw [datas_A]; try rfl) t d).trans
    (by unfold Dat.fetched Dat.blockOf blkAt; rw [datas_A]; try rfl)
theorem before3 (hO : Inside m) (c : Dev nD) (t : Fin (pipe m hO).N) (d) : (datas m hO 0 c).before 3 t d = blkAt m hO c 3 t :=
  ((datas m hO 0 c).before_in_eq_fetched 3 rfl (fun _ => rfl) (fun _ _ _ => rfl)
    (fun t => by rw [after3]; unfold Dat.blockOf blkAt; rw [datas_A]; try rfl) t d).trans
    (by unfold Dat.fetched Dat.blockOf blkAt; rw [datas_A]; try rfl)

/-! ## The body at a point -/

/-- The body at point `t`, on what the pipeline calls it with. -/
abbrev bodyAt (hO : Inside m) (t : Fin (pipe m hO).N) : Prog (TpuEff nD τ sig (Elt F) Λ₀ .tc) PUnit :=
  cc0_moe_experts (grid0.coords t) eidM (Memref.isWhole_whole _) markM (Memref.isWhole_whole _)
    (mem0 m hO t) (hstage0_0 (((pipe m hO).slots t 0).cast nbuf0_0)) (mem1 m hO t) (hstage0_1 (((pipe m hO).slots t 1).cast nbuf0_1))
    (mem2 m hO t) (hstage0_2 (((pipe m hO).slots t 2).cast nbuf0_2)) (mem3 m hO t) (hstage0_3 (((pipe m hO).slots t 3).cast nbuf0_3))
    (mem4 m hO t) (hstage0_4 (((pipe m hO).slots t 4).cast nbuf0_4))

/-- What the body is called with at point `t`, window by window, and what it returns. -/
def given (hO : Inside m) (c : Dev nD) (t : Fin (pipe m hO).N) : sProp 𝕄 :=
  iprop((datas m hO 0 c).Φ t.castSucc ∗ (datas m hO 0 c).owesAt () t.castSucc
    ∗ (∃ d, owns (c : Thread nD τ) (mem0 m hO t) fullShare ((datas m hO 0 c).before 0 t d))
    ∗ (∃ d, owns (c : Thread nD τ) (mem1 m hO t) fullShare ((datas m hO 0 c).before 1 t d))
    ∗ (∃ d, owns (c : Thread nD τ) (mem2 m hO t) fullShare ((datas m hO 0 c).before 2 t d))
    ∗ (∃ d, owns (c : Thread nD τ) (mem3 m hO t) fullShare ((datas m hO 0 c).before 3 t d))
    ∗ (∃ d, owns (c : Thread nD τ) (mem4 m hO t) fullShare ((datas m hO 0 c).before 4 t d)))
def returned (hO : Inside m) (c : Dev nD) (t : Fin (pipe m hO).N) : sProp 𝕄 :=
  iprop((datas m hO 0 c).Φ t.succ ∗ (datas m hO 0 c).owesAt () t.succ
    ∗ owns (c : Thread nD τ) (mem0 m hO t) fullShare ((datas m hO 0 c).after 0 t)
    ∗ owns (c : Thread nD τ) (mem1 m hO t) fullShare ((datas m hO 0 c).after 1 t)
    ∗ owns (c : Thread nD τ) (mem2 m hO t) fullShare ((datas m hO 0 c).after 2 t)
    ∗ owns (c : Thread nD τ) (mem3 m hO t) fullShare ((datas m hO 0 c).after 3 t)
    ∗ owns (c : Thread nD τ) (mem4 m hO t) fullShare ((datas m hO 0 c).after 4 t))

theorem body_sound (hO : Inside m) (c : Dev nD) (t : Fin (pipe m hO).N) :
    given m hO c t ⊢ wp frame (wpE (defs₀ (F := F)) Variants.none c none) Set.univ (bodyAt m hO t) (fun _ => returned m hO c t) := by
  unfold given returned
  simp only [before0, before1, before2, before3]
  rw [show (datas m hO 0 c).Φ t.succ = (datas m hO 0 c).Φ t.castSucc from rfl,
    show (datas m hO 0 c).owesAt () t.succ = (datas m hO 0 c).owesAt () t.castSucc from rfl,
    after0, after1, after2, after3, after4]
  rw [show (datas m hO 0 c).Φ t.castSucc = iprop(Pipeline.ΦA spec0 c ∗ Pipeline.ΦT pre0 (tables m) c) from rfl, tables_held]
  unfold outAt
  iintro ⟨⟨HΦ, ⟨HT0, HT1⟩⟩, Ho, ⟨%d0, H0⟩, ⟨%d1, H1⟩, ⟨%d2, H2⟩, ⟨%d3, H3⟩, ⟨%d4, H4⟩⟩
  iapply (body_run c Set.univ (grid0.coords t) _ _ _ _ _ _ _ _ _ _ (blkAt m hO c 0 t) (blkAt m hO c 1 t) (blkAt m hO c 2 t) (blkAt m hO c 3 t) (tables m 0) (tables m 1) _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem row (hO : Inside m) (t : Fin (pipe m hO).N) :
    defs₀ (F := F) .tc (pipe m hO).body ((pipe m hO).bodyArgs t ((pipe m hO).slots t)) = bodyAt m hO t := by
  unfold defs₀; rw [Defs.onTc_tc]

/-- Of a window stored at every point nothing is asked but what the body leaves in it. -/
theorem left_in_place (b : Bool) (P Q : sProp 𝕄) :
    b = false → (P ⊢ (match b with | true => Q | false => P : sProp 𝕄)) := by
  rintro rfl; exact .rfl

/-- The body's run, as the pipeline asks for it at every point. -/
theorem obligation (hO : Inside m) (c : Dev nD) :
    BodyObligation (datas (F := F) m hO 0 c) (defs₀ (F := F)) Variants.none () Set.univ := fun t => by
  rw [bigSep_W0, bigSep_W0, row m hO]
  refine triple_restated (body_sound m hO c t) rfl .rfl fun _ => ?_
  exact sep_mono .rfl (sep_mono .rfl (sep_mono .rfl (sep_mono .rfl (sep_mono .rfl (sep_mono .rfl
    (left_in_place _ _ _ (stored (tables m) (grid0.coords t))))))))

/-! ## The run -/

set_option backward.isDefEq.respectTransparency.types false in
/-- The whole program: it ends with every array at what the proof data says, the other buffers as launched and every
    semaphore counter at zero. -/
theorem run_main (hO : Inside m) : θ_run defs (onTc (τ := τ) (main (F := F))) (s₀ m ρ)
    (fun r => (Pipeline.FramePost (Pipeline.pin pcfgs fun _ => tabs m hO) (datas m hO) 0 (atStart m)) r ∧ r.2.sem = fun _ => 0) :=
  Pipeline.θ_run_frameP (Q' := _) pcfgs (fun _ => tabs m hO) (datas m hO) (0 : Fin 1) launch0 defs₀ Variants.none m ρ main
    (hbody := fun c => (obligation m hO c).loose) (hshare := fun c => (datas m hO 0 c).share_full fun _ => rfl)
    (howed := fun _ _ => rfl) (V := atStart m) (hmain := starts m Variants.none) (hA := datas_A m hO) (hpf := atStart_tables m)
    (hΦ := fun _ _ => rfl)

/-- The run read at the result and at the arguments. -/
theorem run_result (hO : Inside m) : θ_run defs (onTc (τ := τ) (main (F := F))) ⟨m, fun _ => 0, ρ⟩ (fun r => (∀ c : Dev nD,
      r.2.mem ((c.tc : Thread nD τ).loc main_v0) = (datas m hO 0 c).arrAt 4 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).1 0).trans (((datas m hO 0 c).arrAt_in 0 rfl _).trans (datas_A m hO c 0)),
      (h.1 c).2 main_arg1 (by decide : main_arg1 ∈ Pipeline.restRefs sig spec0),
      (h.1 c).2 main_arg2 (by decide : main_arg2 ∈ Pipeline.restRefs sig spec0),
      ((h.1 c).1 1).trans (((datas m hO 0 c).arrAt_in 1 rfl _).trans (datas_A m hO c 1)),
      ((h.1 c).1 2).trans (((datas m hO 0 c).arrAt_in 2 rfl _).trans (datas_A m hO c 2)),
      ((h.1 c).1 3).trans (((datas m hO 0 c).arrAt_in 3 rfl _).trans (datas_A m hO c 3))⟩, h.2⟩) (run_main m ρ hO)

end Cert.Proof.Experts

end
-- ==== Proof.ExpertsSpec.lean ====
/-
  What the routed experts compute, over the extended reals, in plain words: a block of 512 rows names one of 32 experts, and
  each of its rows goes through that expert's gated two-layer network. A block that is not valid gives zeros.
-/
module

public import proofs.«01_k».proof.ExpertsIdeal
public import Idealize.ShloMosaic.Lib.Pointwise

@[expose] public section

set_option maxRecDepth 16384

noncomputable section

namespace Cert.Proof.Experts

open Cert.ExpertsIdeal Idealize.ShloMosaic

/-- A row times column `j` of expert `q`'s matrix in layer 0. -/
def dotAt (x : Vec Ideal S114688x1024 .bf16) (w : Vec Ideal S2x32x1024x512 .f32) (r : Fin 114688) (q : Fin 32) (j : Fin 512) : EReal :=
  ∑ k : Fin 1024, x (ix2 r k) * w (ix4 0 q k j)

/-- The gated hidden value: `silu` of the first projection times the gate. -/
def hidden (a g : EReal) : EReal := a * (FloatOps.logistic (F := Ideal) (φ := .f32) a) * g

/-- Expert `q`'s result for row `r`, at column `n`. -/
def mlp (x : Vec Ideal S114688x1024 .bf16) (w1 w3 : Vec Ideal S2x32x1024x512 .f32) (w2 : Vec Ideal S2x32x512x1024 .f32)
    (r : Fin 114688) (q : Fin 32) (n : Fin 1024) : EReal :=
  ∑ j : Fin 512, hidden (dotAt x w1 r q j) (dotAt x w3 r q j) * w2 (ix4 0 q j n)

/-- The block a row lies in. -/
def blockOf (r : Fin 114688) : Fin 224 := ⟨r.val / 512, by omega⟩

/-- A table's word as an expert's number. -/
def expert (w : BitVec 32) : Fin 32 := ⟨w.toNat % 32, Nat.mod_lt _ (by decide)⟩

/-- The routed experts: row `r` through its block's expert, zero where the block is not valid. -/
def spec (x : Vec Ideal S114688x1024 .bf16) (be bv : S224.Idx → BitVec 32) (w1 w3 : Vec Ideal S2x32x1024x512 .f32)
    (w2 : Vec Ideal S2x32x512x1024 .f32) : Vec Ideal S114688x1024 .bf16 := fun i =>
  if bv (ix1 (blockOf (i 0))) = 0#32 then 0 else mlp x w1 w3 w2 (i 0) (expert (be (ix1 (blockOf (i 0))))) (i 1)

/-- A word below 32 is its own expert's number. -/
theorem expert_val (w : BitVec 32) (h : w.toNat < 32) : (expert w).val = w.toNat := Nat.mod_eq_of_lt h

end Cert.Proof.Experts

end
-- ==== Proof.ExpertsRef.lean ====
/-
  The routed experts' reference, read entry by entry: a gather of the experts' matrices by block, two batched products, the
  gate, a third batched product, and zeros where a block is not valid.
-/
module

public import proofs.«01_k».proof.ExpertsRefIdeal
public import proofs.«01_k».proof.Proof.ExpertsSpec
public import proofs.«01_k».proof.Proof.Gen.ExpertsRefIdeal.Run
public import Idealize.ShloMosaic.Lib.Pointwise
public import Idealize.ShloMosaic.Lib.Affine

@[expose] public section

set_option maxRecDepth 16384

noncomputable section

namespace Cert.Proof.Experts.Ref

open Cert.ExpertsRefIdeal Cert.ExpertsRefIdeal.Gen Idealize.ShloMosaic

theorem gather_up {α : Type} (x : S32x1024x512.Idx → α) (idx : IVec S224x1 32) (b : Fin 224) (k : Fin 1024) (j : Fin 512)
    (q : Fin 32) (hq : (idx (ix2 b (0 : Fin 1))).toInt = q.val) :
    Host.gather gather_S32x1024x512_S224x1_S224x1024x512_12_0_n_n_0_1_11024512 x idx (ix3 b k j) = x (ix3 q k j) := by
  unfold Host.gather
  refine congrArg x (funext fun a => Fin.ext ?_)
  match a with
  | ⟨0, _⟩ =>
    have e : (gather_S32x1024x512_S224x1_S224x1024x512_12_0_n_n_0_1_11024512).siIdx (ix3 b k j) ⟨0, by decide⟩ = ix2 b (0 : Fin 1) := by
      funext a
      match a with
      | ⟨0, _⟩ => rfl
      | ⟨1, _⟩ => rfl
    have hq' := q.isLt
    show min (idx ((gather_S32x1024x512_S224x1_S224x1024x512_12_0_n_n_0_1_11024512).siIdx (ix3 b k j) ⟨0, by decide⟩)).toInt.toNat 31 + 0 + 0 = q.val
    rw [e, hq]
    omega
  | ⟨1, _⟩ => exact (by show 0 + 0 + k.val = k.val; omega)
  | ⟨2, _⟩ => exact (by show 0 + 0 + j.val = j.val; omega)

theorem gather_down {α : Type} (x : S32x512x1024.Idx → α) (idx : IVec S224x1 32) (b : Fin 224) (k : Fin 512) (j : Fin 1024)
    (q : Fin 32) (hq : (idx (ix2 b (0 : Fin 1))).toInt = q.val) :
    Host.gather gather_S32x512x1024_S224x1_S224x512x1024_12_0_n_n_0_1_15121024 x idx (ix3 b k j) = x (ix3 q k j) := by
  unfold Host.gather
  refine congrArg x (funext fun a => Fin.ext ?_)
  match a with
  | ⟨0, _⟩ =>
    have e : (gather_S32x512x1024_S224x1_S224x512x1024_12_0_n_n_0_1_15121024).siIdx (ix3 b k j) ⟨0, by decide⟩ = ix2 b (0 : Fin 1) := by
      funext a
      match a with
      | ⟨0, _⟩ => rfl
      | ⟨1, _⟩ => rfl
    have hq' := q.isLt
    show min (idx ((gather_S32x512x1024_S224x1_S224x512x1024_12_0_n_n_0_1_15121024).siIdx (ix3 b k j) ⟨0, by decide⟩)).toInt.toNat 31 + 0 + 0 = q.val
    rw [e, hq]
    omega
  | ⟨1, _⟩ => exact (by show 0 + 0 + k.val = k.val; omega)
  | ⟨2, _⟩ => exact (by show 0 + 0 + j.val = j.val; omega)

/-- The index a block's expert is looked up at: an index below 32 is not moved. -/
theorem lookup (be : IVec S224 32) (b : Fin 224) (h : (be (ix1 b)).toNat < 32) :
    (broadcastInDim S224x1 ![0] bcast_S224_S224x1_0 (select (cmpi .slt be (broadcastInDim S224 ![] bcast_S_S224 (constantI S_ 32 0#32)))
      (addi be (broadcastInDim S224 ![] bcast_S_S224 (constantI S_ 32 32#32))) be) (ix2 b (0 : Fin 1))).toInt = (expert (be (ix1 b))).val := by
  rw [expert_val _ h]
  pointwise
  have h2 := (be (ix1 b)).isLt
  have hi : (be (ix1 b)).toInt = (be (ix1 b)).toNat := by
    rw [BitVec.toInt_eq_toNat_cond]
    split <;> omega
  rw [Scalar.select, if_neg fun hc => ?_, hi]
  have h3 : (be (ix1 b)).toInt < 0 := IntOp.cmpi_slt.mp hc
  omega

theorem up_ref (w : Vec Ideal S2x32x1024x512 .f32) (idx : IVec S224x1 32) (b : Fin 224) (k : Fin 1024) (j : Fin 512)
    (q : Fin 32) (hq : (idx (ix2 b (0 : Fin 1))).toInt = q.val) :
    Host.gather gather_S32x1024x512_S224x1_S224x1024x512_12_0_n_n_0_1_11024512 (shapeCast S32x1024x512 (extractStridedSlice S1x32x1024x512
      ![0, 0, 0, 0] w slices_S2x32x1024x512_S1x32x1024x512_0_0_0_0) shapeCasts_S1x32x1024x512_S32x1024x512) idx (ix3 b k j) = w (ix4 0 q k j) := by
  rw [gather_up _ _ _ _ _ q hq]
  pointwise

theorem down_ref (w : Vec Ideal S2x32x512x1024 .f32) (idx : IVec S224x1 32) (b : Fin 224) (j : Fin 512) (n : Fin 1024)
    (q : Fin 32) (hq : (idx (ix2 b (0 : Fin 1))).toInt = q.val) :
    Host.gather gather_S32x512x1024_S224x1_S224x512x1024_12_0_n_n_0_1_15121024 (shapeCast S32x512x1024 (extractStridedSlice S1x32x512x1024
      ![0, 0, 0, 0] w slices_S2x32x512x1024_S1x32x512x1024_0_0_0_0) shapeCasts_S1x32x512x1024_S32x512x1024) idx (ix3 b j n) = w (ix4 0 q j n) := by
  rw [gather_down _ _ _ _ _ q hq]
  pointwise

/-- A batched product of the rows with a projection's matrices, which at block `b` are expert `q`'s. -/
theorem dot_up (x : Vec Ideal S114688x1024 .bf16) (w : Vec Ideal S2x32x1024x512 .f32) (W : FVec Ideal S224x1024x512 .f32) (b : Fin 224)
    (q : Fin 32) (hW : ∀ (k : Fin 1024) (j : Fin 512), W (ix3 b k j) = w (ix4 0 q k j)) (p : Fin 512) (j : Fin 512) :
    Host.dotGeneral (F := Ideal) (φ₁ := .f32) (φ₂ := .f32) dot_S224x512x1024_S224x1024x512_S224x512x512_2_1_1_2_0_0 none
      (shapeCast S224x512x1024 (extf .f32 x bitsLt_bf16_f32) shapeCasts_S114688x1024_S224x512x1024) W (ix3 b p j)
      = dotAt x w ⟨b.val * 512 + p.val, by omega⟩ q j := by
  unfold dotAt
  pointwise
  exact Finset.sum_congr rfl fun k _ => congrArg₂ (· * ·) rfl (hW k j)

/-- The batched product of the hidden values with the second projection's matrices. -/
theorem dot_down (w : Vec Ideal S2x32x512x1024 .f32) (H : FVec Ideal S224x512x512 .f32) (W : FVec Ideal S224x512x1024 .f32) (b : Fin 224)
    (q : Fin 32) (hW : ∀ (j : Fin 512) (n : Fin 1024), W (ix3 b j n) = w (ix4 0 q j n)) (p : Fin 512) (n : Fin 1024) :
    Host.dotGeneral (F := Ideal) (φ₁ := .f32) (φ₂ := .f32) dot_S224x512x512_S224x512x1024_S224x512x1024_2_1_1_2_0_0 none H W (ix3 b p n)
      = ∑ j : Fin 512, H (ix3 b p j) * w (ix4 0 q j n) := by
  pointwise
  exact Finset.sum_congr rfl fun j _ => congrArg₂ (· * ·) rfl (hW j n)

/-- The gate. -/
theorem gate (A G : FVec Ideal S224x512x512 .f32) (i : S224x512x512.Idx) :
    mulf (mulf A (Host.divf (broadcastInDim S224x512x512 ![] bcast_S_S224x512x512 (constant S_ .f32 0x3F800000#32))
      (addf (broadcastInDim S224x512x512 ![] bcast_S_S224x512x512 (constant S_ .f32 0x3F800000#32)) (Host.exp (Host.negf A))))) G i
      = hidden (A i) (G i) := by
  unfold hidden
  pointwise
  rfl

/-- The rows of the result: zeros where the block is not valid. -/
theorem masked (bv : IVec S224 32) (Y : FVec Ideal S224x512x1024 .f32) (i : S114688x1024.Idx) :
    truncf .bf16 (shapeCast S114688x1024 (select (broadcastInDim S224x512x1024 ![0, 1, 2] bcast_S224x1x1_S224x512x1024_0_1_2
        (cmpi .ne (broadcastInDim S224x1x1 ![0] bcast_S224_S224x1x1_0 bv) (broadcastInDim S224x1x1 ![] bcast_S_S224x1x1 (constantI S_ 32 0#32))))
      Y (broadcastInDim S224x512x1024 ![] bcast_S_S224x512x1024 (constant S_ .f32 0#32))) shapeCasts_S224x512x1024_S114688x1024) bitsLt_bf16_f32 i
      = if bv (ix1 (blockOf (i 0))) = 0#32 then 0 else Y (ix3 (blockOf (i 0)) ⟨(i 0).val % 512, Nat.mod_lt _ (by decide)⟩ (i 1)) := by
  pointwise
  show Scalar.select (IntOp.cmpi .ne (bv (ix1 (blockOf (i 0)))) 0#32) _ _ = _
  by_cases h : bv (ix1 (blockOf (i 0))) = 0#32
  · exact (if_neg fun hc => IntOp.cmpi_ne.mp hc h).trans (if_pos h).symm
  · exact (if_pos (IntOp.cmpi_ne.mpr h)).trans (if_neg h).symm

/-- The column of start indices the matrices are gathered at. -/
abbrev look (be : IVec S224 32) : IVec S224x1 32 :=
  broadcastInDim S224x1 ![0] bcast_S224_S224x1_0 (select (cmpi .slt be (broadcastInDim S224 ![] bcast_S_S224 (constantI S_ 32 0#32))) (addi be (broadcastInDim S224 ![] bcast_S_S224 (constantI S_ 32 32#32))) be)

/-- The gathered matrices of a first projection, and of the second. -/
abbrev upW (be : IVec S224 32) (w : Vec Ideal S2x32x1024x512 .f32) : FVec Ideal S224x1024x512 .f32 :=
  Host.gather gather_S32x1024x512_S224x1_S224x1024x512_12_0_n_n_0_1_11024512 (shapeCast S32x1024x512 (extractStridedSlice S1x32x1024x512 ![0, 0, 0, 0] w slices_S2x32x1024x512_S1x32x1024x512_0_0_0_0) shapeCasts_S1x32x1024x512_S32x1024x512) (look be)
abbrev downW (be : IVec S224 32) (w : Vec Ideal S2x32x512x1024 .f32) : FVec Ideal S224x512x1024 .f32 :=
  Host.gather gather_S32x512x1024_S224x1_S224x512x1024_12_0_n_n_0_1_15121024 (shapeCast S32x512x1024 (extractStridedSlice S1x32x512x1024 ![0, 0, 0, 0] w slices_S2x32x512x1024_S1x32x512x1024_0_0_0_0) shapeCasts_S1x32x512x1024_S32x512x1024) (look be)

/-- A first projection of every block's rows. -/
abbrev proj (x : Vec Ideal S114688x1024 .bf16) (be : IVec S224 32) (w : Vec Ideal S2x32x1024x512 .f32) : FVec Ideal S224x512x512 .f32 :=
  Host.dotGeneral (F := Ideal) (φ₁ := .f32) (φ₂ := .f32) dot_S224x512x1024_S224x1024x512_S224x512x512_2_1_1_2_0_0 none (shapeCast S224x512x1024 (extf .f32 x bitsLt_bf16_f32) shapeCasts_S114688x1024_S224x512x1024) (upW be w)

/-- The reference's result is `spec` of its arguments. -/
theorem value (x : Vec Ideal S114688x1024 .bf16) (be bv : IVec S224 32) (w1 w3 : Vec Ideal S2x32x1024x512 .f32)
    (w2 : Vec Ideal S2x32x512x1024 .f32) (h : ∀ t : Fin 224, (be (ix1 t)).toNat < 32) :
    truncf (F := Ideal) .bf16 (shapeCast S114688x1024 (select (broadcastInDim S224x512x1024 ![0, 1, 2] bcast_S224x1x1_S224x512x1024_0_1_2 (cmpi .ne (broadcastInDim S224x1x1 ![0] bcast_S224_S224x1x1_0 bv) (broadcastInDim S224x1x1 ![] bcast_S_S224x1x1 (constantI S_ 32 0#32)))) (Host.dotGeneral (F := Ideal) (φ₁ := .f32) (φ₂ := .f32) dot_S224x512x512_S224x512x1024_S224x512x1024_2_1_1_2_0_0 none (mulf (mulf (proj x be w1) (Host.divf (broadcastInDim S224x512x512 ![] bcast_S_S224x512x512 (constant S_ .f32 0x3F800000#32)) (addf (broadcastInDim S224x512x512 ![] bcast_S_S224x512x512 (constant S_ .f32 0x3F800000#32)) (Host.exp (Host.negf (proj x be w1)))))) (proj x be w3)) (downW be w2)) (broadcastInDim S224x512x1024 ![] bcast_S_S224x512x1024 (id (constant S_ .f32 0x00000000#32)))) shapeCasts_S224x512x1024_S114688x1024) bitsLt_bf16_f32
      = spec x be bv w1 w3 w2 := by
  funext i
  refine (masked bv _ i).trans ?_
  unfold spec
  refine if_congr Iff.rfl rfl ?_
  generalize hb : blockOf (i 0) = b
  have hq := lookup be b (h b)
  refine (dot_down w2 _ _ b _ (fun j n => down_ref w2 _ b j n _ hq) _ _).trans (Finset.sum_congr rfl fun j _ => congrArg₂ (· * ·) ?_ rfl)
  refine (gate _ _ _).trans (congrArg₂ hidden ?_ ?_)
  all_goals
    refine (dot_up x _ _ b _ (fun k j => up_ref _ _ b k j _ hq) _ _).trans ?_
    refine congrArg (fun r => dotAt x _ r _ j) (Fin.ext ?_)
    show b.val * 512 + (i 0).val % 512 = (i 0).val
    rw [← hb]
    show (i 0).val / 512 * 512 + (i 0).val % 512 = (i 0).val
    omega

end Cert.Proof.Experts.Ref

end
-- ==== Proof.ExpertsValue.lean ====
/-
  The routed experts' value over the extended reals. Point `t` of the grid reads block `t` of 512 rows and, of the three weights,
  the matrices of the expert that the table names for that block; it writes the rows' results, or zeros where the block's mark
  is zero. Where every table word is below 32 the run has no fault, and the result array is `spec` of the arguments; the
  reference's is too (`Ref.value`).
-/
module

public import proofs.«01_k».proof.Defs
public import proofs.«01_k».proof.Proof.ExpertsRun
public import proofs.«01_k».proof.Proof.ExpertsSpec
public import proofs.«01_k».proof.Proof.ExpertsRef
public import proofs.«01_k».proof.Proof.Gen.Pre_eids
public import Idealize.ShloMosaic.Lib.Pointwise
public import Idealize.ShloMosaic.Lib.ReduceAll
public import Idealize.ShloMosaic.Lib.Affine
public import Idealize.ShloMosaic.Lib.Pipeline.Covers

@[expose] public section

set_option maxRecDepth 16384

noncomputable section

namespace Cert.Proof.Experts

open Cert.ExpertsIdeal Cert.ExpertsIdeal.Gen Idealize.ShloMosaic Idealize.ShloMosaic.TcCoe Idealize.SL.Sem
open Idealize.ShloMosaic.Pipeline (Dat)

/-! ## The tables -/

/-- Point `t`'s coordinate is `t`, and the offset the body and the index maps load the tables' word at is `t`. -/
theorem coord : ∀ t : Fin grid0.N, (grid0.coords t 0).val = t.val ∧ k0_off1 (grid0.coords t) 0 = t.val := by decide +kernel

/-- The tables' word at point `t`. -/
theorem word_at (v : S224.Idx → BitVec 32) (t : Fin grid0.N) :
    v ((Rect.unit (s := S224) (k0_off1 (grid0.coords t)) S1.size (k0_off1_inb (grid0.coords t))).emb
      (Shape.Idx.first (numel1_S1.symm ▸ Nat.one_pos))) = v (ix1 (⟨t.val, t.isLt⟩ : Fin 224)) := by
  refine congrArg v (funext fun a => Fin.ext ?_)
  match a with
  | ⟨0, _⟩ =>
    show k0_off1 (grid0.coords t) 0 + 1 * 0 = t.val
    rw [(coord t).2]; omega

theorem mark_eq (v : S224.Idx → BitVec 32) (t : Fin grid0.N) : mark v (grid0.coords t) = v (ix1 (⟨t.val, t.isLt⟩ : Fin 224)) :=
  word_at v t

section AnyFloats
variable {F : FTy → Type} [FloatOps F] (m : (ℓ : Loc nD τ sig) → Buf (Elt F) ℓ)

/-- The word of the experts' table at point `t`. -/
def eid (c : Dev nD) (t : Fin 224) : BitVec 32 := (m ((c : Thread nD τ).loc main_arg1) : S224.Idx → BitVec 32) (ix1 t)

/-- The weights' index maps at point `t`: layer 0, the block's expert, the whole matrix. -/
theorem map1 (t : Fin grid0.N) : cc0_transform_1 k0_off1_inb numel1_S1 (tables m) (grid0.coords t)
    = ![0, (eid m 0 ⟨t.val, t.isLt⟩).toNat, 0, 0] :=
  congrArg (fun w : BitVec 32 => (![0, w.toNat, 0, 0] : Fin 4 → ℕ)) (word_at (tables m 0) t)
theorem map2 (t : Fin grid0.N) : cc0_transform_2 k0_off1_inb numel1_S1 (tables m) (grid0.coords t)
    = ![0, (eid m 0 ⟨t.val, t.isLt⟩).toNat, 0, 0] :=
  congrArg (fun w : BitVec 32 => (![0, w.toNat, 0, 0] : Fin 4 → ℕ)) (word_at (tables m 0) t)
theorem map3 (t : Fin grid0.N) : cc0_transform_3 k0_off1_inb numel1_S1 (tables m) (grid0.coords t)
    = ![0, (eid m 0 ⟨t.val, t.isLt⟩).toNat, 0, 0] :=
  congrArg (fun w : BitVec 32 => (![0, w.toNat, 0, 0] : Fin 4 → ℕ)) (word_at (tables m 0) t)

/-- Every grid coordinate is a point's. -/
theorem coords_onto (i : grid0.Coords) : ∃ t : Fin grid0.N, grid0.coords t = i := grid0.coords_surjective i

/-- Tables whose experts lie below 32 name blocks inside the weights. -/
theorem inside (h : ∀ t : Fin 224, (eid m 0 t).toNat < 32) : Inside m := by
  refine ⟨fun i => ?_, fun i => ?_, fun i => ?_⟩
  all_goals
    obtain ⟨t, rfl⟩ := coords_onto i
    have ht := h ⟨t.val, t.isLt⟩
    refine ⟨fun a => ?_, Or.inl rfl⟩
    first | rw [map1] | rw [map2] | rw [map3]
    match a with
    | ⟨0, _⟩ => exact (by decide : (0 + 1) * 1 ≤ 2)
    | ⟨1, _⟩ => show ((eid m 0 ⟨t.val, t.isLt⟩).toNat + 1) * 1 ≤ 32; omega
    | ⟨2, _⟩ => exact Nat.le_of_eq (Nat.one_mul _)
    | ⟨3, _⟩ => exact Nat.le_of_eq (Nat.one_mul _)

variable (hO : Inside m) (c : Dev nD) (t : Fin (pipe m hO).N)

theorem idx0 : ((pipe m hO).win 0).index t = ![t.val, 0] := by
  show cc0_transform_0 (grid0.coords t) = ![t.val, 0]
  have h := (coord t).1
  have ht : t.val < 224 := t.isLt
  unfold cc0_transform_0
  simp only [h, BitVec.toNat_ofNat, Nat.mod_eq_of_lt (show t.val < 2 ^ 32 by omega)]
theorem idx1 : ((pipe m hO).win 1).index t = ![0, (eid m 0 ⟨t.val, t.isLt⟩).toNat, 0, 0] := map1 m t
theorem idx2 : ((pipe m hO).win 2).index t = ![0, (eid m 0 ⟨t.val, t.isLt⟩).toNat, 0, 0] := map2 m t
theorem idx3 : ((pipe m hO).win 3).index t = ![0, (eid m 0 ⟨t.val, t.isLt⟩).toNat, 0, 0] := map3 m t
theorem idx4 : ((pipe m hO).win 4).index t = ![t.val, 0] := idx0 m hO t

/-! Where each window's block at point `t` lies in its array. -/

theorem place0 (y : (((pipe m hO).win 0).xblock ((pipe m hO).grid.coords t)).Idx) (a : Fin 2) :
    ((((pipe m hO).win 0).blk t).view.emb y a : ℕ) = (![t.val, 0] : Fin 2 → ℕ) a * S512x1024.size a + y a :=
  (((pipe m hO).win 0).rect_emb_val t y a).trans (by rw [idx0]; rfl)
theorem place1 (y : (((pipe m hO).win 1).xblock ((pipe m hO).grid.coords t)).Idx) (a : Fin 4) :
    ((((pipe m hO).win 1).blk t).view.emb y a : ℕ) = (![0, (eid m 0 ⟨t.val, t.isLt⟩).toNat, 0, 0] : Fin 4 → ℕ) a * S1x1x1024x512.size a + y a :=
  (((pipe m hO).win 1).rect_emb_val t y a).trans (by rw [idx1]; rfl)
theorem place2 (y : (((pipe m hO).win 2).xblock ((pipe m hO).grid.coords t)).Idx) (a : Fin 4) :
    ((((pipe m hO).win 2).blk t).view.emb y a : ℕ) = (![0, (eid m 0 ⟨t.val, t.isLt⟩).toNat, 0, 0] : Fin 4 → ℕ) a * S1x1x1024x512.size a + y a :=
  (((pipe m hO).win 2).rect_emb_val t y a).trans (by rw [idx2]; rfl)
theorem place3 (y : (((pipe m hO).win 3).xblock ((pipe m hO).grid.coords t)).Idx) (a : Fin 4) :
    ((((pipe m hO).win 3).blk t).view.emb y a : ℕ) = (![0, (eid m 0 ⟨t.val, t.isLt⟩).toNat, 0, 0] : Fin 4 → ℕ) a * S1x1x512x1024.size a + y a :=
  (((pipe m hO).win 3).rect_emb_val t y a).trans (by rw [idx3]; rfl)
theorem place4 (y : (((pipe m hO).win 4).xblock ((pipe m hO).grid.coords t)).Idx) (a : Fin 2) :
    ((((pipe m hO).win 4).blk t).view.emb y a : ℕ) = (![t.val, 0] : Fin 2 → ℕ) a * S512x1024.size a + y a :=
  (((pipe m hO).win 4).rect_emb_val t y a).trans (by rw [idx4]; rfl)

theorem lt224 : t.val < 224 := t.isLt

/-- The block of 512 rows point `t` reads. -/
theorem rows_at (p : Fin 512) (k : Fin 1024) : (blkAt m hO c 0 t : Vec F S512x1024 .bf16) (ix2 p k)
    = (m ((c : Thread nD τ).loc main_arg0) : Vec F S114688x1024 .bf16)
        (ix2 (⟨t.val * 512 + p.val, by have := lt224 m hO t; omega⟩ : Fin 114688) k) := by
  refine congrArg (m ((c : Thread nD τ).loc main_arg0) : Vec F S114688x1024 .bf16) (funext fun a => Fin.ext ?_)
  refine (place0 m hO t _ a).trans ?_
  match a with
  | ⟨0, _⟩ => rfl
  | ⟨1, _⟩ => exact (by show 0 * 1024 + k.val = k.val; omega)

/-- The first projection's matrix point `t` reads: its expert's. -/
theorem up_at (q : Fin 32) (hq : q.val = (eid m 0 ⟨t.val, t.isLt⟩).toNat) (k : Fin 1024) (j : Fin 512) :
    (blkAt m hO c 1 t : Vec F S1x1x1024x512 .f32) (ix4 0 0 k j)
    = (m ((c : Thread nD τ).loc main_arg3) : Vec F S2x32x1024x512 .f32) (ix4 0 q k j) := by
  refine congrArg (m ((c : Thread nD τ).loc main_arg3) : Vec F S2x32x1024x512 .f32) (funext fun a => Fin.ext ?_)
  refine (place1 m hO t _ a).trans ?_
  match a with
  | ⟨0, _⟩ => rfl
  | ⟨1, _⟩ => exact (by show (eid m 0 ⟨t.val, t.isLt⟩).toNat * 1 + 0 = q.val; omega)
  | ⟨2, _⟩ => exact (by show 0 * 1024 + k.val = k.val; omega)
  | ⟨3, _⟩ => exact (by show 0 * 512 + j.val = j.val; omega)

/-- The gate's matrix point `t` reads. -/
theorem gate_at (q : Fin 32) (hq : q.val = (eid m 0 ⟨t.val, t.isLt⟩).toNat) (k : Fin 1024) (j : Fin 512) :
    (blkAt m hO c 2 t : Vec F S1x1x1024x512 .f32) (ix4 0 0 k j)
    = (m ((c : Thread nD τ).loc main_arg4) : Vec F S2x32x1024x512 .f32) (ix4 0 q k j) := by
  refine congrArg (m ((c : Thread nD τ).loc main_arg4) : Vec F S2x32x1024x512 .f32) (funext fun a => Fin.ext ?_)
  refine (place2 m hO t _ a).trans ?_
  match a with
  | ⟨0, _⟩ => rfl
  | ⟨1, _⟩ => exact (by show (eid m 0 ⟨t.val, t.isLt⟩).toNat * 1 + 0 = q.val; omega)
  | ⟨2, _⟩ => exact (by show 0 * 1024 + k.val = k.val; omega)
  | ⟨3, _⟩ => exact (by show 0 * 512 + j.val = j.val; omega)

/-- The second projection's matrix point `t` reads. -/
theorem down_at (q : Fin 32) (hq : q.val = (eid m 0 ⟨t.val, t.isLt⟩).toNat) (j : Fin 512) (n : Fin 1024) :
    (blkAt m hO c 3 t : Vec F S1x1x512x1024 .f32) (ix4 0 0 j n)
    = (m ((c : Thread nD τ).loc main_arg5) : Vec F S2x32x512x1024 .f32) (ix4 0 q j n) := by
  refine congrArg (m ((c : Thread nD τ).loc main_arg5) : Vec F S2x32x512x1024 .f32) (funext fun a => Fin.ext ?_)
  refine (place3 m hO t _ a).trans ?_
  match a with
  | ⟨0, _⟩ => rfl
  | ⟨1, _⟩ => exact (by show (eid m 0 ⟨t.val, t.isLt⟩).toNat * 1 + 0 = q.val; omega)
  | ⟨2, _⟩ => exact (by show 0 * 512 + j.val = j.val; omega)
  | ⟨3, _⟩ => exact (by show 0 * 1024 + n.val = n.val; omega)

end AnyFloats

/-- A precondition's `true`: every expert is a number from 0 to 31. -/
theorem range_of_pre {F : FTy → Type} [FloatOps F] (x : FVec F Cert.Pre_eids.S114688x1024 .bf16) (be bv : IVec Cert.Pre_eids.S224 32)
    (w1 w3 : FVec F Cert.Pre_eids.S2x32x1024x512 .f32) (w2 : FVec F Cert.Pre_eids.S2x32x512x1024 .f32)
    (h : Cert.Pre_eids.fn x be bv w1 w3 w2 = fun _ => 1#1) (t : Fin 224) : (be (ix1 t)).toNat < 32 := by
  have h1 := congrFun h (fun a => a.elim0)
  dsimp only [Cert.Pre_eids.fn] at h1
  have h2 := Host.reduce_andi_all _ _ _ _ _ h1 (ix1 t)
  obtain ⟨h3, h4⟩ := IntOp.andi_eq_one.mp h2
  have h5 : (0 : ℤ) ≤ (be (ix1 t)).toInt := IntOp.cmpi_sge.mp h3
  have h6 : (be (ix1 t)).toInt < 32 := IntOp.cmpi_slt.mp h4
  rw [BitVec.toInt_eq_toNat_cond] at h5 h6
  have h7 := (be (ix1 t)).isLt
  split at h5 <;> split at h6 <;> omega

/-! ## The value -/

/-- A block's payload, read at one entry. -/
theorem pay_at (x0 : Vec Ideal S512x1024 .bf16) (x1 x2 : Vec Ideal S1x1x1024x512 .f32) (x3 : Vec Ideal S1x1x512x1024 .f32)
    (p : Fin 512) (n : Fin 1024) :
    k0_pay1 x0 x1 x2 x3 (ix2 p n) = ∑ j : Fin 512, hidden (∑ k : Fin 1024, x0 (ix2 p k) * x1 (ix4 0 0 k j))
      (∑ k : Fin 1024, x0 (ix2 p k) * x2 (ix4 0 0 k j)) * x3 (ix4 0 0 j n) := by
  unfold k0_pay1 hidden
  pointwise

theorem zero_at (i : S512x1024.Idx) : (k0_pay2 (F := Ideal)) i = 0 := by
  unfold k0_pay2
  pointwise

section Kernel
variable (m : (ℓ : Loc nD τ sig) → Buf (Elt Ideal) ℓ) (ρ : Dev nD → PrngReg)

/-- The result's blocks cover it. -/
theorem covers (hO : Inside m) : ((pipe m hO).win 4).Covers :=
  ((pipe m hO).win 4).covers_of_indexMap_surj rfl (fun a => match a with | ⟨0, _⟩ => Nat.succ_pos _ | ⟨1, _⟩ => Nat.succ_pos _) fun β => by
    let r0 : Fin ((pipe m hO).win 4).shape.rank := ⟨0, Nat.zero_lt_two⟩
    let r1 : Fin ((pipe m hO).win 4).shape.rank := ⟨1, Nat.one_lt_two⟩
    have h0 : (β r0).val < grid0.N := lt_of_lt_of_eq (β r0).isLt (show (114688 + 512 - 1) / 512 = 224 by decide)
    have h1 : (β r1).val < 1 := lt_of_lt_of_eq (β r1).isLt (show (1024 + 1024 - 1) / 1024 = 1 by decide)
    refine ⟨grid0.coords ⟨(β r0).val, h0⟩, fun a => ?_⟩
    refine (congrFun (idx4 m hO ⟨(β r0).val, h0⟩) a).trans ?_
    match a with
    | ⟨0, _⟩ => rfl
    | ⟨1, _⟩ => exact (by show 0 = (β r1).val; omega)

/-- An entry of the result, in a row of block `b`. -/
theorem spec_at (x : Vec Ideal S114688x1024 .bf16) (be bv : S224.Idx → BitVec 32) (w1 w3 : Vec Ideal S2x32x1024x512 .f32)
    (w2 : Vec Ideal S2x32x512x1024 .f32) (r : Fin 114688) (b : Fin 224) (hb : blockOf r = b) (n : Fin 1024) :
    spec x be bv w1 w3 w2 (ix2 r n) = if bv (ix1 b) = 0#32 then 0 else mlp x w1 w3 w2 r (expert (be (ix1 b))) n := by
  subst hb
  rfl

/-- The word of the blocks' marks at point `t`. -/
def valid (t : Fin 224) : BitVec 32 := (m (((0 : Dev nD) : Thread nD τ).loc main_arg2) : S224.Idx → BitVec 32) (ix1 t)

theorem marked (t : Fin grid0.N) : mark (tables m 1) (grid0.coords t) = valid m ⟨t.val, t.isLt⟩ := mark_eq (tables m 1) t

/-- What point `t` leaves, entry by entry. -/
theorem out_at (h : ∀ t : Fin 224, (eid m 0 t).toNat < 32) (hO : Inside m) (t : Fin (pipe m hO).N) (p : Fin 512) (n : Fin 1024) :
    outAt m hO 0 t (ix2 p n)
      = if valid m ⟨t.val, t.isLt⟩ = 0#32 then 0
        else mlp (m (((0 : Dev nD) : Thread nD τ).loc main_arg0)) (m (((0 : Dev nD) : Thread nD τ).loc main_arg3))
          (m (((0 : Dev nD) : Thread nD τ).loc main_arg4)) (m (((0 : Dev nD) : Thread nD τ).loc main_arg5))
          (⟨t.val * 512 + p.val, by have := lt224 m hO t; omega⟩ : Fin 114688) (expert (eid m 0 ⟨t.val, t.isLt⟩)) n := by
  have hq : (expert (eid m 0 ⟨t.val, t.isLt⟩)).val = (eid m 0 ⟨t.val, t.isLt⟩).toNat := expert_val _ (h ⟨t.val, t.isLt⟩)
  by_cases hv : valid m ⟨t.val, t.isLt⟩ = 0#32
  · have e : outAt m hO 0 t = k0_pay2 (F := Ideal) := if_pos ((marked m t).trans hv)
    rw [if_pos hv]
    exact (congrFun e (ix2 p n)).trans (zero_at _)
  · have e : outAt m hO 0 t = k0_pay1 (blkAt m hO 0 0 t) (blkAt m hO 0 1 t) (blkAt m hO 0 2 t) (blkAt m hO 0 3 t) :=
      if_neg fun e => hv ((marked m t).symm.trans e)
    rw [if_neg hv]
    refine (congrFun e (ix2 p n)).trans ((pay_at _ _ _ _ p n).trans ?_)
    · unfold mlp dotAt
      exact Finset.sum_congr rfl fun j _ => congrArg₂ (· * ·) (congrArg₂ hidden
        (Finset.sum_congr rfl fun k _ => congrArg₂ (· * ·) (rows_at m hO 0 t p k) (up_at m hO 0 t _ hq k j))
        (Finset.sum_congr rfl fun k _ => congrArg₂ (· * ·) (rows_at m hO 0 t p k) (gate_at m hO 0 t _ hq k j))) (down_at m hO 0 t _ hq j n)

theorem entry_of (y : S512x1024.Idx) : ∃ (p : Fin 512) (n : Fin 1024), y = ix2 p n :=
  ⟨y 0, y 1, funext fun a => match a with | ⟨0, _⟩ => rfl | ⟨1, _⟩ => rfl⟩

/-- The kernel's result array after the run. -/
theorem final (h : ∀ t : Fin 224, (eid m 0 t).toNat < 32) (hO : Inside m) (c : Dev nD) :
    (datas m hO 0 c).arrAt 4 (pipe m hO).N
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  obtain rfl : c = 0 := Subsingleton.elim _ _
  refine (datas m hO 0 0).arrAt_eq_of_covers 4 _ (covers m hO) fun t hf y => ?_
  obtain ⟨p, n, rfl⟩ : ∃ (p : Fin 512) (n : Fin 1024), y = (ix2 p n : S512x1024.Idx) := entry_of y
  have e : ((((pipe m hO).win 4).blk t).view.emb (ix2 p n : S512x1024.Idx) : S114688x1024.Idx)
      = ix2 (⟨t.val * 512 + p.val, by have := lt224 m hO t; omega⟩ : Fin 114688) n := by
    funext a
    apply Fin.ext
    refine (place4 m hO t _ a).trans ?_
    match a with
    | ⟨0, _⟩ => rfl
    | ⟨1, _⟩ => exact (by show 0 * 1024 + n.val = n.val; omega)
  refine Eq.trans ?_ (congrArg (spec _ _ _ _ _ _) e.symm)
  refine (congrFun (after4 m hO 0 t) (ix2 p n)).trans ((out_at m h hO t p n).trans (spec_at _ _ _ _ _ _ _ _ ?_ n).symm)
  exact Fin.ext (by show (t.val * 512 + p.val) / 512 = t.val; omega)

/-- The kernel's run: the result array is `spec` of the arguments, which end unchanged. -/
theorem run (h : ∀ t : Fin 224, (eid m 0 t).toNat < 32) :
    θ_run (defs (F := Ideal)) (onTc (τ := τ) (main (F := Ideal))) ⟨m, fun _ => 0, ρ⟩ fun r => ∀ c : Dev nD,
      r.2.mem ((c.tc : Thread nD τ).loc main_v0)
        = spec (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c => ⟨(hr.1 c).1.trans (final m h (inside m h) c), (hr.1 c).2⟩) (run_result m ρ (inside m h))

end Kernel

/-- The claim: both programs end with `spec` of the arguments. -/
theorem algebraic : Cert.algebraic_ExpertsIdeal_ExpertsRefIdeal := by
  pair_intro
  · exact run m g fun t => range_of_pre _ _ _ _ _ _ (hpre 0) t
  · run_from Cert.ExpertsRefIdeal.Value.run (F := Ideal) m' g'
    exact Ref.value _ _ _ _ _ _ fun t => range_of_pre _ _ _ _ _ _ (hpre c) t

end Cert.Proof.Experts

end
-- ==== Proof.MergeSpec.lean ====
/-
  The gated merge and its layer norm, in plain mathematics over the extended reals: three branches, each a product of a token's
  row with the branch's weight, are weighted by the logistic of the token's gates and added; the sum goes through the output
  weight and is added to the scaled input, and the row is normalised. The kernel writes the logistic as half of a hyperbolic
  tangent plus a half, which is the same function everywhere (`gate_eq`).
-/
module

public import Idealize.ShloMosaic.Lib.Pointwise
public import Idealize.ShloMosaic.Lib.IdealHost

@[expose] public section

noncomputable section

namespace Cert.Proof.Merge

open Idealize.ShloMosaic

/-- The logistic function. -/
def gate (x : EReal) : EReal := Ideal.div 1 (1 + Ideal.exp (-x))

theorem half : Ideal.ofBits .f32 0x3F000000#32 = ((1 / 2 : ℝ) : EReal) := by
  simp [Ideal.ofBits, Ideal.ieee]
  rw [← EReal.coe_mul]
  norm_num

/-- Half of the hyperbolic tangent of the half, plus a half, is the logistic function. -/
theorem gate_eq (x : EReal) :
    Ideal.ofBits .f32 0x3F000000#32 * Ideal.tanh (Ideal.ofBits .f32 0x3F000000#32 * x) + Ideal.ofBits .f32 0x3F000000#32 = gate x := by
  rw [half]
  unfold gate
  induction x with
  | bot =>
    rw [EReal.coe_mul_bot_of_pos (by norm_num), Ideal.tanh_bot, EReal.neg_bot, Ideal.exp_top, EReal.add_top_of_ne_bot (by decide)]
    rw [Ideal.div, if_neg (by simp), EReal.inv_top, mul_zero, ← EReal.coe_one, ← EReal.coe_neg, ← EReal.coe_mul, ← EReal.coe_add]
    norm_num
  | top =>
    rw [EReal.coe_mul_top_of_pos (by norm_num), Ideal.tanh_top, EReal.neg_top, Ideal.exp_bot, add_zero, mul_one, ← EReal.coe_add, Ideal.div, if_neg one_ne_zero, one_mul]
    norm_num
  | coe r =>
    rw [← EReal.coe_mul, Ideal.tanh_coe, ← EReal.coe_neg, Ideal.exp_coe, ← EReal.coe_one, ← EReal.coe_add, ← EReal.coe_mul, ← EReal.coe_add]
    rw [Ideal.div_coe (by positivity : (1 + Real.exp (-r) : ℝ) ≠ 0), ← EReal.coe_mul]
    congr 1
    rw [Real.tanh_eq_sinh_div_cosh, Real.sinh_eq, Real.cosh_eq]
    have h : Real.exp (-r) = Real.exp (-(1 / 2 * r)) * Real.exp (-(1 / 2 * r)) := by rw [← Real.exp_add]; ring_nf
    have h1 : Real.exp (1 / 2 * r) * Real.exp (-(1 / 2 * r)) = 1 := by rw [← Real.exp_add]; simp
    have p1 := Real.exp_pos (1 / 2 * r)
    have p2 := Real.exp_pos (-(1 / 2 * r))
    rw [h]
    generalize Real.exp (1 / 2 * r) = a at *
    generalize Real.exp (-(1 / 2 * r)) = b at *
    have : a = 1 / b := by field_simp; exact h1
    subst this
    field_simp
    ring

/-- The mean of a row. -/
def mean (h : Fin 1024 → EReal) : EReal := Ideal.div (∑ n, h n) (Ideal.ofBits .f32 0x44800000#32)

/-- A row less its mean. -/
def dev (h : Fin 1024 → EReal) (n : Fin 1024) : EReal := h n - mean h

/-- The row normalised: less its mean, over the root of its mean square deviation, scaled and shifted. -/
def norm (h g b : Fin 1024 → EReal) (n : Fin 1024) : EReal :=
  dev h n * Ideal.rsqrt (mean (fun k => dev h k * dev h k) + Ideal.ofBits .f32 0x3727C5AC#32) * g n + b n

/-- The branches of a row, each weighted by the logistic of its gates, added. -/
def mixed (y : Fin 3 → Fin 512 → EReal) (w : Fin 3 → Fin 512 → Fin 1024 → EReal) (p : Fin 3 → Fin 1024 → EReal) (d : Fin 1024) : EReal :=
  ∑ i : Fin 3, gate (p i d) * ∑ k : Fin 512, y i k * w i k d

/-- The row before the normalisation: the scaled input plus the output weight's product with the mixed branches. -/
def hidden (x : Fin 1024 → EReal) (u : Fin 1024 → EReal) (wo : Fin 1024 → Fin 1024 → EReal) (n : Fin 1024) : EReal :=
  Ideal.ofBits .f32 0x3FB504F3#32 * x n + ∑ d : Fin 1024, u d * wo d n

/-- One of the three branches' arrays. -/
def pick {α : Type} (a b c : α) : Fin 3 → α := ![a, b, c]

/-- Row `r` of the two arrays of tokens, the first of 32768 rows, set one after the other. -/
def rowOf (xa : Fin 32768 → Fin 1024 → EReal) (xb : Fin 16384 → Fin 1024 → EReal) (r : Fin 49152) (n : Fin 1024) : EReal :=
  if h : r.val < 32768 then xa ⟨r.val, h⟩ n else xb ⟨r.val - 32768, by omega⟩ n

/-- Column `d` of branch `i`'s gates among the projection's columns. -/
def gateCol (i : Fin 3) (d : Fin 1024) : Fin 9728 := ⟨i.val * 1024 + d.val, by omega⟩

/-- Row `r` before the normalisation, of the whole arrays. -/
def row (xa : Vec Ideal ⟨2, ![32768, 1024]⟩ .f32) (xb : Vec Ideal ⟨2, ![16384, 1024]⟩ .f32) (pr : Vec Ideal ⟨2, ![49152, 9728]⟩ .bf16)
    (ya yb yc : Vec Ideal ⟨2, ![49152, 512]⟩ .bf16) (w : Vec Ideal ⟨3, ![3, 512, 1024]⟩ .f32) (wo : Vec Ideal ⟨2, ![1024, 1024]⟩ .f32)
    (r : Fin 49152) : Fin 1024 → EReal :=
  hidden (rowOf (fun r n => xa (ix2 r n)) (fun r n => xb (ix2 r n)) r)
    (mixed (fun i k => pick ya yb yc i (ix2 r k)) (fun i k d => w (ix3 i k d)) (fun i d => pr (ix2 r (gateCol i d))))
    (fun d n => wo (ix2 d n))

/-- The result array: every row normalised. -/
def spec (xa : Vec Ideal ⟨2, ![32768, 1024]⟩ .f32) (xb : Vec Ideal ⟨2, ![16384, 1024]⟩ .f32) (pr : Vec Ideal ⟨2, ![49152, 9728]⟩ .bf16)
    (ya yb yc : Vec Ideal ⟨2, ![49152, 512]⟩ .bf16) (w : Vec Ideal ⟨3, ![3, 512, 1024]⟩ .f32) (wo : Vec Ideal ⟨2, ![1024, 1024]⟩ .f32)
    (g b : Vec Ideal ⟨1, ![1024]⟩ .f32) : Vec Ideal ⟨2, ![49152, 1024]⟩ .f32 := fun j =>
  norm (row xa xb pr ya yb yc w wo (j 0)) (fun n => g (ix1 n)) (fun n => b (ix1 n)) (j 1)

end Cert.Proof.Merge

end
-- ==== Proof.MergeRef.lean ====
/-
  The merge's reference over the extended reals, an operation at a time: its branches are one product over a stack of the three
  arrays, its gates a slice of the projection cut into three runs of 1024 columns. Its result is `spec` of the arguments.
-/
module

public import proofs.«01_k».proof.Defs
public import proofs.«01_k».proof.Proof.MergeSpec
public import proofs.«01_k».proof.Proof.Gen.MergeRefIdeal.Run
public import Idealize.ShloMosaic.Lib.Pointwise

@[expose] public section

set_option maxRecDepth 16384

noncomputable section

namespace Cert.Proof.Merge.Ref

open Cert.MergeRefIdeal Cert.MergeRefIdeal.Gen Idealize.ShloMosaic Idealize.ShloMosaic.TcCoe Idealize.SL.Sem

variable (xa : FVec Ideal S32768x1024 .f32) (xb : FVec Ideal S16384x1024 .f32) (pr : FVec Ideal S49152x9728 .bf16)
  (ya yb yc : FVec Ideal S49152x512 .bf16) (w : FVec Ideal S3x512x1024 .f32) (wo : FVec Ideal S1024x1024 .f32)
  (g b : FVec Ideal S1024 .f32)

/-- The tokens' rows, the two arrays set one after the other. -/
def toks : FVec Ideal S49152x1024 .f32 :=
  concatenate S49152x1024 0 [⟨S32768x1024, xa⟩, ⟨S16384x1024, xb⟩] concatenates_S32768x1024_S16384x1024_S49152x1024_d0

/-- The three branches' arrays, stacked. -/
def stack : FVec Ideal S49152x3x512 .bf16 :=
  concatenate S49152x3x512 1 [⟨S49152x1x512, broadcastInDim S49152x1x512 ![0, 2] bcast_S49152x512_S49152x1x512_0_2 ya⟩,
    ⟨S49152x1x512, broadcastInDim S49152x1x512 ![0, 2] bcast_S49152x512_S49152x1x512_0_2 yb⟩,
    ⟨S49152x1x512, broadcastInDim S49152x1x512 ![0, 2] bcast_S49152x512_S49152x1x512_0_2 yc⟩]
    concatenates_S49152x1x512_S49152x1x512_S49152x1x512_S49152x3x512_d1

/-- The gates. -/
def gates : FVec Ideal S49152x3x1024 .f32 :=
  Host.divf (broadcastInDim S49152x3x1024 ![] bcast_S_S49152x3x1024 (constant S_ .f32 0x3F800000#32))
    (addf (broadcastInDim S49152x3x1024 ![] bcast_S_S49152x3x1024 (constant S_ .f32 0x3F800000#32))
      (Host.exp (Host.negf (shapeCast S49152x3x1024 (extf .f32 (extractStridedSlice S49152x3072 ![0, 0] pr
        slices_S49152x9728_S49152x3072_0_0) bitsLt_bf16_f32) shapeCasts_S49152x3072_S49152x3x1024))))

/-- The branches: a stacked array times each branch's weight. -/
def branches (st : FVec Ideal S49152x3x512 .bf16) : FVec Ideal S49152x3x1024 .f32 :=
  transpose S49152x3x1024 [2, 0, 1] (Host.dotGeneral dot_S3x512x1024_S49152x3x512_S3x1024x49152_1_2_2_0_0_1 none w
    (extf .f32 st bitsLt_bf16_f32)) transposes_S3x1024x49152_S49152x3x1024_2_0_1

/-- The rows before the normalisation. -/
def hid (x : FVec Ideal S49152x1024 .f32) (ga br : FVec Ideal S49152x3x1024 .f32) : FVec Ideal S49152x1024 .f32 :=
  addf (mulf (broadcastInDim S49152x1024 ![] bcast_S_S49152x1024 (constant S_ .f32 0x3FB504F3#32)) x)
    (Host.dotGeneral dot_S49152x1024_S1024x1024_S49152x1024_1_0_0_1_n_n none
      (Host.dotGeneral dot_S49152x3x1024_S49152x3x1024_S49152x1024_1_1_n_n_02_02 none ga br) wo)

/-- Each row's mean. -/
def means (h : FVec Ideal S49152x1024 .f32) : FVec Ideal S49152x1 .f32 :=
  Host.divf (broadcastInDim S49152x1 ![0] bcast_S49152_S49152x1_0
    (Host.reduceAdd h (constant S_ .f32 0x00000000#32) reducesTo_S49152x1024_S49152_d1 h_S_))
    (broadcastInDim S49152x1 ![] bcast_S_S49152x1 (constant S_ .f32 0x44800000#32))

/-- Each row less its mean. -/
def devs (h : FVec Ideal S49152x1024 .f32) : FVec Ideal S49152x1024 .f32 :=
  subf h (broadcastInDim S49152x1024 ![0, 1] bcast_S49152x1_S49152x1024_0_1 (means h))

/-- The rows normalised. -/
def lnorm (h : FVec Ideal S49152x1024 .f32) : FVec Ideal S49152x1024 .f32 :=
  addf (mulf (mulf (devs h) (broadcastInDim S49152x1024 ![0, 1] bcast_S49152x1_S49152x1024_0_1
    (Host.rsqrt (addf (means (mulf (devs h) (devs h))) (broadcastInDim S49152x1 ![] bcast_S_S49152x1 (constant S_ .f32 0x3727C5AC#32))))))
    (broadcastInDim S49152x1024 ![0, 1] bcast_S1x1024_S49152x1024_0_1 (broadcastInDim S1x1024 ![1] bcast_S1024_S1x1024_1 g)))
    (broadcastInDim S49152x1024 ![0, 1] bcast_S1x1024_S49152x1024_0_1 (broadcastInDim S1x1024 ![1] bcast_S1024_S1x1024_1 b))

/-- An entry of the tokens' rows. -/
theorem toks_at (r : Fin 49152) (n : Fin 1024) :
    toks xa xb (ix2 r n) = rowOf (fun r n => xa (ix2 r n)) (fun r n => xb (ix2 r n)) r n := by
  unfold toks rowOf
  pointwise

/-- An entry of the stack. -/
theorem stack_at (r : Fin 49152) (i : Fin 3) (k : Fin 512) : stack ya yb yc (ix3 r i k) = pick ya yb yc i (ix2 r k) := by
  unfold stack pick
  match i with
  | 0 => pointwise; done
  | 1 => pointwise; done
  | 2 => pointwise; done

/-- An entry of the gates. -/
theorem gates_at (r : Fin 49152) (i : Fin 3) (d : Fin 1024) : gates pr (ix3 r i d) = gate (pr (ix2 r (gateCol i d))) := by
  unfold gates gate
  pointwise
  rfl

/-- An entry of the branches. -/
theorem branches_at (st : FVec Ideal S49152x3x512 .bf16) (r : Fin 49152) (i : Fin 3) (d : Fin 1024) :
    branches w st (ix3 r i d) = ∑ k : Fin 512, st (ix3 r i k) * w (ix3 i k d) := by
  unfold branches
  pointwise
  exact Finset.sum_congr rfl fun k _ => mul_comm _ _

/-- An entry before the normalisation. -/
theorem hid_at (x : FVec Ideal S49152x1024 .f32) (ga br : FVec Ideal S49152x3x1024 .f32) (r : Fin 49152) (n : Fin 1024) :
    hid wo x ga br (ix2 r n) = hidden (fun n => x (ix2 r n)) (fun d => ∑ i, ga (ix3 r i d) * br (ix3 r i d)) (fun d n => wo (ix2 d n)) n := by
  unfold hid hidden
  pointwise

/-- A row's mean. -/
theorem means_at (h : FVec Ideal S49152x1024 .f32) (r : Fin 49152) : means h (ix2 r 0) = mean (fun n => h (ix2 r n)) := by
  unfold means mean
  pointwise

/-- An entry less its row's mean. -/
theorem devs_at (h : FVec Ideal S49152x1024 .f32) (r : Fin 49152) (n : Fin 1024) : devs h (ix2 r n) = dev (fun n => h (ix2 r n)) n := by
  unfold devs dev
  pointwise
  rw [means_at]

/-- An entry of the normalised rows. -/
theorem lnorm_at (h : FVec Ideal S49152x1024 .f32) (r : Fin 49152) (n : Fin 1024) :
    lnorm g b h (ix2 r n) = norm (fun n => h (ix2 r n)) (fun n => g (ix1 n)) (fun n => b (ix1 n)) n := by
  unfold lnorm norm
  pointwise
  rw [means_at, devs_at]
  simp only [mulf_apply, devs_at]
  rfl

/-- The reference's result is `spec` of its arguments. -/
theorem value (m : (ℓ : Loc nD τ sig) → Buf (Elt Ideal) ℓ) (c : Dev nD) :
    (Cert.MergeRefIdeal.Value.res_main_v45 (F := Ideal) m c : FVec Ideal S49152x1024 .f32)
      = spec (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) (m (c.tc.loc main_arg8)) (m (c.tc.loc main_arg9)) := by
  have e : (Cert.MergeRefIdeal.Value.res_main_v45 (F := Ideal) m c : FVec Ideal S49152x1024 .f32)
      = lnorm (m (c.tc.loc main_arg8)) (m (c.tc.loc main_arg9)) (hid (m (c.tc.loc main_arg7)) (toks (m (c.tc.loc main_arg0)) (m (c.tc.loc main_arg1)))
          (gates (m (c.tc.loc main_arg2))) (branches (m (c.tc.loc main_arg6))
            (stack (m (c.tc.loc main_arg3)) (m (c.tc.loc main_arg4)) (m (c.tc.loc main_arg5))))) := rfl
  rw [e]
  funext j
  obtain ⟨r, n, rfl⟩ : ∃ (r : Fin 49152) (n : Fin 1024), j = ix2 r n := ⟨j 0, j 1, eq_ix2 j⟩
  rw [lnorm_at]
  refine congrArg (fun h => norm h _ _ n) ?_
  funext n
  rw [hid_at]
  show hidden _ _ _ n = hidden _ _ _ n
  simp only [toks_at, gates_at, branches_at, stack_at]
  rfl

end Cert.Proof.Merge.Ref

end
-- ==== Proof.MergeValue.lean ====
/-
  The merge's kernel over the extended reals: what a grid point computes entry by entry, which part of each argument it works on,
  and the two result arrays after the last point. The point's 512 rows are rows of one of the two arrays of tokens; a row's value is
  `spec`'s. The reference's result is the same, which is the claim.
-/
module

public import proofs.«01_k».proof.Defs
public import proofs.«01_k».proof.Proof.MergeSpec
public import proofs.«01_k».proof.Proof.MergeRef
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Merge

open Cert.MergeIdeal Cert.MergeIdeal.Gen Idealize.ShloMosaic Idealize.ShloMosaic.TcCoe Idealize.SL.Sem
open Idealize.ShloMosaic.Pipeline (Dat)

/-! ## What one grid point computes, entry by entry -/

section Block
variable (xa xb : Vec Ideal S512x1024 .f32) (ga gb gc : Vec Ideal S512x1024 .bf16) (ya yb yc : Vec Ideal S512x512 .bf16)
  (wa wb wc : Vec Ideal S1x512x1024 .bf16) (wo : Vec Ideal S1024x1024 .bf16) (lg lb : Vec Ideal S1x1024 .f32)

/-- The first branch, weighted by its gate. -/
theorem pay3_at (p : Fin 512) (n : Fin 1024) :
    k0_pay3 ya wa ga (ix2 p n) = gate (ga (ix2 p n)) * ∑ k : Fin 512, ya (ix2 p k) * wa (ix3 0 k n) := by
  unfold k0_pay3
  pointwise
  rw [gate_eq]

/-- The second branch, weighted by its gate. -/
theorem pay4_at (p : Fin 512) (n : Fin 1024) :
    k0_pay4 yb wb gb (ix2 p n) = gate (gb (ix2 p n)) * ∑ k : Fin 512, yb (ix2 p k) * wb (ix3 0 k n) := by
  unfold k0_pay4
  pointwise
  rw [gate_eq]

/-- Row `p` of the block before the normalisation. -/
def rowBlk (x : Vec Ideal S512x1024 .f32) (p : Fin 512) : Fin 1024 → EReal :=
  hidden (fun n => x (ix2 p n))
    (mixed (fun i k => pick ya yb yc i (ix2 p k)) (fun i k d => pick wa wb wc i (ix3 0 k d)) (fun i d => pick ga gb gc i (ix2 p d)))
    (fun d n => wo (ix2 d n))

/-- The row less its mean. -/
theorem pay7_at (x : Vec Ideal S512x1024 .f32) (p : Fin 512) (n : Fin 1024) :
    k0_pay7 x (k0_pay3 ya wa ga) (k0_pay4 yb wb gb) yc wc gc wo (ix2 p n) = dev (rowBlk ga gb gc ya yb yc wa wb wc wo x p) n := by
  unfold k0_pay7
  pointwise
  simp only [pay3_at, pay4_at, gate_eq]
  unfold rowBlk hidden mixed dev mean pick
  simp only [Fin.sum_univ_three]
  rfl

/-- The sum of the squares of the row less its mean. -/
theorem pay8_at (x : Vec Ideal S512x1024 .f32) (p : Fin 512) :
    k0_pay8 x (k0_pay3 ya wa ga) (k0_pay4 yb wb gb) yc wc gc wo (ix2 p 0)
      = ∑ n, dev (rowBlk ga gb gc ya yb yc wa wb wc wo x p) n * dev (rowBlk ga gb gc ya yb yc wa wb wc wo x p) n := by
  unfold k0_pay8
  pointwise
  simp only [pay7_at]

/-- The normalised row. -/
theorem pay10_at (x : Vec Ideal S512x1024 .f32) (p : Fin 512) (n : Fin 1024) :
    k0_pay10 (k0_pay5 lg) (k0_pay6 lb) (k0_pay7 x (k0_pay3 ya wa ga) (k0_pay4 yb wb gb) yc wc gc wo)
        (k0_pay8 x (k0_pay3 ya wa ga) (k0_pay4 yb wb gb) yc wc gc wo) (k0_pay9 (F := Ideal)) (ix2 p n)
      = norm (rowBlk ga gb gc ya yb yc wa wb wc wo x p) (fun n => lg (ix2 0 n)) (fun n => lb (ix2 0 n)) n := by
  unfold k0_pay10 k0_pay5 k0_pay6 k0_pay9
  pointwise
  simp only [pay7_at, pay8_at]
  rfl

end Block

variable (m : (ℓ : Loc nD τ sig) → Buf (Elt Ideal) ℓ) (ρ : Dev nD → PrngReg)

/-- Where the windows stand at point `t`. -/
theorem idx : ∀ t : Fin cfg0.N,
    win0_0.index t = ![min t.val 63, 0] ∧ win0_1.index t = ![t.val - 64, 0]
      ∧ win0_2.index t = ![t.val, 0] ∧ win0_3.index t = ![t.val, 1] ∧ win0_4.index t = ![t.val, 2]
      ∧ win0_5.index t = ![t.val, 0] ∧ win0_6.index t = ![t.val, 0] ∧ win0_7.index t = ![t.val, 0]
      ∧ win0_8.index t = ![0, 0, 0] ∧ win0_9.index t = ![0, 0] ∧ win0_10.index t = ![0, 0] ∧ win0_11.index t = ![0, 0]
      ∧ win0_14.index t = ![t.val, 0] ∧ win0_15.index t = ![t.val, 0]
      ∧ (grid0.coords t 0).val = t.val := by
  decide +kernel

/-- The token of row `p` of point `t`'s block. -/
def tok (t : Fin cfg0.N) (p : Fin 512) : Fin 49152 :=
  ⟨t.val * 512 + p.val, by have h : t.val < 96 := t.isLt; omega⟩

section Read
variable (c : Dev nD) (t : Fin cfg0.N) (p : Fin 512)

/-- Row `p` of the block of the first array of tokens, at the points that use it. -/
theorem x0_at (h : t.val < 64) (n : Fin 1024) : (iblk m c 0 t : Vec Ideal S512x1024 .f32) (ix2 p n) = m (c.tc.loc main_arg0) (ix2 ⟨t.val * 512 + p.val, by omega⟩ n) := by
  obtain ⟨e0, e1, e2, e3, e4, e5, e6, e7, e8, e9, e10, e11, e14, e15, ec⟩ := idx t
  rw [Nat.min_eq_left (by omega)] at e0
  blk_simp [iblk, e0]
  entry_read
  pointwise
  blk_ext [iblk, V, e0]

/-- Row `p` of the block of the second array of tokens. -/
theorem x1_at (n : Fin 1024) : (iblk m c 1 t : Vec Ideal S512x1024 .f32) (ix2 p n)
    = m (c.tc.loc main_arg1) (ix2 ⟨(t.val - 64) * 512 + p.val, by have h : t.val < 96 := t.isLt; omega⟩ n) := by
  obtain ⟨e0, e1, e2, e3, e4, e5, e6, e7, e8, e9, e10, e11, e14, e15, ec⟩ := idx t
  blk_simp [iblk, e1]
  entry_read
  pointwise
  blk_ext [iblk, V, e1]

/-- Row `p` of branch 0's gates. -/
theorem gate0_at (n : Fin 1024) : (X0_2 m c t : Vec Ideal S512x1024 .bf16) (ix2 p n) = m (c.tc.loc main_arg2) (ix2 (tok t p) (gateCol 0 n)) := by
  obtain ⟨e0, e1, e2, e3, e4, e5, e6, e7, e8, e9, e10, e11, e14, e15, ec⟩ := idx t
  unfold X0_2 Pipeline.Window.fill
  rw [dif_pos (moved0_2 t _)]
  blk_simp [iblk, e2]
  entry_read
  pointwise
  unfold tok gateCol
  blk_ext [iblk, V, e2]

/-- Row `p` of branch 1's gates. -/
theorem gate1_at (n : Fin 1024) : (X0_3 m c t : Vec Ideal S512x1024 .bf16) (ix2 p n) = m (c.tc.loc main_arg2) (ix2 (tok t p) (gateCol 1 n)) := by
  obtain ⟨e0, e1, e2, e3, e4, e5, e6, e7, e8, e9, e10, e11, e14, e15, ec⟩ := idx t
  unfold X0_3 Pipeline.Window.fill
  rw [dif_pos (moved0_3 t _)]
  blk_simp [iblk, e3]
  entry_read
  pointwise
  unfold tok gateCol
  blk_ext [iblk, V, e3]

/-- Row `p` of branch 2's gates. -/
theorem gate2_at (n : Fin 1024) : (X0_4 m c t : Vec Ideal S512x1024 .bf16) (ix2 p n) = m (c.tc.loc main_arg2) (ix2 (tok t p) (gateCol 2 n)) := by
  obtain ⟨e0, e1, e2, e3, e4, e5, e6, e7, e8, e9, e10, e11, e14, e15, ec⟩ := idx t
  unfold X0_4 Pipeline.Window.fill
  rw [dif_pos (moved0_4 t _)]
  blk_simp [iblk, e4]
  entry_read
  pointwise
  unfold tok gateCol
  blk_ext [iblk, V, e4]

/-- Row `p` of branch 0's array. -/
theorem y0_at (k : Fin 512) : (iblk m c 5 t : Vec Ideal S512x512 .bf16) (ix2 p k) = m (c.tc.loc main_arg3) (ix2 (tok t p) k) := by
  obtain ⟨e0, e1, e2, e3, e4, e5, e6, e7, e8, e9, e10, e11, e14, e15, ec⟩ := idx t
  blk_simp [iblk, e5]
  entry_read
  pointwise
  unfold tok
  blk_ext [iblk, V, e5]

/-- Row `p` of branch 1's array. -/
theorem y1_at (k : Fin 512) : (iblk m c 6 t : Vec Ideal S512x512 .bf16) (ix2 p k) = m (c.tc.loc main_arg4) (ix2 (tok t p) k) := by
  obtain ⟨e0, e1, e2, e3, e4, e5, e6, e7, e8, e9, e10, e11, e14, e15, ec⟩ := idx t
  blk_simp [iblk, e6]
  entry_read
  pointwise
  unfold tok
  blk_ext [iblk, V, e6]

/-- Row `p` of branch 2's array. -/
theorem y2_at (k : Fin 512) : (iblk m c 7 t : Vec Ideal S512x512 .bf16) (ix2 p k) = m (c.tc.loc main_arg5) (ix2 (tok t p) k) := by
  obtain ⟨e0, e1, e2, e3, e4, e5, e6, e7, e8, e9, e10, e11, e14, e15, ec⟩ := idx t
  blk_simp [iblk, e7]
  entry_read
  pointwise
  unfold tok
  blk_ext [iblk, V, e7]

/-- Branch 0's weight. -/
theorem w0_at (k : Fin 512) (n : Fin 1024) : View.ld (iblk m c 8 t : Vec Ideal S3x512x1024 .bf16) (Rect.unit ![0, 0, 0] ![1, 512, 1024] inb_S3x512x1024_S1x512x1024_0_0_0) (ix3 0 k n)
    = m (c.tc.loc main_arg6) (ix3 0 k n) := by
  obtain ⟨e0, e1, e2, e3, e4, e5, e6, e7, e8, e9, e10, e11, e14, e15, ec⟩ := idx t
  blk_simp [iblk, e8]
  entry_read
  pointwise
  blk_ext [iblk, V, e8]

/-- Branch 1's weight. -/
theorem w1_at (k : Fin 512) (n : Fin 1024) : View.ld (iblk m c 8 t : Vec Ideal S3x512x1024 .bf16) (Rect.unit ![1, 0, 0] ![1, 512, 1024] inb_S3x512x1024_S1x512x1024_1_0_0) (ix3 0 k n)
    = m (c.tc.loc main_arg6) (ix3 1 k n) := by
  obtain ⟨e0, e1, e2, e3, e4, e5, e6, e7, e8, e9, e10, e11, e14, e15, ec⟩ := idx t
  blk_simp [iblk, e8]
  entry_read
  pointwise
  blk_ext [iblk, V, e8]

/-- Branch 2's weight. -/
theorem w2_at (k : Fin 512) (n : Fin 1024) : View.ld (iblk m c 8 t : Vec Ideal S3x512x1024 .bf16) (Rect.unit ![2, 0, 0] ![1, 512, 1024] inb_S3x512x1024_S1x512x1024_2_0_0) (ix3 0 k n)
    = m (c.tc.loc main_arg6) (ix3 2 k n) := by
  obtain ⟨e0, e1, e2, e3, e4, e5, e6, e7, e8, e9, e10, e11, e14, e15, ec⟩ := idx t
  blk_simp [iblk, e8]
  entry_read
  pointwise
  blk_ext [iblk, V, e8]

/-- The output weight. -/
theorem wo_at (k n : Fin 1024) : (iblk m c 9 t : Vec Ideal S1024x1024 .bf16) (ix2 k n) = m (c.tc.loc main_arg7) (ix2 k n) := by
  obtain ⟨e0, e1, e2, e3, e4, e5, e6, e7, e8, e9, e10, e11, e14, e15, ec⟩ := idx t
  blk_simp [iblk, e9]
  entry_read
  pointwise
  blk_ext [iblk, V, e9]

/-- The normalisation's scale. -/
theorem scale_at (n : Fin 1024) : (iblk m c 10 t : Vec Ideal S1x1024 .f32) (ix2 0 n) = m (c.tc.loc main_arg8) (ix1 n) := by
  obtain ⟨e0, e1, e2, e3, e4, e5, e6, e7, e8, e9, e10, e11, e14, e15, ec⟩ := idx t
  blk_simp [iblk, e10]
  entry_read
  pointwise
  blk_ext [iblk, V, e10]

/-- The normalisation's shift. -/
theorem shift_at (n : Fin 1024) : (iblk m c 11 t : Vec Ideal S1x1024 .f32) (ix2 0 n) = m (c.tc.loc main_arg9) (ix1 n) := by
  obtain ⟨e0, e1, e2, e3, e4, e5, e6, e7, e8, e9, e10, e11, e14, e15, ec⟩ := idx t
  blk_simp [iblk, e11]
  entry_read
  pointwise
  blk_ext [iblk, V, e11]

/-- The test that chooses the array of tokens. -/
theorem test : ∀ t : Fin 96, Scalar.cmpi .slt (BitVec.ofNat 32 t.val) 64#32 = if t.val < 64 then 1#1 else 0#1 := by decide +kernel

/-- The token's row the point works on: of the first array while its blocks last, then of the second. -/
theorem sel_at (n : Fin 1024) : k0_pay2 (grid0.coords t) (iblk m c 0 t) (iblk m c 1 t) (ix2 p n)
    = rowOf (fun r n => m (c.tc.loc main_arg0) (ix2 r n)) (fun r n => m (c.tc.loc main_arg1) (ix2 r n)) (tok t p) n := by
  have ht : t.val < 96 := t.isLt
  obtain ⟨e0, e1, e2, e3, e4, e5, e6, e7, e8, e9, e10, e11, e14, e15, ec⟩ := idx t
  unfold k0_pay2 rowOf
  pointwise
  rw [ec, test ⟨t.val, ht⟩]
  by_cases h : t.val < 64
  · rw [if_pos h, dif_pos (show (tok t p).val < 32768 by unfold tok; show t.val * 512 + p.val < 32768; omega)]
    exact x0_at m c t p h n
  · rw [if_neg h, dif_neg (show ¬ (tok t p).val < 32768 by unfold tok; show ¬ t.val * 512 + p.val < 32768; omega)]
    refine (x1_at m c t p n).trans (congrArg (fun r => m (c.tc.loc main_arg1) (ix2 r n)) (Fin.ext ?_))
    show (t.val - 64) * 512 + p.val = t.val * 512 + p.val - 32768
    omega

/-- Row `p` of the block before the normalisation is the token's row. -/
theorem row_at : rowBlk (X0_2 m c t) (X0_3 m c t) (X0_4 m c t) (iblk m c 5 t) (iblk m c 6 t) (iblk m c 7 t)
      (View.ld (iblk m c 8 t) (Rect.unit ![0, 0, 0] ![1, 512, 1024] inb_S3x512x1024_S1x512x1024_0_0_0))
      (View.ld (iblk m c 8 t) (Rect.unit ![1, 0, 0] ![1, 512, 1024] inb_S3x512x1024_S1x512x1024_1_0_0))
      (View.ld (iblk m c 8 t) (Rect.unit ![2, 0, 0] ![1, 512, 1024] inb_S3x512x1024_S1x512x1024_2_0_0))
      (iblk m c 9 t) (k0_pay2 (grid0.coords t) (iblk m c 0 t) (iblk m c 1 t)) p
    = row (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (tok t p) := by
  funext n
  unfold rowBlk row hidden mixed
  simp only [Fin.sum_univ_three, pick, Matrix.cons_val_zero, Matrix.cons_val_one, Matrix.cons_val]
  refine congrArg₂ (· + ·) (congrArg (_ * ·) (sel_at m c t p n)) (Finset.sum_congr rfl fun d _ => congrArg₂ (· * ·) ?_ (wo_at m c t d n))
  refine congrArg₂ (· + ·) (congrArg₂ (· + ·) (congrArg₂ (· * ·) (congrArg gate (gate0_at m c t p d)) ?_)
    (congrArg₂ (· * ·) (congrArg gate (gate1_at m c t p d)) ?_)) (congrArg₂ (· * ·) (congrArg gate (gate2_at m c t p d)) ?_)
  · exact Finset.sum_congr rfl fun k _ => congrArg₂ (· * ·) (y0_at m c t p k) (w0_at m c t k d)
  · exact Finset.sum_congr rfl fun k _ => congrArg₂ (· * ·) (y1_at m c t p k) (w1_at m c t k d)
  · exact Finset.sum_congr rfl fun k _ => congrArg₂ (· * ·) (y2_at m c t p k) (w2_at m c t k d)

end Read

/-- The result of the arguments in memory. -/
abbrev result (c : Dev nD) : Vec Ideal S49152x1024 .f32 :=
  spec (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))

/-- What point `t` writes at row `p`. -/
theorem block_at (c : Dev nD) (t : Fin cfg0.N) (p : Fin 512) (n : Fin 1024) : k0_pay10 (k0_pay5 (iblk m c 10 t)) (k0_pay6 (iblk m c 11 t))
      (k0_pay7 (k0_pay2 (grid0.coords t) (iblk m c 0 t) (iblk m c 1 t))
        (k0_pay3 (iblk m c 5 t) (View.ld (iblk m c 8 t) (Rect.unit ![0, 0, 0] ![1, 512, 1024] inb_S3x512x1024_S1x512x1024_0_0_0)) (X0_2 m c t))
        (k0_pay4 (iblk m c 6 t) (View.ld (iblk m c 8 t) (Rect.unit ![1, 0, 0] ![1, 512, 1024] inb_S3x512x1024_S1x512x1024_1_0_0)) (X0_3 m c t))
        (iblk m c 7 t) (View.ld (iblk m c 8 t) (Rect.unit ![2, 0, 0] ![1, 512, 1024] inb_S3x512x1024_S1x512x1024_2_0_0))
        (X0_4 m c t) (iblk m c 9 t))
      (k0_pay8 (k0_pay2 (grid0.coords t) (iblk m c 0 t) (iblk m c 1 t))
        (k0_pay3 (iblk m c 5 t) (View.ld (iblk m c 8 t) (Rect.unit ![0, 0, 0] ![1, 512, 1024] inb_S3x512x1024_S1x512x1024_0_0_0)) (X0_2 m c t))
        (k0_pay4 (iblk m c 6 t) (View.ld (iblk m c 8 t) (Rect.unit ![1, 0, 0] ![1, 512, 1024] inb_S3x512x1024_S1x512x1024_1_0_0)) (X0_3 m c t))
        (iblk m c 7 t) (View.ld (iblk m c 8 t) (Rect.unit ![2, 0, 0] ![1, 512, 1024] inb_S3x512x1024_S1x512x1024_2_0_0))
        (X0_4 m c t) (iblk m c 9 t))
      (k0_pay9 (F := Ideal)) (ix2 p n) = result m c (ix2 (tok t p) n) := by
  refine (pay10_at _ _ _ _ _ _ _ _ _ _ _ _ _ p n).trans ?_
  rw [row_at]
  unfold result spec
  simp only [scale_at, shift_at]
  rfl

/-- The first result array after the run. -/
theorem final14 (c : Dev nD) : (dats m 0 c).arrAt 14 cfg0.N = result m c := by
  refine (dats m 0 c).arrAt_eq_of_covers 14 _ (by decide +kernel) fun t hf y => ?_
  obtain ⟨e0, e1, e2, e3, e4, e5, e6, e7, e8, e9, e10, e11, e14, e15, ec⟩ := idx t
  blk_simp
  rw [after0_14]
  unfold outsAt0
  frame_out
  obtain ⟨p, n, rfl⟩ : ∃ (p : Fin 512) (n : Fin 1024), y = ix2 p n := ⟨y 0, y 1, eq_ix2 y⟩
  refine (block_at m c t p n).trans (congrArg (result m c) ?_)
  unfold tok
  blk_ext [e14]

/-- The second result array after the run: the same entries, rounded to bf16, which over the extended reals changes nothing. -/
theorem final15 (c : Dev nD) : (dats m 0 c).arrAt 15 cfg0.N = result m c := by
  refine (dats m 0 c).arrAt_eq_of_covers 15 _ (by decide +kernel) fun t hf y => ?_
  obtain ⟨e0, e1, e2, e3, e4, e5, e6, e7, e8, e9, e10, e11, e14, e15, ec⟩ := idx t
  blk_simp
  rw [after0_15]
  unfold outsAt0
  frame_out
  obtain ⟨p, n, rfl⟩ : ∃ (p : Fin 512) (n : Fin 1024), y = ix2 p n := ⟨y 0, y 1, eq_ix2 y⟩
  unfold k0_pay11
  refine (block_at m c t p n).trans (congrArg (result m c) ?_)
  unfold tok
  blk_ext [e15]

/-- The kernel's run: both results are `spec` of the arguments, which end as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v18_0) = result m c ∧ r.2.mem ((c.tc : Thread nD τ).loc main_v18_1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (final14 m c), (h c).2.1.trans (final15 m c), (h c).2.2.2.2⟩) (Value.run_blocks m ρ)

/-- The claim: both programs end with `spec` of the arguments. -/
theorem algebraic : Cert.algebraic_MergeIdeal_MergeRefIdeal := by
  pair_intro
  · exact run m g
  · run_from Cert.MergeRefIdeal.Value.run (F := Ideal) m' g'
    · obtain ⟨h0, h1, h2, h3, h4, h5, h6, h7, h8, h9, -⟩ := hagree c
      refine (Ref.value m' c).trans ?_
      rw [h0, h1, h2, h3, h4, h5, h6, h7, h8, h9]
    · obtain ⟨h0, h1, h2, h3, h4, h5, h6, h7, h8, h9, -⟩ := hagree c
      refine (show _ = MergeRefIdeal.Value.res_main_v45 m' c from rfl).trans ((Ref.value m' c).trans ?_)
      rw [h0, h1, h2, h3, h4, h5, h6, h7, h8, h9]

end Cert.Proof.Merge

end
-- ==== Proof.PoolSpec.lean ====
/-
  The pooling branch in plain terms. Column group `g` of 128 columns has a window of `2 * half g` positions, from `half g` before a
  position to `half g - 1` after it, cut off at the sequence's ends. A position's entries are the window's mean less the entries
  themselves; each group's 128 entries go through the group's own matrix, and every column is scaled.
  The window's sum is written in two ways here: over the positions of the sequence that lie in the window, and over the window's own
  length in a sequence set between zeros. Both are the same sum.
-/
module

public import Idealize.ShloMosaic.Lib.Pointwise
public import Idealize.ShloMosaic.Lib.Claim

@[expose] public section

noncomputable section

namespace Cert.Proof.Pool

open Idealize.ShloMosaic

/-- Half the length of group `g`'s window. -/
def half (g : Fin 4) : ℕ := 2 ^ g.val

/-- The sum of the entries at the positions in the window of position `s`. -/
def total (h : ℕ) (u : Fin 2048 → EReal) (s : Fin 2048) : EReal :=
  ∑ k : Fin 2048, if s.val ≤ k.val + h ∧ k.val < s.val + h then u k else 0

/-- How many positions the window of position `s` has, as a 32-bit word. -/
def count (h : BitVec 32) (s : Fin 2048) : BitVec 32 :=
  IntOp.subi (IntOp.minsi (IntOp.addi (BitVec.ofNat 32 s.val) h) 2048#32) (IntOp.maxsi (IntOp.subi (BitVec.ofNat 32 s.val) h) 0#32)

/-- The window's mean less the entry itself. -/
def centred (g : Fin 4) (u : Fin 2048 → EReal) (s : Fin 2048) : EReal :=
  Ideal.div (total (half g) u s) (FloatOps.sitofp (F := Ideal) .f32 (count (BitVec.ofNat 32 (half g)) s)) - u s

/-- The sequence between eight zeros before it and zeros after it: position `s` stands at row `s + 8`. -/
def padded (u : Fin 2048 → EReal) (r : ℕ) : EReal :=
  if h : 8 ≤ r ∧ r < 2056 then u ⟨r - 8, by omega⟩ else 0

/-- A row of the padded sequence, picked out of the sequence by a sum. -/
theorem padded_eq_sum (u : Fin 2048 → EReal) (r : ℕ) : padded u r = ∑ k : Fin 2048, if k.val + 8 = r then u k else 0 := by
  unfold padded
  split
  · rename_i h
    rw [Finset.sum_eq_single (⟨r - 8, by omega⟩ : Fin 2048)]
    · rw [if_pos (by show r - 8 + 8 = r; omega)]
    · intro k _ hk
      rw [if_neg]
      intro e
      exact hk (Fin.ext (by show k.val = r - 8; omega))
    · intro hk
      exact absurd (Finset.mem_univ _) hk
  · rename_i h
    refine (Finset.sum_eq_zero fun k _ => ?_).symm
    rw [if_neg]
    intro e
    exact h ⟨by omega, by omega⟩

/-- The window's sum over the window's own length: `2 * h` rows of the padded sequence, the last of them row `s + h + 7`. -/
theorem sum_padded (h : ℕ) (hh : h ≤ 8) (u : Fin 2048 → EReal) (s : Fin 2048) :
    ∑ i ∈ Finset.range (2 * h), padded u (s.val + h + 7 - i) = total h u s := by
  unfold total
  simp only [padded_eq_sum]
  rw [Finset.sum_comm]
  refine Finset.sum_congr rfl fun k _ => ?_
  by_cases hk : s.val ≤ k.val + h ∧ k.val < s.val + h
  · rw [if_pos hk, Finset.sum_eq_single (s.val + h - 1 - k.val)]
    · rw [if_pos (by omega)]
    · intro i hi hne
      have := Finset.mem_range.mp hi
      rw [if_neg (by omega)]
    · intro hi
      exact absurd (Finset.mem_range.mpr (by omega)) hi
  · rw [if_neg hk]
    refine Finset.sum_eq_zero fun i hi => ?_
    have := Finset.mem_range.mp hi
    rw [if_neg (by omega)]

/-- A run of `w` rows and the `w` rows before it are a run of `2 * w` rows. -/
theorem sum_double (f : ℕ → EReal) (w r : ℕ) :
    (∑ i ∈ Finset.range w, f (r - i)) + (∑ i ∈ Finset.range w, f (r - w - i)) = ∑ i ∈ Finset.range (2 * w), f (r - i) := by
  rw [two_mul, Finset.sum_range_add]
  simp only [Nat.sub_sub]

/-- One entry of the branch: the group's centred entries times a column of the group's matrix, scaled. -/
def entry (g : Fin 4) (u : Fin 2048 → Fin 128 → EReal) (w : Fin 128 → EReal) (sc : EReal) (s : Fin 2048) : EReal :=
  (∑ k : Fin 128, centred g (fun s' => u s' k) s * w k) * sc

/-- The branch as an array over the projection, the groups' matrices and the scales: the branch's columns of the projection begin at
    column 7680, group after group. -/
def result (pr : FVec Ideal ⟨2, ![49152, 9728]⟩ .bf16) (w : FVec Ideal ⟨3, ![4, 128, 128]⟩ .f32) (sc : FVec Ideal ⟨1, ![512]⟩ .f32) :
    FVec Ideal ⟨3, ![24, 2048, 512]⟩ .bf16 := fun j =>
  entry ⟨(j 2).val / 128, by have h : (j 2).val < 512 := (j 2).isLt; omega⟩
    (fun s k => pr (ix2 ⟨(j 0).val * 2048 + s.val, by have h : (j 0).val < 24 := (j 0).isLt; omega⟩
      ⟨7680 + (j 2).val / 128 * 128 + k.val, by have h : (j 2).val < 512 := (j 2).isLt; omega⟩))
    (fun k => w (ix3 ⟨(j 2).val / 128, by have h : (j 2).val < 512 := (j 2).isLt; omega⟩ k
      ⟨(j 2).val % 128, Nat.mod_lt _ (by decide)⟩))
    (sc (ix1 ⟨(j 2).val, (j 2).isLt⟩)) (j 1)

end Cert.Proof.Pool

end
-- ==== Proof.PoolRef.lean ====
/-
  The pooling branch's reference over the extended reals, an operation at a time: a table of zeros and ones says which positions lie
  in which window, and the sums over the windows are one product with that table.
-/
module

public import proofs.«01_k».proof.Defs
public import proofs.«01_k».proof.Proof.Gen.PoolRefIdeal.Run
public import proofs.«01_k».proof.Proof.PoolSpec
public import Idealize.ShloMosaic.Lib.Pointwise
public import Idealize.ShloMosaic.Lib.WordCmp

@[expose] public section

set_option maxRecDepth 16384

noncomputable section

namespace Cert.Proof.Pool.Ref

open Cert.PoolRefIdeal Cert.PoolRefIdeal.Gen Idealize.ShloMosaic Idealize.ShloMosaic.TcCoe Idealize.SL.Sem

/-- Each group's half window, as a table of four words. -/
def halves : IVec S4 32 := fun i => lit0 (S4.rowMajor i)

/-- The positions, a row per group. -/
def places : IVec S4x2048 32 :=
  broadcastInDim S4x2048 ![0, 1] bcast_S1x2048_S4x2048_0_1 (broadcastInDim S1x2048 ![1] bcast_S2048_S1x2048_1 (iotaInDim S2048 32 0))

/-- Each group's half window, a row per group. -/
def halfRows : IVec S4x2048 32 :=
  broadcastInDim S4x2048 ![0, 1] bcast_S4x1_S4x2048_0_1 (broadcastInDim S4x1 ![0] bcast_S4_S4x1_0 halves)

/-- The first position of each window. -/
def lows : IVec S4x2048 32 := maxsi (subi places halfRows) (broadcastInDim S4x2048 ![] bcast_S_S4x2048 (constantI S_ 32 0#32))

/-- The position after the last of each window. -/
def highs : IVec S4x2048 32 := minsi (addi places halfRows) (broadcastInDim S4x2048 ![] bcast_S_S4x2048 (constantI S_ 32 2048#32))

/-- The table: one where the last position lies in the window of the middle one, else zero. -/
def weights : FVec Ideal S4x2048x2048 .f32 :=
  select (andi (cmpi .sge (broadcastInDim S4x2048x2048 ![0, 1, 2] bcast_S1x1x2048_S4x2048x2048_0_1_2 (broadcastInDim S1x1x2048 ![2] bcast_S2048_S1x1x2048_2 (iotaInDim S2048 32 0)))
      (broadcastInDim S4x2048x2048 ![0, 1, 2] bcast_S4x2048x1_S4x2048x2048_0_1_2 (broadcastInDim S4x2048x1 ![0, 1] bcast_S4x2048_S4x2048x1_0_1 lows)))
    (cmpi .slt (broadcastInDim S4x2048x2048 ![0, 1, 2] bcast_S1x1x2048_S4x2048x2048_0_1_2 (broadcastInDim S1x1x2048 ![2] bcast_S2048_S1x1x2048_2 (iotaInDim S2048 32 0)))
      (broadcastInDim S4x2048x2048 ![0, 1, 2] bcast_S4x2048x1_S4x2048x2048_0_1_2 (broadcastInDim S4x2048x1 ![0, 1] bcast_S4x2048_S4x2048x1_0_1 highs))))
    (broadcastInDim S4x2048x2048 ![] bcast_S_S4x2048x2048 (constant S_ .f32 0x3F800000#32))
    (broadcastInDim S4x2048x2048 ![] bcast_S_S4x2048x2048 (constant S_ .f32 0x00000000#32))

/-- An entry of the table of half windows. -/
theorem halves_at (g : Fin 4) : halves (ix1 g) = BitVec.ofNat 32 (half g) := by
  revert g; decide +kernel

/-- An entry of the first positions. -/
theorem lows_at (g : Fin 4) (s : Fin 2048) : lows (ix2 g s) = IntOp.maxsi (IntOp.subi (BitVec.ofNat 32 s.val) (BitVec.ofNat 32 (half g))) 0#32 := by
  unfold lows places halfRows
  pointwise
  rw [halves_at]

/-- An entry of the ends. -/
theorem highs_at (g : Fin 4) (s : Fin 2048) : highs (ix2 g s) = IntOp.minsi (IntOp.addi (BitVec.ofNat 32 s.val) (BitVec.ofNat 32 (half g))) 2048#32 := by
  unfold highs places halfRows
  pointwise
  rw [halves_at]

/-- The first position as a number. -/
theorem low_eq : ∀ (g : Fin 4) (s : Fin 2048),
    IntOp.maxsi (IntOp.subi (BitVec.ofNat 32 s.val) (BitVec.ofNat 32 (half g))) 0#32 = BitVec.ofNat 32 (s.val - half g) := by
  decide +kernel

/-- The end as a number. -/
theorem high_eq : ∀ (g : Fin 4) (s : Fin 2048),
    IntOp.minsi (IntOp.addi (BitVec.ofNat 32 s.val) (BitVec.ofNat 32 (half g))) 2048#32 = BitVec.ofNat 32 (min (s.val + half g) 2048) := by
  decide +kernel

/-- An entry of the table. -/
theorem weights_at (g : Fin 4) (s k : Fin 2048) :
    weights (ix3 g s k) = if s.val ≤ k.val + half g ∧ k.val < s.val + half g then (1 : EReal) else 0 := by
  unfold weights
  pointwise
  rw [lows_at, highs_at, low_eq, high_eq]
  have h1 : s.val - half g < 2 ^ (32 - 1) := by omega
  have h2 : min (s.val + half g) 2048 < 2 ^ (32 - 1) := by omega
  have h3 : k.val < 2 ^ (32 - 1) := by omega
  rw [WordCmp.cmpi_sge_ofNat h3 h1, WordCmp.cmpi_slt_ofNat h3 h2, WordCmp.andi_ofBool, WordCmp.select_ofBool]
  refine if_congr ?_ rfl rfl
  rw [Bool.and_eq_true, decide_eq_true_iff, decide_eq_true_iff]
  omega

variable (pr : FVec Ideal S49152x9728 .bf16) (w : FVec Ideal S4x128x128 .f32) (sc : FVec Ideal S512 .f32)

/-- The branch's columns of the projection, cut into sequences and groups. -/
def seqs : FVec Ideal S24x2048x4x128 .f32 :=
  shapeCast S24x2048x4x128 (extf .f32 (extractStridedSlice S24x2048x512 ![0, 0, 7680] (shapeCast S24x2048x9728 pr shapeCasts_S49152x9728_S24x2048x9728) slices_S24x2048x9728_S24x2048x512_0_0_7680) bitsLt_bf16_f32) shapeCasts_S24x2048x512_S24x2048x4x128

/-- An entry of them. -/
theorem seqs_at (b : Fin 24) (s : Fin 2048) (g : Fin 4) (n : Fin 128) : seqs pr (ix4 b s g n) = pr (ix2 ⟨b.val * 2048 + s.val, by omega⟩ ⟨7680 + g.val * 128 + n.val, by omega⟩) := by
  unfold seqs
  pointwise
  refine congrArg pr (congrArg₂ ix2 rfl (Fin.ext ?_))
  exact (Nat.add_assoc _ _ _).symm

/-- The sums over the windows. -/
def totals (u : FVec Ideal S24x2048x4x128 .f32) (v : FVec Ideal S4x2048x2048 .f32) : FVec Ideal S24x2048x4x128 .f32 :=
  transpose S24x2048x4x128 [1, 3, 0, 2] (Host.dotGeneral dot_S24x2048x4x128_S4x2048x2048_S4x24x128x2048_1_2_03_1_2_0 none u v) transposes_S4x24x128x2048_S24x2048x4x128_1_3_0_2

/-- An entry of the sums. -/
theorem totals_at (u v) (b : Fin 24) (s : Fin 2048) (g : Fin 4) (n : Fin 128) : totals u v (ix4 b s g n) = ∑ k : Fin 2048, u (ix4 b k g n) * v (ix3 g s k) := by
  unfold totals
  pointwise

/-- The windows' lengths, at every entry. -/
def counts : FVec Ideal S24x2048x4x128 .f32 :=
  broadcastInDim S24x2048x4x128 ![0, 1, 2, 3] bcast_S1x2048x4x1_S24x2048x4x128_0_1_2_3 (broadcastInDim S1x2048x4x1 ![1, 2] bcast_S2048x4_S1x2048x4x1_1_2 (transpose S2048x4 [1, 0] (sitofp .f32 (subi highs lows)) transposes_S4x2048_S2048x4_1_0))

/-- An entry of them. -/
theorem counts_at (b : Fin 24) (s : Fin 2048) (g : Fin 4) (n : Fin 128) : counts (ix4 b s g n) = FloatOps.sitofp (F := Ideal) .f32 (count (BitVec.ofNat 32 (half g)) s) := by
  unfold counts
  pointwise
  rw [highs_at, lows_at]
  rfl

/-- Each group times its own matrix. -/
def mix (v : FVec Ideal S24x2048x4x128 .f32) : FVec Ideal S24x2048x4x128 .f32 :=
  transpose S24x2048x4x128 [2, 3, 0, 1] (Host.dotGeneral dot_S4x128x128_S24x2048x4x128_S4x128x24x2048_1_3_2_01_0_2 none w v) transposes_S4x128x24x2048_S24x2048x4x128_2_3_0_1

/-- An entry of the product. -/
theorem mix_at (v) (b : Fin 24) (s : Fin 2048) (g : Fin 4) (n : Fin 128) : mix w v (ix4 b s g n) = ∑ k : Fin 128, w (ix3 g k n) * v (ix4 b s g k) := by
  unfold mix
  pointwise

/-- The groups set side by side again, every column scaled. -/
def scaled (v : FVec Ideal S24x2048x4x128 .f32) : FVec Ideal S24x2048x512 .f32 :=
  mulf (shapeCast S24x2048x512 v shapeCasts_S24x2048x4x128_S24x2048x512) (broadcastInDim S24x2048x512 ![0, 1, 2] bcast_S1x1x512_S24x2048x512_0_1_2 (broadcastInDim S1x1x512 ![2] bcast_S512_S1x1x512_2 sc))

/-- An entry of the result. -/
theorem scaled_at (v) (b : Fin 24) (s : Fin 2048) (q : Fin 512) : scaled sc v (ix3 b s q) = v (ix4 b s ⟨q.val / 128, by omega⟩ ⟨q.val % 128, by omega⟩) * sc (ix1 q) := by
  unfold scaled
  pointwise

/-- The result, an entry at a time. -/
theorem result_at (b : Fin 24) (s : Fin 2048) (q : Fin 512) :
    scaled sc (mix w (subf (Host.divf (totals (seqs pr) weights) counts) (seqs pr))) (ix3 b s q)
      = result pr w sc (ix3 b s q) := by
  rw [scaled_at, mix_at]
  unfold result entry centred total
  refine congrArg (· * sc (ix1 q)) (Finset.sum_congr rfl fun k _ => ?_)
  rw [mul_comm]
  refine congrArg (· * w _) ?_
  pointwise
  rw [totals_at, counts_at]
  simp only [seqs_at, weights_at, mul_ite, mul_one, mul_zero]

/-- The reference's result is the branch of its arguments. -/
theorem value : truncf .bf16 (scaled sc (mix w (subf (Host.divf (totals (seqs pr) weights) counts) (seqs pr)))) bitsLt_bf16_f32
      = result pr w sc := by
  funext j
  obtain ⟨b, s, q, rfl⟩ : ∃ (b : Fin 24) (s : Fin 2048) (q : Fin 512), j = ix3 b s q := ⟨j 0, j 1, j 2, eq_ix3 j⟩
  exact result_at _ _ _ b s q

end Cert.Proof.Pool.Ref

end
-- ==== Proof.PoolValue.lean ====
/-
  The pooling branch's kernel over the extended reals: a grid point takes one sequence, and for each group of columns sets the
  sequence between zeros in a scratch, doubles the run of rows that each row sums until the run is the group's window, and moves the
  sums to the window's middle. That is the sum over the window's positions, so the point's block is the branch of its sequence, and
  the array after the last point is the branch of the arguments. The reference's result is the same, which is the claim.
-/
module

public import proofs.«01_k».proof.Defs
public import proofs.«01_k».proof.Proof.PoolSpec
public import proofs.«01_k».proof.Proof.PoolRef
public import proofs.«01_k».proof.Proof.Gen.PoolIdeal.Value
public import proofs.«01_k».proof.Proof.Gen.PoolRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Pool

open Cert.PoolIdeal Cert.PoolIdeal.Gen Idealize.ShloMosaic Idealize.ShloMosaic.TcCoe Idealize.SL.Sem
open Idealize.ShloMosaic.Pipeline (Dat)

/-! ## The scratch: a sequence between zeros, and runs of its rows -/

/-- A row rotated into place: row `r` of the rotated block is row `r'`, `k` rows before it round the block. -/
theorem roll_at (x : FVec Ideal S2064x128 .f32) (k : BitVec 32) (r r' : Fin 2064) (n : Fin 128)
    (h : r'.val = (r.val + 2064 - k.toNat % 2064) % 2064) :
    dynamicRotate 0 k none x rotates_S2064x128_d0 (ix2 r n) = x (ix2 r' n) := by
  unfold dynamicRotate
  refine congrArg x (funext fun b => ?_)
  fin_cases b
  · exact Fin.ext h.symm
  · rfl

/-- Every row from row `w - 1` on is the sum of the `w` rows of `f` that end there. -/
def Runs (x : FVec Ideal S2064x128 .f32) (f : Fin 128 → ℕ → EReal) (w : ℕ) : Prop :=
  ∀ (r : Fin 2064) (n : Fin 128), w ≤ r.val + 1 → x (ix2 r n) = ∑ i ∈ Finset.range w, f n (r.val - i)

/-- Adding the rows `w` before doubles the runs. -/
theorem Runs.double {x : FVec Ideal S2064x128 .f32} {f : Fin 128 → ℕ → EReal} {w : ℕ} (h : Runs x f w) (k : BitVec 32)
    (hk : k.toNat = w) (hw : w < 2064) : Runs (addf x (dynamicRotate 0 k none x rotates_S2064x128_d0)) f (2 * w) := by
  intro r n hr
  have hlt := r.isLt
  rw [← sum_double, ← h r n (by omega)]
  have e := h ⟨r.val - w, by omega⟩ n (by show w ≤ r.val - w + 1; omega)
  rw [← e, ← roll_at x k r ⟨r.val - w, by omega⟩ n (by
    show r.val - w = _
    rw [hk, Nat.mod_eq_of_lt hw, show r.val + 2064 - w = r.val - w + 2064 from by omega, Nat.add_mod_right,
      Nat.mod_eq_of_lt (by omega)])]
  rfl

/-- The middle of the block: the rows from row 8 on. -/
theorem middle_at (x : FVec Ideal S2064x128 .f32) (s : Fin 2048) (n : Fin 128) :
    extractStridedSlice S2048x128 ![8, 0] x slices_S2064x128_o8_0_S2048x128 (ix2 s n) = x (ix2 ⟨s.val + 8, by omega⟩ n) := by
  pointwise
  exact congrArg x (congrArg₂ ix2 (Fin.ext (Nat.add_comm _ _)) rfl)

/-- The scratch after a group's three stores: the sequence between zeros. -/
theorem scratch_at (zt zh : FVec Ideal S8x128 .f32) (a : FVec Ideal S2048x128 .f32) (L : List (View.Piece (Elt Ideal) S2064x128 .f32))
    (ht : ∀ i, zt i = 0) (hh : ∀ i, zh i = 0) (r : Fin 2064) (n : Fin 128) :
    ((View.whole cc0_scratch0).readCov (⟨Rect.unit ![2056, 0] ![8, 128] inb_S2064x128_S8x128_2056_0, zt⟩
        :: ⟨Rect.unit ![8, 0] ![2048, 128] inb_S2064x128_S2048x128_8_0, a⟩
        :: ⟨Rect.unit ![0, 0] ![8, 128] inb_S2064x128_S8x128_0_0, zh⟩ :: L)
        (Rect.unit ![0, 0] ![2064, 128] inb_S2064x128_S2064x128_0_0 : Rect S2064x128).toLoadRect : FVec Ideal S2064x128 .f32) (ix2 r n)
      = padded (fun s => a (ix2 s n)) r.val := by
  rw [View.readCov_eq_canon']
  have e : (Rect.unit ![0, 0] ![2064, 128] inb_S2064x128_S2064x128_0_0 : Rect S2064x128).toLoadRect.idx (ix2 r n) = ix2 r n := by
    funext b
    fin_cases b
    · exact Fin.ext (by show 0 + 1 * r.val = r.val; omega)
    · exact Fin.ext (by show 0 + 1 * n.val = n.val; omega)
  show View.canon _ ((Rect.unit ![0, 0] ![2064, 128] inb_S2064x128_S2064x128_0_0 : Rect S2064x128).toLoadRect.idx (ix2 r n)) = _
  rw [e]
  unfold padded
  by_cases h1 : 2056 ≤ r.val
  · rw [dif_neg (by omega)]
    have e1 : (Rect.unit ![2056, 0] ![8, 128] inb_S2064x128_S8x128_2056_0 : Rect S2064x128).emb (ix2 ⟨r.val - 2056, by omega⟩ n) = ix2 r n := by
      funext b
      fin_cases b
      · exact Fin.ext (by show 2056 + 1 * (r.val - 2056) = r.val; omega)
      · exact Fin.ext (by show 0 + 1 * n.val = n.val; omega)
    rw [← e1, View.canon_cons_emb]
    exact ht _
  · rw [View.canon_cons_of_not_mem _ _ (by
      rw [Rect.mem_set_unit]
      intro h
      have h0 : 2056 ≤ r.val ∧ r.val < 2056 + 8 := h 0
      omega)]
    by_cases h2 : 8 ≤ r.val
    · rw [dif_pos (by omega)]
      have e2 : (Rect.unit ![8, 0] ![2048, 128] inb_S2064x128_S2048x128_8_0 : Rect S2064x128).emb (ix2 ⟨r.val - 8, by omega⟩ n) = ix2 r n := by
        funext b
        fin_cases b
        · exact Fin.ext (by show 8 + 1 * (r.val - 8) = r.val; omega)
        · exact Fin.ext (by show 0 + 1 * n.val = n.val; omega)
      rw [← e2, View.canon_cons_emb]
    · rw [dif_neg (by omega), View.canon_cons_of_not_mem _ _ (by
        rw [Rect.mem_set_unit]
        intro h
        have h0 : 8 ≤ r.val ∧ r.val < 8 + 2048 := h 0
        omega)]
      have e3 : (Rect.unit ![0, 0] ![8, 128] inb_S2064x128_S8x128_0_0 : Rect S2064x128).emb (ix2 ⟨r.val, by omega⟩ n) = ix2 r n := by
        funext b
        fin_cases b
        · exact Fin.ext (by show 0 + 1 * r.val = r.val; omega)
        · exact Fin.ext (by show 0 + 1 * n.val = n.val; omega)
      rw [← e3, View.canon_cons_emb]
      exact hh _

/-! ## What each group computes -/

/-- The scratch holds a sequence between zeros: every row is a run of one row. -/
def Holds (P : FVec Ideal S2064x128 .f32) (u : Fin 128 → Fin 2048 → EReal) : Prop :=
  ∀ (r : Fin 2064) (n : Fin 128), P (ix2 r n) = padded (u n) r.val

/-- So its rows are runs of one row. -/
theorem Holds.runs {P : FVec Ideal S2064x128 .f32} {u : Fin 128 → Fin 2048 → EReal} (h : Holds P u) : Runs P (fun n => padded (u n)) 1 := by
  intro r n _
  rw [h r n, Finset.sum_range_one]
  rfl

/-- Runs of `2 * h` rows, moved up by `h - 1` rows, are the window's sums. -/
theorem window_at {X : FVec Ideal S2064x128 .f32} {u : Fin 128 → Fin 2048 → EReal} (h : ℕ) (h0 : 1 ≤ h) (h8 : h ≤ 8)
    (hX : Runs X (fun n => padded (u n)) (2 * h)) (s : Fin 2048) (n : Fin 128) (r : Fin 2064) (hr : r.val = s.val + 8 + (h - 1)) :
    X (ix2 r n) = total h (u n) s := by
  rw [hX r n (by omega), ← sum_padded h h8]
  refine Finset.sum_congr rfl fun i _ => ?_
  show padded (u n) _ = _
  rw [hr, show s.val + 8 + (h - 1) = s.val + h + 7 from by omega]

/-- The counts the kernel takes, as the window's lengths. -/
theorem count_eq (h a : BitVec 32) (e : a + 1#32 = h) (s : Fin 2048) :
    IntOp.subi (IntOp.minsi (IntOp.addi (IntOp.addi (BitVec.ofNat 32 s.val) a) 1#32) 2048#32)
      (IntOp.maxsi (IntOp.subi (BitVec.ofNat 32 s.val) h) 0#32) = count h s := by
  unfold count
  subst e
  show IntOp.subi (IntOp.minsi (BitVec.ofNat 32 s.val + a + 1#32) _) _ = IntOp.subi (IntOp.minsi (BitVec.ofNat 32 s.val + (a + 1#32)) _) _
  rw [BitVec.add_assoc]

variable (v : FVec Ideal S1x2048x128 .bf16) (P : FVec Ideal S2064x128 .f32)

/-- The first group's sums. -/
theorem total0 (hP : Holds P fun n s => v (ix3 0 s n)) (s : Fin 2048) (n : Fin 128) :
    extractStridedSlice S2048x128 ![8, 0] (addf P (dynamicRotate 0 1#32 none P rotates_S2064x128_d0)) slices_S2064x128_o8_0_S2048x128 (ix2 s n)
      = total (half 0) (fun s' => v (ix3 0 s' n)) s := by
  rw [middle_at]
  exact window_at 1 (by decide) (by decide) (hP.runs.double 1#32 rfl (by decide)) s n _ rfl

/-- The first group's centred entries. -/
theorem pay7_at (hP : Holds P fun n s => v (ix3 0 s n)) (s : Fin 2048) (n : Fin 128) :
    (k0_pay7 (F := Ideal) v P (ix2 s n) : EReal) = centred 0 (fun s' => v (ix3 0 s' n)) s := by
  have key := total0 v P hP s n
  unfold k0_pay7
  dsimp only
  generalize extractStridedSlice S2048x128 ![8, 0] (addf P (dynamicRotate 0 1#32 none P rotates_S2064x128_d0)) slices_S2064x128_o8_0_S2048x128 = T at key ⊢
  unfold k0_pay3
  pointwise
  rw [key, count_eq 1#32 0#32 rfl]
  rfl

/-- The second group's sums. -/
theorem pay14_at (hP : Holds P fun n s => v (ix3 0 s n)) (s : Fin 2048) (n : Fin 128) :
    (k0_pay14 (F := Ideal) P (ix2 s n) : EReal) = total (half 1) (fun s' => v (ix3 0 s' n)) s := by
  unfold k0_pay14
  dsimp only
  have h2 := (hP.runs.double 1#32 rfl (by decide)).double 2#32 rfl (by decide)
  rw [middle_at, roll_at _ 2063#32 _ ⟨s.val + 8 + 1, by omega⟩ n (by
    show s.val + 8 + 1 = (s.val + 8 + 2064 - 2063 % 2064) % 2064
    omega)]
  exact window_at 2 (by decide) (by decide) h2 s n _ rfl

/-- The third group's sums. -/
theorem total2 (hP : Holds P fun n s => v (ix3 0 s n)) (s : Fin 2048) (n : Fin 128)
    (x1 x2 x3 : FVec Ideal S2064x128 .f32) (e1 : x1 = addf P (dynamicRotate 0 1#32 none P rotates_S2064x128_d0))
    (e2 : x2 = addf x1 (dynamicRotate 0 2#32 none x1 rotates_S2064x128_d0))
    (e3 : x3 = addf x2 (dynamicRotate 0 4#32 none x2 rotates_S2064x128_d0)) :
    extractStridedSlice S2048x128 ![8, 0] (dynamicRotate 0 2061#32 none x3 rotates_S2064x128_d0) slices_S2064x128_o8_0_S2048x128 (ix2 s n)
      = total (half 2) (fun s' => v (ix3 0 s' n)) s := by
  have h1 : Runs x1 _ 2 := e1 ▸ hP.runs.double 1#32 rfl (by decide)
  have h2 : Runs x2 _ 4 := e2 ▸ h1.double 2#32 rfl (by decide)
  have h3 : Runs x3 _ 8 := e3 ▸ h2.double 4#32 rfl (by decide)
  rw [middle_at, roll_at _ 2061#32 _ ⟨s.val + 8 + 3, by omega⟩ n (by
    show s.val + 8 + 3 = (s.val + 8 + 2064 - 2061 % 2064) % 2064
    omega)]
  exact window_at 4 (by decide) (by decide) h3 s n _ rfl

/-- The fourth group's sums. -/
theorem total3 (hP : Holds P fun n s => v (ix3 0 s n)) (s : Fin 2048) (n : Fin 128)
    (x1 x2 x3 x4 : FVec Ideal S2064x128 .f32) (e1 : x1 = addf P (dynamicRotate 0 1#32 none P rotates_S2064x128_d0))
    (e2 : x2 = addf x1 (dynamicRotate 0 2#32 none x1 rotates_S2064x128_d0))
    (e3 : x3 = addf x2 (dynamicRotate 0 4#32 none x2 rotates_S2064x128_d0))
    (e4 : x4 = addf x3 (dynamicRotate 0 8#32 none x3 rotates_S2064x128_d0)) :
    extractStridedSlice S2048x128 ![8, 0] (dynamicRotate 0 2057#32 none x4 rotates_S2064x128_d0) slices_S2064x128_o8_0_S2048x128 (ix2 s n)
      = total (half 3) (fun s' => v (ix3 0 s' n)) s := by
  have h1 : Runs x1 _ 2 := e1 ▸ hP.runs.double 1#32 rfl (by decide)
  have h2 : Runs x2 _ 4 := e2 ▸ h1.double 2#32 rfl (by decide)
  have h3 : Runs x3 _ 8 := e3 ▸ h2.double 4#32 rfl (by decide)
  have h4 : Runs x4 _ 16 := e4 ▸ h3.double 8#32 rfl (by decide)
  rw [middle_at, roll_at _ 2057#32 _ ⟨s.val + 8 + 7, by omega⟩ n (by
    show s.val + 8 + 7 = (s.val + 8 + 2064 - 2057 % 2064) % 2064
    omega)]
  exact window_at 8 (by decide) (by decide) h4 s n _ rfl

/-- The positions, as the kernel numbers them. -/
abbrev rows : IVec S2048x128 32 := iota .tc S2048x128 32 [0] iota_S2048x128_d0_w32

/-- The fourth group's centred entries. -/
theorem pay27_at (hP : Holds P fun n s => v (ix3 0 s n)) (s : Fin 2048) (n : Fin 128) :
    (k0_pay27 (F := Ideal) rows (k0_pay23 v) P (ix2 s n) : EReal) = centred 3 (fun s' => v (ix3 0 s' n)) s := by
  have key := total3 v P hP s n _ _ _ _ rfl rfl rfl rfl
  unfold k0_pay27
  dsimp only
  generalize extractStridedSlice S2048x128 ![8, 0] (dynamicRotate 0 2057#32 none _ rotates_S2064x128_d0) slices_S2064x128_o8_0_S2048x128 = T at key ⊢
  unfold k0_pay23
  pointwise
  rw [key, count_eq 8#32 7#32 rfl]
  rfl

section Product
variable (w : FVec Ideal S1x128x128 .bf16) (sc : FVec Ideal S1x128 .f32)

/-- The first group's block of the result. -/
theorem group0_at (hP : Holds P fun n s => v (ix3 0 s n)) (s : Fin 2048) (n : Fin 128) :
    (k0_pay9 (F := Ideal) (k0_pay7 v P) (k0_pay8 w) sc (ix3 0 s n) : EReal)
      = entry 0 (fun s' k => v (ix3 0 s' k)) (fun k => w (ix3 0 k n)) (sc (ix2 0 n)) s := by
  unfold k0_pay9 k0_pay8
  pointwise
  simp only [pay7_at v P hP]
  rfl

/-- The second group's block of the result. -/
theorem group1_at (hP : Holds P fun n s => v (ix3 0 s n)) (s : Fin 2048) (n : Fin 128) :
    (k0_pay17 (F := Ideal) rows (k0_pay10 v) (k0_pay14 P) (k0_pay15 rows) k0_pay16 w sc (ix3 0 s n) : EReal)
      = entry 1 (fun s' k => v (ix3 0 s' k)) (fun k => w (ix3 0 k n)) (sc (ix2 0 n)) s := by
  unfold k0_pay17 k0_pay10 k0_pay15 k0_pay16
  pointwise
  simp only [pay14_at v P hP, count_eq 2#32 1#32 rfl]
  rfl

/-- The third group's block of the result. -/
theorem group2_at (hP : Holds P fun n s => v (ix3 0 s n)) (s : Fin 2048) (n : Fin 128) :
    (k0_pay22 (F := Ideal) rows (k0_pay18 v) P w sc (ix3 0 s n) : EReal)
      = entry 2 (fun s' k => v (ix3 0 s' k)) (fun k => w (ix3 0 k n)) (sc (ix2 0 n)) s := by
  have key := fun k => total2 v P hP s k _ _ _ rfl rfl rfl
  unfold k0_pay22
  dsimp only
  generalize extractStridedSlice S2048x128 ![8, 0] (dynamicRotate 0 2061#32 none _ rotates_S2064x128_d0) slices_S2064x128_o8_0_S2048x128 = T at key ⊢
  unfold k0_pay18
  pointwise
  simp only [key, count_eq 4#32 3#32 rfl]
  rfl

/-- The fourth group's block of the result. -/
theorem group3_at (hP : Holds P fun n s => v (ix3 0 s n)) (s : Fin 2048) (n : Fin 128) :
    (k0_pay1 (F := Ideal) (k0_pay27 rows (k0_pay23 v) P) (k0_pay28 w) sc (ix3 0 s n) : EReal)
      = entry 3 (fun s' k => v (ix3 0 s' k)) (fun k => w (ix3 0 k n)) (sc (ix2 0 n)) s := by
  unfold k0_pay1 k0_pay28
  pointwise
  simp only [pay27_at v P hP]
  rfl

end Product

/-- A group's entry is the branch's entry at the group's own columns. -/
theorem entry_eq (pr : FVec Ideal ⟨2, ![49152, 9728]⟩ .bf16) (wt : FVec Ideal ⟨3, ![4, 128, 128]⟩ .f32) (sc : FVec Ideal ⟨1, ![512]⟩ .f32)
    (b : Fin 24) (g : Fin 4) (s : Fin 2048) (n : Fin 128) (q : Fin 512) (hq : q.val = g.val * 128 + n.val) :
    entry g (fun s' k => pr (ix2 ⟨b.val * 2048 + s'.val, by omega⟩ ⟨7680 + (g.val * 128 + k.val), by omega⟩)) (fun k => wt (ix3 g k n))
      (sc (ix1 q)) s = result pr wt sc (ix3 b s q) := by
  have e1 : q.val / 128 = g.val := by omega
  have e2 : q.val % 128 = n.val := by omega
  unfold result
  have hg : (⟨q.val / 128, by omega⟩ : Fin 4) = g := Fin.ext e1
  have hn : (⟨q.val % 128, by omega⟩ : Fin 128) = n := Fin.ext e2
  show _ = entry (⟨q.val / 128, by omega⟩ : Fin 4) (fun s' k => pr (ix2 ⟨b.val * 2048 + s'.val, by omega⟩ ⟨7680 + q.val / 128 * 128 + k.val, by omega⟩))
    (fun k => wt (ix3 (⟨q.val / 128, by omega⟩ : Fin 4) k (⟨q.val % 128, by omega⟩ : Fin 128))) (sc (ix1 q)) s
  rw [hg, hn]
  refine congrArg (fun f => entry g f _ _ s) (funext fun s' => funext fun k => congrArg pr (congrArg₂ ix2 rfl (Fin.ext ?_)))
  show 7680 + (g.val * 128 + k.val) = 7680 + q.val / 128 * 128 + k.val
  omega

variable (m : (ℓ : Loc nD τ sig) → Buf (Elt Ideal) ℓ) (ρ : Dev nD → PrngReg)

/-- The kernel's result as a function of the arguments. -/
abbrev out (c : Dev nD) : FVec Ideal S24x2048x512 .bf16 :=
  result (m ((c : Thread nD τ).loc main_arg0)) (m ((c : Thread nD τ).loc main_arg1)) (m ((c : Thread nD τ).loc main_arg2))

/-- Where the windows stand at point `t`: sequence `t`, the branch's columns, and the whole of the weights and scales. -/
theorem idx : ∀ t : Fin cfg0.N,
    win0_0.index t = ![t.val, 0, 15] ∧ win0_1.index t = ![0, 0, 0] ∧ win0_2.index t = ![0, 0] ∧ win0_3.index t = ![t.val, 0, 0] := by
  decide +kernel

section Read
variable (c : Dev nD) (t : Fin cfg0.N)

/-- An entry of point `t`'s sequence. -/
theorem seq_at (s : Fin 2048) (q : Fin 512) : (iblk m c 0 t : Vec Ideal S1x2048x512 .bf16) (ix3 0 s q)
    = m (c.tc.loc main_arg0) (ix2 ⟨t.val * 2048 + s.val, by have h : t.val < 24 := t.isLt; omega⟩ ⟨7680 + q.val, by omega⟩) := by
  obtain ⟨e0, e1, e2, e3⟩ := idx t
  blk_simp [iblk, e0]
  entry_read
  pointwise
  blk_ext [iblk, V, e0]

/-- An entry of the groups' matrices. -/
theorem weight_at (g : Fin 4) (k n : Fin 128) : (iblk m c 1 t : Vec Ideal S4x128x128 .bf16) (ix3 g k n) = m (c.tc.loc main_arg1) (ix3 g k n) := by
  obtain ⟨e0, e1, e2, e3⟩ := idx t
  blk_simp [iblk, e1]
  entry_read
  pointwise
  blk_ext [iblk, V, e1]

/-- An entry of the scales. -/
theorem scale_at (q : Fin 512) : (iblk m c 2 t : Vec Ideal S1x512 .f32) (ix2 0 q) = m (c.tc.loc main_arg2) (ix1 q) := by
  obtain ⟨e0, e1, e2, e3⟩ := idx t
  blk_simp [iblk, e2]
  entry_read
  pointwise
  blk_ext [iblk, V, e2]

/-- A group's entry at point `t`, over the group's own columns of the blocks, is the result's entry where the point writes it. -/
theorem entry_blk (g : Fin 4) (b : Fin 1) (s : Fin 2048) (q : Fin 512) (n : Fin 128) (hq : q.val = g.val * 128 + n.val)
    (v : FVec Ideal S1x2048x128 .bf16) (w : FVec Ideal S1x128x128 .bf16) (sc : FVec Ideal S1x128 .f32)
    (hv : ∀ (s : Fin 2048) (k : Fin 128), v (ix3 0 s k)
      = (iblk m c 0 t : Vec Ideal S1x2048x512 .bf16) (ix3 0 s ⟨g.val * 128 + k.val, by omega⟩))
    (hw : ∀ k : Fin 128, w (ix3 0 k n) = (iblk m c 1 t : Vec Ideal S4x128x128 .bf16) (ix3 g k n))
    (hs : sc (ix2 0 n) = (iblk m c 2 t : Vec Ideal S1x512 .f32) (ix2 0 q)) :
    entry g (fun s k => v (ix3 0 s k)) (fun k => w (ix3 0 k n)) (sc (ix2 0 n)) s
      = out m c (((View.whole main_v3).slice (win0_3.rect t)).emb (ix3 b s q)) := by
  obtain ⟨e0, e1, e2, e3⟩ := idx t
  simp only [hv, hw, hs, seq_at, weight_at, scale_at]
  refine (entry_eq (m (c.tc.loc main_arg0)) (m (c.tc.loc main_arg1)) (m (c.tc.loc main_arg2)) t g s n q hq).trans (congrArg (out m c) ?_)
  blk_ext [e3]

end Read

/-- The scratch as a group leaves it, where its three stores are zeros, the group's sequence, and zeros. -/
theorem holds_of (v : FVec Ideal S1x2048x128 .bf16) (zt zh : FVec Ideal S8x128 .f32) (a : FVec Ideal S2048x128 .f32)
    (L : List (View.Piece (Elt Ideal) S2064x128 .f32)) (ht : ∀ i, zt i = 0) (hh : ∀ i, zh i = 0)
    (ha : ∀ (s : Fin 2048) (n : Fin 128), a (ix2 s n) = v (ix3 0 s n)) :
    Holds ((View.whole cc0_scratch0).readCov (⟨Rect.unit ![2056, 0] ![8, 128] inb_S2064x128_S8x128_2056_0, zt⟩
        :: ⟨Rect.unit ![8, 0] ![2048, 128] inb_S2064x128_S2048x128_8_0, a⟩
        :: ⟨Rect.unit ![0, 0] ![8, 128] inb_S2064x128_S8x128_0_0, zh⟩ :: L)
        (Rect.unit ![0, 0] ![2064, 128] inb_S2064x128_S2064x128_0_0 : Rect S2064x128).toLoadRect) fun n s => v (ix3 0 s n) := by
  intro r n
  rw [scratch_at zt zh a L ht hh r n]
  simp only [ha]

/-- The zeros set before and after a sequence. -/
theorem edge_at (i : S8x128.Idx) : (k0_pay2 (F := Ideal) i : EReal) = 0 := by
  unfold k0_pay2
  pointwise

/-- The same zeros, as they are stored. -/
theorem edges_at (i : S8x128.Idx) :
    (k0_pay4 (F := Ideal) i : EReal) = 0 ∧ (k0_pay6 (F := Ideal) i : EReal) = 0 ∧ (k0_pay11 (k0_pay2 (F := Ideal)) i : EReal) = 0
      ∧ (k0_pay13 (k0_pay2 (F := Ideal)) i : EReal) = 0 ∧ (k0_pay19 (k0_pay2 (F := Ideal)) i : EReal) = 0
      ∧ (k0_pay21 (k0_pay2 (F := Ideal)) i : EReal) = 0 ∧ (k0_pay24 (k0_pay2 (F := Ideal)) i : EReal) = 0
      ∧ (k0_pay26 (k0_pay2 (F := Ideal)) i : EReal) = 0 := by
  unfold k0_pay4 k0_pay6 k0_pay11 k0_pay13 k0_pay19 k0_pay21 k0_pay24 k0_pay26
  refine ⟨?_, ?_, ?_, ?_, ?_, ?_, ?_, ?_⟩ <;> exact edge_at _

/-- Each group's sequence, as it is stored. -/
theorem stored_at (v : FVec Ideal S1x2048x128 .bf16) (s : Fin 2048) (n : Fin 128) :
    (k0_pay5 (F := Ideal) v (ix2 s n) : EReal) = v (ix3 0 s n) ∧ (k0_pay12 (F := Ideal) v (ix2 s n) : EReal) = v (ix3 0 s n)
      ∧ (k0_pay20 (F := Ideal) v (ix2 s n) : EReal) = v (ix3 0 s n) ∧ (k0_pay25 (F := Ideal) (k0_pay23 v) (ix2 s n) : EReal) = v (ix3 0 s n) := by
  unfold k0_pay5 k0_pay12 k0_pay20 k0_pay25 k0_pay3 k0_pay10 k0_pay18 k0_pay23
  refine ⟨?_, ?_, ?_, ?_⟩ <;> pointwise

/-- The result array after the run. -/
theorem final (c : Dev nD) : (dats m 0 c).arrAt 3 cfg0.N = out m c := by
  refine (dats m 0 c).arrAt_eq_of_covers 3 _ (by decide +kernel) fun t hf y => ?_
  obtain ⟨e0, e1, e2, e3⟩ := idx t
  blk_simp
  rw [after0_3]
  unfold outsAt0
  frame_out
  obtain ⟨b, s, q, rfl⟩ : ∃ (b : Fin 1) (s : Fin 2048) (q : Fin 512), y = ix3 b s q := ⟨y 0, y 1, y 2, eq_ix3 y⟩
  refine View.canon_eq_of_allAt _ _ _ (View.cover_of_tiled_head _ _ _ rfl _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    obtain ⟨b', s', n, rfl⟩ : ∃ (b' : Fin 1) (s' : Fin 2048) (n : Fin 128), x = ix3 b' s' n := ⟨x 0, x 1, x 2, eq_ix3 x⟩
    obtain rfl : b' = 0 := Subsingleton.elim _ _
    have h1 : s.val = 0 + s'.val := hx 1
    obtain rfl : s' = s := Fin.ext (by omega)
  · have h2 : q.val = 384 + n.val := hx 2
    refine (group3_at _ _ _ _ (holds_of _ _ _ _ _ (fun i => (edges_at i).2.2.2.2.2.2.2) (fun i => (edges_at i).2.2.2.2.2.2.1)
      fun s n => (stored_at _ s n).2.2.2) _ n).trans (entry_blk m c t 3 b _ q n h2 _ _ _ ?_ ?_ ?_)
    · intro s k
      pointwise
    · intro k
      pointwise
    · pointwise
      exact congrArg (iblk m c 2 t : Vec Ideal S1x512 .f32) (congrArg₂ ix2 rfl (Fin.ext h2.symm))
  · have h2 : q.val = 256 + n.val := hx 2
    refine (group2_at _ _ _ _ (holds_of _ _ _ _ _ (fun i => (edges_at i).2.2.2.2.2.1) (fun i => (edges_at i).2.2.2.2.1)
      fun s n => (stored_at _ s n).2.2.1) _ n).trans (entry_blk m c t 2 b _ q n h2 _ _ _ ?_ ?_ ?_)
    · intro s k
      pointwise
    · intro k
      pointwise
    · pointwise
      exact congrArg (iblk m c 2 t : Vec Ideal S1x512 .f32) (congrArg₂ ix2 rfl (Fin.ext h2.symm))
  · have h2 : q.val = 128 + n.val := hx 2
    refine (group1_at _ _ _ _ (holds_of _ _ _ _ _ (fun i => (edges_at i).2.2.2.1) (fun i => (edges_at i).2.2.1)
      fun s n => (stored_at _ s n).2.1) _ n).trans (entry_blk m c t 1 b _ q n h2 _ _ _ ?_ ?_ ?_)
    · intro s k
      pointwise
    · intro k
      pointwise
    · pointwise
      exact congrArg (iblk m c 2 t : Vec Ideal S1x512 .f32) (congrArg₂ ix2 rfl (Fin.ext h2.symm))
  · have h2 : q.val = 0 + n.val := hx 2
    refine (group0_at _ _ _ _ (holds_of _ _ _ _ _ (fun i => (edges_at i).2.1) (fun i => (edges_at i).1)
      fun s n => (stored_at _ s n).1) _ n).trans (entry_blk m c t 0 b _ q n (by rw [h2]; rfl) _ _ _ ?_ ?_ ?_)
    · intro s k
      pointwise
    · intro k
      pointwise
    · pointwise
      exact congrArg (iblk m c 2 t : Vec Ideal S1x512 .f32) (congrArg₂ ix2 rfl (Fin.ext (by show n.val = q.val; omega)))

/-- The kernel's run: the result array is the branch of the arguments, which end unchanged. -/
theorem run : θ_run (defs (F := Ideal)) (onTc (τ := τ) (main (F := Ideal))) ⟨m, fun _ => 0, ρ⟩ fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- The claim: both programs end with the branch of the arguments. -/
theorem algebraic : Cert.algebraic_PoolIdeal_PoolRefIdeal := by
  pair_intro
  · exact run m g
  · run_from Cert.PoolRefIdeal.Value.run (F := Ideal) m' g'
    exact Ref.value _ _ _

end Cert.Proof.Pool

end
-- ==== Proof.ConvSpec.lean ====
/-
  The short convolution in plain terms: each of 1536 columns of the projection, along a sequence of 2048 positions, is the sum of the
  entry before, the entry itself and the entry after, each times the column's own weight, plus the column's bias; before the first
  and after the last position stand zeros. The columns are three runs of 512: the first run is one result, the product of the other
  two, column by column, is the other.
-/
module

public import Idealize.ShloMosaic.Lib.Pointwise
public import Idealize.ShloMosaic.Lib.Claim

@[expose] public section

noncomputable section

namespace Cert.Proof.Conv

open Idealize.ShloMosaic

/-- The entry before position `s`, zero at the first. -/
def before (f : Fin 2048 → EReal) (s : Fin 2048) : EReal :=
  if h : 1 ≤ s.val then f ⟨s.val - 1, by omega⟩ else 0

/-- The entry after position `s`, zero at the last. -/
def after (f : Fin 2048 → EReal) (s : Fin 2048) : EReal :=
  if h : s.val + 1 < 2048 then f ⟨s.val + 1, h⟩ else 0

/-- One entry of the convolution of one column. -/
def taps (f : Fin 2048 → EReal) (w0 w1 w2 b : EReal) (s : Fin 2048) : EReal :=
  before f s * w0 + f s * w1 + after f s * w2 + b

variable (pr : FVec Ideal ⟨2, ![49152, 9728]⟩ .bf16) (w : FVec Ideal ⟨2, ![3, 1536]⟩ .f32) (b : FVec Ideal ⟨1, ![1536]⟩ .f32)

/-- The convolution of column `q` of sequence `i`: its columns of the projection begin at column 8192. -/
def conv (i : Fin 24) (s : Fin 2048) (q : Fin 1536) : EReal :=
  taps (fun s' => pr (ix2 ⟨i.val * 2048 + s'.val, by omega⟩ ⟨8192 + q.val, by omega⟩)) (w (ix2 0 q)) (w (ix2 1 q)) (w (ix2 2 q)) (b (ix1 q)) s

/-- The first result: the first run of columns. -/
def first : FVec Ideal ⟨3, ![24, 2048, 512]⟩ .bf16 := fun j =>
  conv pr w b (j 0) (j 1) ⟨(j 2).val, by have h : (j 2).val < 512 := (j 2).isLt; omega⟩

/-- The second result: the second run times the third. -/
def second : FVec Ideal ⟨3, ![24, 2048, 512]⟩ .bf16 := fun j =>
  conv pr w b (j 0) (j 1) ⟨512 + (j 2).val, by have h : (j 2).val < 512 := (j 2).isLt; omega⟩
    * conv pr w b (j 0) (j 1) ⟨1024 + (j 2).val, by have h : (j 2).val < 512 := (j 2).isLt; omega⟩

end Cert.Proof.Conv

end
-- ==== Proof.ConvRef.lean ====
/-
  The short convolution's reference over the extended reals, an operation at a time: the sequences set between two zeros, and three
  slices of them, one position apart, each times its own row of weights.
-/
module

public import proofs.«01_k».proof.Defs
public import proofs.«01_k».proof.Proof.Gen.ConvRefIdeal.Run
public import proofs.«01_k».proof.Proof.ConvSpec
public import Idealize.ShloMosaic.Lib.Pointwise
public import Idealize.ShloMosaic.Lib.KernelVsHost

@[expose] public section

set_option maxRecDepth 16384

noncomputable section

namespace Cert.Proof.Conv.Ref

open Cert.ConvRefIdeal Cert.ConvRefIdeal.Gen Idealize.ShloMosaic Idealize.ShloMosaic.TcCoe Idealize.SL.Sem

variable (pr : FVec Ideal S49152x9728 .bf16) (w : FVec Ideal S3x1536 .f32) (bi : FVec Ideal S1536 .f32)

/-- The branch's columns of the projection, cut into sequences. -/
def seqs : FVec Ideal S24x2048x1536 .f32 :=
  extf .f32 (extractStridedSlice S24x2048x1536 ![0, 0, 8192] (shapeCast S24x2048x9728 pr shapeCasts_S49152x9728_S24x2048x9728)
    slices_S24x2048x9728_S24x2048x1536_0_0_8192) bitsLt_bf16_f32

/-- The sequences between two zeros. -/
def between (u : FVec Ideal S24x2048x1536 .f32) : FVec Ideal S24x2050x1536 .f32 :=
  pad S24x2050x1536 ![0, 1, 0] ![0, 1, 0] ![0, 0, 0] u (sitofp .f32 (constantI S_ 32 0#32)) pads_S24x2048x1536_S24x2050x1536_000_110_000 h_S_

/-- The first row of the weights, at every entry. -/
def row0 : FVec Ideal S24x2048x1536 .f32 :=
  broadcastInDim S24x2048x1536 ![0, 1, 2] bcast_S1x1x1536_S24x2048x1536_0_1_2 (broadcastInDim S1x1x1536 ![2] bcast_S1536_S1x1x1536_2
    (shapeCast S1536 (extractStridedSlice S1x1536 ![0, 0] w slices_S3x1536_S1x1536_0_0) shapeCasts_S1x1536_S1536))

/-- The second row. -/
def row1 : FVec Ideal S24x2048x1536 .f32 :=
  broadcastInDim S24x2048x1536 ![0, 1, 2] bcast_S1x1x1536_S24x2048x1536_0_1_2 (broadcastInDim S1x1x1536 ![2] bcast_S1536_S1x1x1536_2
    (shapeCast S1536 (extractStridedSlice S1x1536 ![1, 0] w slices_S3x1536_S1x1536_1_0) shapeCasts_S1x1536_S1536))

/-- The third row. -/
def row2 : FVec Ideal S24x2048x1536 .f32 :=
  broadcastInDim S24x2048x1536 ![0, 1, 2] bcast_S1x1x1536_S24x2048x1536_0_1_2 (broadcastInDim S1x1x1536 ![2] bcast_S1536_S1x1x1536_2
    (shapeCast S1536 (extractStridedSlice S1x1536 ![2, 0] w slices_S3x1536_S1x1536_2_0) shapeCasts_S1x1536_S1536))

/-- The biases, at every entry. -/
def biases : FVec Ideal S24x2048x1536 .f32 :=
  broadcastInDim S24x2048x1536 ![0, 1, 2] bcast_S1x1x1536_S24x2048x1536_0_1_2 (broadcastInDim S1x1x1536 ![2] bcast_S1536_S1x1x1536_2 bi)

/-- The convolution of all the columns. -/
def all (up : FVec Ideal S24x2050x1536 .f32) : FVec Ideal S24x2048x1536 .f32 :=
  addf (addf (addf (mulf (extractStridedSlice S24x2048x1536 ![0, 0, 0] up slices_S24x2050x1536_S24x2048x1536_0_0_0) (row0 w))
    (mulf (extractStridedSlice S24x2048x1536 ![0, 1, 0] up slices_S24x2050x1536_S24x2048x1536_0_1_0) (row1 w)))
    (mulf (extractStridedSlice S24x2048x1536 ![0, 2, 0] up slices_S24x2050x1536_S24x2048x1536_0_2_0) (row2 w))) (biases bi)

/-- An entry of the sequences. -/
theorem seqs_at (b : Fin 24) (s : Fin 2048) (q : Fin 1536) :
    seqs pr (ix3 b s q) = pr (ix2 ⟨b.val * 2048 + s.val, by omega⟩ ⟨8192 + q.val, by omega⟩) := by
  unfold seqs
  pointwise

/-- An entry of the sequences between zeros. -/
theorem between_at (u : FVec Ideal S24x2048x1536 .f32) (b : Fin 24) (r : Fin 2050) (q : Fin 1536) :
    between u (ix3 b r q) = if h : 1 ≤ r.val ∧ r.val - 1 < 2048 then u (ix3 b ⟨r.val - 1, h.2⟩ q) else (0 : EReal) := by
  have e : (FloatOps.sitofp .f32 (0#32 : BitVec 32) : Ideal .f32) = (0 : EReal) := sitofp_zero
  unfold between
  rw [← e]
  pointwise

/-- The entry a position earlier in the sequences between zeros, at the place of the entry itself. -/
theorem between_before (u : FVec Ideal S24x2048x1536 .f32) (b : Fin 24) (s : Fin 2048) (q : Fin 1536) (r : Fin 2050) (h : r.val = s.val) :
    between u (ix3 b r q) = before (fun s' => u (ix3 b s' q)) s := by
  rw [between_at]
  unfold before
  by_cases hs : 1 ≤ s.val
  · rw [dif_pos hs, dif_pos (show 1 ≤ r.val ∧ r.val - 1 < 2048 by omega)]
    exact congrArg u (congrArg₂ (fun i j => ix3 b i j) (Fin.ext (by show r.val - 1 = s.val - 1; omega)) rfl)
  · rw [dif_neg hs, dif_neg (show ¬(1 ≤ r.val ∧ r.val - 1 < 2048) by omega)]

/-- The entry itself, one place on. -/
theorem between_same (u : FVec Ideal S24x2048x1536 .f32) (b : Fin 24) (s : Fin 2048) (q : Fin 1536) (r : Fin 2050) (h : r.val = 1 + s.val) :
    between u (ix3 b r q) = u (ix3 b s q) := by
  rw [between_at, dif_pos (show 1 ≤ r.val ∧ r.val - 1 < 2048 by omega)]
  exact congrArg u (congrArg₂ (fun i j => ix3 b i j) (Fin.ext (by show r.val - 1 = s.val; omega)) rfl)

/-- The entry a position later, two places on. -/
theorem between_after (u : FVec Ideal S24x2048x1536 .f32) (b : Fin 24) (s : Fin 2048) (q : Fin 1536) (r : Fin 2050) (h : r.val = 2 + s.val) :
    between u (ix3 b r q) = after (fun s' => u (ix3 b s' q)) s := by
  rw [between_at]
  unfold after
  by_cases hs : s.val + 1 < 2048
  · rw [dif_pos hs, dif_pos (show 1 ≤ r.val ∧ r.val - 1 < 2048 by omega)]
    exact congrArg u (congrArg₂ (fun i j => ix3 b i j) (Fin.ext (by show r.val - 1 = s.val + 1; omega)) rfl)
  · rw [dif_neg hs, dif_neg (show ¬(1 ≤ r.val ∧ r.val - 1 < 2048) by omega)]

/-- An entry of the convolution. -/
theorem all_at (b : Fin 24) (s : Fin 2048) (q : Fin 1536) :
    all w bi (between (seqs pr)) (ix3 b s q) = conv pr w bi b s q := by
  unfold conv taps
  simp only [← seqs_at]
  rw [← between_before (seqs pr) b s q ⟨s.val, by omega⟩ rfl, ← between_same (seqs pr) b s q ⟨1 + s.val, by omega⟩ rfl,
    ← between_after (seqs pr) b s q ⟨2 + s.val, by omega⟩ rfl]
  unfold all row0 row1 row2 biases
  generalize between (seqs pr) = up
  pointwise

/-- The first result. -/
theorem value_first : truncf .bf16 (extractStridedSlice S24x2048x512 ![0, 0, 0] (all w bi (between (seqs pr))) slices_S24x2048x1536_S24x2048x512_0_0_0) bitsLt_bf16_f32
      = first pr w bi := by
  funext j
  obtain ⟨b, s, q, rfl⟩ : ∃ (b : Fin 24) (s : Fin 2048) (q : Fin 512), j = ix3 b s q := ⟨j 0, j 1, j 2, eq_ix3 j⟩
  refine Eq.trans ?_ (all_at pr w bi b s ⟨q.val, by omega⟩)
  generalize all w bi (between (seqs pr)) = U
  pointwise

/-- The second result. -/
theorem value_second : truncf .bf16 (mulf (extractStridedSlice S24x2048x512 ![0, 0, 512] (all w bi (between (seqs pr))) slices_S24x2048x1536_S24x2048x512_0_0_512)
        (extractStridedSlice S24x2048x512 ![0, 0, 1024] (all w bi (between (seqs pr))) slices_S24x2048x1536_S24x2048x512_0_0_1024)) bitsLt_bf16_f32
      = second pr w bi := by
  funext j
  obtain ⟨b, s, q, rfl⟩ : ∃ (b : Fin 24) (s : Fin 2048) (q : Fin 512), j = ix3 b s q := ⟨j 0, j 1, j 2, eq_ix3 j⟩
  refine Eq.trans ?_ (congrArg₂ (· * ·) (all_at pr w bi b s ⟨512 + q.val, by omega⟩) (all_at pr w bi b s ⟨1024 + q.val, by omega⟩))
  generalize all w bi (between (seqs pr)) = U
  pointwise

end Cert.Proof.Conv.Ref

end
-- ==== Proof.ConvValue.lean ====
/-
  The short convolution's kernel over the extended reals: a grid point takes one sequence's three runs of columns, and reads the entry
  before and the entry after off the run rotated by one row, with the row that came round masked away.
-/
module

public import proofs.«01_k».proof.Defs
public import proofs.«01_k».proof.Proof.ConvSpec
public import proofs.«01_k».proof.Proof.ConvRef
public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.Proof.Conv

open Cert.ConvIdeal Cert.ConvIdeal.Gen Idealize.ShloMosaic Idealize.ShloMosaic.TcCoe Idealize.SL.Sem
open Idealize.ShloMosaic.Pipeline (Dat)

/-! ## A run of columns rotated by a row, and its convolution -/

/-- A row rotated into place: row `s` of the rotated block is row `s'`, `k` rows before it round the block. -/
theorem roll_at (x : FVec Ideal S2048x512 .f32) (k : BitVec 32) (s s' : Fin 2048) (n : Fin 512)
    (h : s'.val = (s.val + 2048 - k.toNat % 2048) % 2048) :
    dynamicRotate 0 k none x rotates_S2048x512_d0 (ix2 s n) = x (ix2 s' n) := by
  unfold dynamicRotate
  refine congrArg x (funext fun b => ?_)
  fin_cases b
  · exact Fin.ext h.symm
  · rfl

/-- The positions, as the kernel numbers them. -/
abbrev rows : IVec S2048x512 32 := iota .tc S2048x512 32 [0] iota_S2048x512_d0_w32

/-- The block rotated by `k`, kept where the position moved by `d` is a position. -/
def kept (d k : BitVec 32) (x : FVec Ideal S2048x512 .f32) : FVec Ideal S2048x512 .f32 :=
  select (andi (cmpi .sge (addi rows (broadcast S2048x512 d)) (broadcast S2048x512 0#32))
      (cmpi .slt (addi rows (broadcast S2048x512 d)) (broadcast S2048x512 2048#32)))
    (dynamicRotate 0 k none x rotates_S2048x512_d0) (broadcast S2048x512 (Scalar.ofBits .f32 0x00000000#32))

/-- The bit that says whether position `s` moved by `d` is a position. -/
def bit (d : BitVec 32) (s : Fin 2048) : BitVec 1 :=
  IntOp.andi (IntOp.cmpi .sge (IntOp.addi (BitVec.ofNat 32 s.val) d) 0#32) (IntOp.cmpi .slt (IntOp.addi (BitVec.ofNat 32 s.val) d) 2048#32)

/-- One position earlier: every position but the first. -/
theorem bit_before : ∀ s : Fin 2048, bit 4294967295#32 s = if 1 ≤ s.val then 1#1 else 0#1 := by
  decide +kernel

/-- One position later: every position but the last. -/
theorem bit_after : ∀ s : Fin 2048, bit 1#32 s = if s.val + 1 < 2048 then 1#1 else 0#1 := by
  decide +kernel

/-- An entry of the block so kept. -/
theorem kept_at (d k : BitVec 32) (x : FVec Ideal S2048x512 .f32) (s s' : Fin 2048) (n : Fin 512)
    (h : s'.val = (s.val + 2048 - k.toNat % 2048) % 2048) :
    kept d k x (ix2 s n) = Scalar.select (bit d s) (x (ix2 s' n)) (0 : EReal) := by
  unfold kept bit
  rw [← roll_at x k s s' n h]
  generalize dynamicRotate 0 k none x rotates_S2048x512_d0 = T
  pointwise

/-- The block a position later: the last row comes round to the first and is masked away. -/
def earlier (x : FVec Ideal S2048x512 .f32) : FVec Ideal S2048x512 .f32 := kept 4294967295#32 1#32 x

/-- The block a position earlier. -/
def later (x : FVec Ideal S2048x512 .f32) : FVec Ideal S2048x512 .f32 := kept 1#32 2047#32 x

/-- The entries before. -/
theorem earlier_at (x : FVec Ideal S2048x512 .f32) (s : Fin 2048) (n : Fin 512) :
    earlier x (ix2 s n) = before (fun s' => x (ix2 s' n)) s := by
  unfold before earlier
  by_cases h : 1 ≤ s.val
  · rw [kept_at _ _ x s ⟨s.val - 1, by omega⟩ n (by show s.val - 1 = (s.val + 2048 - 1 % 2048) % 2048; omega), bit_before, if_pos h, dif_pos h]
    rfl
  · rw [kept_at _ _ x s ⟨2047, by omega⟩ n (by show 2047 = (s.val + 2048 - 1 % 2048) % 2048; omega), bit_before, if_neg h, dif_neg h]
    rfl

/-- The entries after. -/
theorem later_at (x : FVec Ideal S2048x512 .f32) (s : Fin 2048) (n : Fin 512) :
    later x (ix2 s n) = after (fun s' => x (ix2 s' n)) s := by
  unfold after later
  by_cases h : s.val + 1 < 2048
  · rw [kept_at _ _ x s ⟨s.val + 1, h⟩ n (by show s.val + 1 = (s.val + 2048 - 2047 % 2048) % 2048; omega), bit_after, if_pos h, dif_pos h]
    rfl
  · rw [kept_at _ _ x s ⟨0, by omega⟩ n (by show 0 = (s.val + 2048 - 2047 % 2048) % 2048; omega), bit_after, if_neg h, dif_neg h]
    rfl

/-- The sum of three blocks, each times its row of weights, and the biases. -/
def weighed (a x z : FVec Ideal S2048x512 .f32) (wa wb wc bb : FVec Ideal S1x512 .f32) : FVec Ideal S2048x512 .f32 :=
  addf (addf (addf (mulf a (broadcastTo S2048x512 wa broadcasts_S1x512_S2048x512))
    (mulf x (broadcastTo S2048x512 wb broadcasts_S1x512_S2048x512)))
    (mulf z (broadcastTo S2048x512 wc broadcasts_S1x512_S2048x512)))
    (broadcastTo S2048x512 (shapeCast S1x512 bb shapeCasts_S1x512_S1x512) broadcasts_S1x512_S2048x512)

/-- An entry of it. -/
theorem weighed_at (a x z : FVec Ideal S2048x512 .f32) (wa wb wc bb : FVec Ideal S1x512 .f32) (s : Fin 2048) (n : Fin 512) :
    weighed a x z wa wb wc bb (ix2 s n)
      = a (ix2 s n) * wa (ix2 0 n) + x (ix2 s n) * wb (ix2 0 n) + z (ix2 s n) * wc (ix2 0 n) + bb (ix2 0 n) := by
  unfold weighed
  pointwise

/-- The convolution of a run of columns. -/
def tapped (x : FVec Ideal S2048x512 .f32) (wa wb wc bb : FVec Ideal S1x512 .f32) : FVec Ideal S2048x512 .f32 :=
  weighed (earlier x) x (later x) wa wb wc bb

/-- An entry of it. -/
theorem tapped_at (x : FVec Ideal S2048x512 .f32) (wa wb wc bb : FVec Ideal S1x512 .f32) (s : Fin 2048) (n : Fin 512) :
    tapped x wa wb wc bb (ix2 s n)
      = taps (fun s' => x (ix2 s' n)) (wa (ix2 0 n)) (wb (ix2 0 n)) (wc (ix2 0 n)) (bb (ix2 0 n)) s := by
  unfold taps
  rw [← earlier_at, ← later_at]
  unfold tapped
  exact weighed_at (earlier x) x (later x) wa wb wc bb s n

/-- A run of columns as it is read. -/
def opened (x : FVec Ideal S1x2048x512 .bf16) : FVec Ideal S2048x512 .f32 :=
  extf .f32 (shapeCast S2048x512 x shapeCasts_S1x2048x512_S2048x512) bitsLt_bf16_f32

/-- An entry of it. -/
theorem opened_at (x : FVec Ideal S1x2048x512 .bf16) (s : Fin 2048) (n : Fin 512) : opened x (ix2 s n) = x (ix3 0 s n) := by
  unfold opened
  pointwise

/-- A block as it is stored. -/
def closed (y : FVec Ideal S2048x512 .f32) : FVec Ideal S1x2048x512 .bf16 :=
  shapeCast S1x2048x512 (truncf .bf16 y bitsLt_bf16_f32) shapeCasts_S2048x512_S1x2048x512

/-- An entry of it. -/
theorem closed_at (y : FVec Ideal S2048x512 .f32) (b : Fin 1) (s : Fin 2048) (n : Fin 512) : closed y (ix3 b s n) = y (ix2 s n) := by
  unfold closed
  pointwise

/-- The first result's block. -/
theorem pay5_eq (x : FVec Ideal S1x2048x512 .bf16) (wa wb wc bb : FVec Ideal S1x512 .f32) :
    k0_pay5 (k0_pay3 x wa wb) (k0_pay4 x wc) bb = closed (tapped (opened x) wa wb wc bb) := rfl

/-- The numbering is the same at every point. -/
theorem pay16_eq (x0 x1 x2 : FVec Ideal S1x2048x512 .bf16) (x3 : FVec Ideal S3x1536 .f32) (x4 : FVec Ideal S1x1536 .f32) :
    k0_pay16 (F := Ideal) x0 x1 x2 x3 x4 = rows := rfl

/-- The second result's block. -/
theorem pay1_eq (x y : FVec Ideal S1x2048x512 .bf16) (wa wb wc bb wa' wb' wc' bb' : FVec Ideal S1x512 .f32) :
    k0_pay1 rows (k0_pay11 rows (k0_pay7 rows x wa wb) (k0_pay8 x) (k0_pay9 rows) k0_pay10 wc bb)
        (k0_pay13 rows y wa' wb') (k0_pay14 y) (k0_pay15 rows) wc' bb'
      = closed (mulf (tapped (opened x) wa wb wc bb) (tapped (opened y) wa' wb' wc' bb')) := rfl

/-- An entry of a product of two blocks. -/
theorem times_at (a z : FVec Ideal S2048x512 .f32) (s : Fin 2048) (n : Fin 512) : mulf a z (ix2 s n) = (a (ix2 s n) * z (ix2 s n) : EReal) := rfl

/-- An entry of the second result's block. -/
theorem pay1_at (x y : FVec Ideal S1x2048x512 .bf16) (wa wb wc bb wa' wb' wc' bb' : FVec Ideal S1x512 .f32) (b : Fin 1) (s : Fin 2048) (n : Fin 512) :
    (k0_pay1 (F := Ideal) rows (k0_pay11 rows (k0_pay7 rows x wa wb) (k0_pay8 x) (k0_pay9 rows) k0_pay10 wc bb)
        (k0_pay13 rows y wa' wb') (k0_pay14 y) (k0_pay15 rows) wc' bb' (ix3 b s n) : EReal)
      = tapped (opened x) wa wb wc bb (ix2 s n) * tapped (opened y) wa' wb' wc' bb' (ix2 s n) := by
  rw [pay1_eq, closed_at, times_at]

variable (m : (ℓ : Loc nD τ sig) → Buf (Elt Ideal) ℓ) (ρ : Dev nD → PrngReg)

/-- The results as functions of the arguments. -/
abbrev out5 (c : Dev nD) : FVec Ideal S24x2048x512 .bf16 :=
  first (m ((c : Thread nD τ).loc main_arg0)) (m ((c : Thread nD τ).loc main_arg1)) (m ((c : Thread nD τ).loc main_arg2))

/-- The second of them. -/
abbrev out6 (c : Dev nD) : FVec Ideal S24x2048x512 .bf16 :=
  second (m ((c : Thread nD τ).loc main_arg0)) (m ((c : Thread nD τ).loc main_arg1)) (m ((c : Thread nD τ).loc main_arg2))

/-- Where the windows stand at point `t`: sequence `t`, a run of columns each, and the whole of the weights and biases. -/
theorem idx : ∀ t : Fin cfg0.N,
    win0_0.index t = ![t.val, 0, 16] ∧ win0_1.index t = ![t.val, 0, 17] ∧ win0_2.index t = ![t.val, 0, 18] ∧ win0_3.index t = ![0, 0]
      ∧ win0_4.index t = ![0, 0] ∧ win0_5.index t = ![t.val, 0, 0] ∧ win0_6.index t = ![t.val, 0, 0] := by
  decide +kernel

section Read
variable (c : Dev nD) (t : Fin cfg0.N)

/-- An entry of the first run of columns. -/
theorem run0_at (s : Fin 2048) (n : Fin 512) : (iblk m c 0 t : Vec Ideal S1x2048x512 .bf16) (ix3 0 s n)
    = m (c.tc.loc main_arg0) (ix2 ⟨t.val * 2048 + s.val, by have h : t.val < 24 := t.isLt; omega⟩ ⟨8192 + n.val, by omega⟩) := by
  obtain ⟨e0, e1, e2, e3, e4, e5, e6⟩ := idx t
  blk_simp [iblk, e0]
  entry_read
  pointwise
  blk_ext [iblk, V, e0]

/-- An entry of the second. -/
theorem run1_at (s : Fin 2048) (n : Fin 512) : (iblk m c 1 t : Vec Ideal S1x2048x512 .bf16) (ix3 0 s n)
    = m (c.tc.loc main_arg0) (ix2 ⟨t.val * 2048 + s.val, by have h : t.val < 24 := t.isLt; omega⟩ ⟨8192 + (512 + n.val), by omega⟩) := by
  obtain ⟨e0, e1, e2, e3, e4, e5, e6⟩ := idx t
  blk_simp [iblk, e1]
  entry_read
  pointwise
  blk_ext [iblk, V, e1]

/-- An entry of the third. -/
theorem run2_at (s : Fin 2048) (n : Fin 512) : (iblk m c 2 t : Vec Ideal S1x2048x512 .bf16) (ix3 0 s n)
    = m (c.tc.loc main_arg0) (ix2 ⟨t.val * 2048 + s.val, by have h : t.val < 24 := t.isLt; omega⟩ ⟨8192 + (1024 + n.val), by omega⟩) := by
  obtain ⟨e0, e1, e2, e3, e4, e5, e6⟩ := idx t
  blk_simp [iblk, e2]
  entry_read
  pointwise
  blk_ext [iblk, V, e2]

/-- An entry of the weights. -/
theorem weight_at (g : Fin 3) (q : Fin 1536) : (iblk m c 3 t : Vec Ideal S3x1536 .f32) (ix2 g q) = m (c.tc.loc main_arg1) (ix2 g q) := by
  obtain ⟨e0, e1, e2, e3, e4, e5, e6⟩ := idx t
  blk_simp [iblk, e3]
  entry_read
  pointwise
  blk_ext [iblk, V, e3]

/-- An entry of the biases. -/
theorem bias_at (q : Fin 1536) : (iblk m c 4 t : Vec Ideal S1x1536 .f32) (ix2 0 q) = m (c.tc.loc main_arg2) (ix1 q) := by
  obtain ⟨e0, e1, e2, e3, e4, e5, e6⟩ := idx t
  blk_simp [iblk, e4]
  entry_read
  pointwise
  blk_ext [iblk, V, e4]

end Read

/-- A run's convolution at point `t`, over the run's own columns of the blocks, is the convolution of the columns it stands for. -/
theorem conv_blk (c : Dev nD) (t : Fin cfg0.N) (x : FVec Ideal S1x2048x512 .bf16) (wa wb wc bb : FVec Ideal S1x512 .f32) (s : Fin 2048)
    (n : Fin 512) (q : Fin 1536)
    (hx : ∀ s' : Fin 2048, x (ix3 0 s' n)
      = m (c.tc.loc main_arg0) (ix2 ⟨t.val * 2048 + s'.val, by have h : t.val < 24 := t.isLt; omega⟩ ⟨8192 + q.val, by omega⟩))
    (ha : wa (ix2 0 n) = (iblk m c 3 t : Vec Ideal S3x1536 .f32) (ix2 0 q))
    (hb : wb (ix2 0 n) = (iblk m c 3 t : Vec Ideal S3x1536 .f32) (ix2 1 q))
    (hc : wc (ix2 0 n) = (iblk m c 3 t : Vec Ideal S3x1536 .f32) (ix2 2 q))
    (hd : bb (ix2 0 n) = (iblk m c 4 t : Vec Ideal S1x1536 .f32) (ix2 0 q)) :
    tapped (opened x) wa wb wc bb (ix2 s n)
      = conv (m (c.tc.loc main_arg0)) (m (c.tc.loc main_arg1)) (m (c.tc.loc main_arg2)) t s q := by
  rw [tapped_at]
  simp only [opened_at, hx, ha, hb, hc, hd, weight_at, bias_at]
  rfl

/-- The first result array after the run. -/
theorem final5 (c : Dev nD) : (dats m 0 c).arrAt 5 cfg0.N = out5 m c := by
  refine (dats m 0 c).arrAt_eq_of_covers 5 _ (by decide +kernel) fun t hf y => ?_
  obtain ⟨e0, e1, e2, e3, e4, e5, e6⟩ := idx t
  blk_simp
  rw [after0_5]
  frame_out
  obtain ⟨b, s, n, rfl⟩ : ∃ (b : Fin 1) (s : Fin 2048) (n : Fin 512), y = ix3 b s n := ⟨y 0, y 1, y 2, eq_ix3 y⟩
  rw [pay5_eq, closed_at]
  refine (conv_blk m c t _ _ _ _ _ s n ⟨n.val, by omega⟩ ?_ ?_ ?_ ?_ ?_).trans ?_
  · intro s'
    exact run0_at m c t s' n
  · pointwise
  · pointwise
  · pointwise
  · pointwise
  · show out5 m c (ix3 t s n) = _
    refine congrArg (out5 m c) ?_
    blk_ext [e5]

/-- The second. -/
theorem final6 (c : Dev nD) : (dats m 0 c).arrAt 6 cfg0.N = out6 m c := by
  refine (dats m 0 c).arrAt_eq_of_covers 6 _ (by decide +kernel) fun t hf y => ?_
  obtain ⟨e0, e1, e2, e3, e4, e5, e6⟩ := idx t
  blk_simp
  rw [after0_6]
  frame_out
  obtain ⟨b, s, n, rfl⟩ : ∃ (b : Fin 1) (s : Fin 2048) (n : Fin 512), y = ix3 b s n := ⟨y 0, y 1, y 2, eq_ix3 y⟩
  rw [pay16_eq, pay1_at, conv_blk m c t _ _ _ _ _ s n ⟨512 + n.val, by omega⟩, conv_blk m c t _ _ _ _ _ s n ⟨1024 + n.val, by omega⟩]
  · show out6 m c (ix3 t s n) = _
    refine congrArg (out6 m c) ?_
    blk_ext [e6]
  · intro s'
    exact run2_at m c t s' n
  · pointwise
  · pointwise
  · pointwise
  · pointwise
  · intro s'
    exact run1_at m c t s' n
  · pointwise
  · pointwise
  · pointwise
  · pointwise

/-- The kernel's run: the result arrays are the convolution of the arguments, which end unchanged. -/
theorem run : θ_run (defs (F := Ideal)) (onTc (τ := τ) (main (F := Ideal))) ⟨m, fun _ => 0, ρ⟩ fun r => ∀ c : Dev nD,
      r.2.mem ((c.tc : Thread nD τ).loc main_v2_0) = out5 m c
      ∧ r.2.mem ((c.tc : Thread nD τ).loc main_v2_1) = out6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final5 m c), (h c).2.1.trans (final6 m c), (h c).2.2⟩) (Value.run_blocks m ρ)

/-- The claim: both programs end with the convolution of the arguments. -/
theorem algebraic : Cert.algebraic_ConvIdeal_ConvRefIdeal := by
  pair_intro
  · exact run m g
  · run_from Cert.ConvRefIdeal.Value.run (F := Ideal) m' g'
    · exact Ref.value_first _ _ _
    · obtain ⟨h0, h1, h2⟩ := hagree c
      refine (Ref.value_second (m' (c.tc.loc ConvRefIdeal.main_arg0)) (m' (c.tc.loc ConvRefIdeal.main_arg1)) (m' (c.tc.loc ConvRefIdeal.main_arg2))).trans ?_
      rw [h0, h1, h2]

end Cert.Proof.Conv

end
-- ==== Proof.ForwardSpec.lean ====
/-
  The forward transform of the Hyena branch. The transform's matrix holds, in four tiles of 1024 rows, the rows of the real parts of
  512 frequencies and then those of their imaginary parts; the last frequency of all, whose parts are real like the first's, stands
  in the place of the first's imaginary part. Each sequence's transform is multiplied by the filter's, frequency by frequency, as
  complex numbers, the first and the last as the real numbers they are.
-/
module

public import proofs.«01_k».proof.Defs
public import Idealize.ShloMosaic.Lib.Pointwise
public import Idealize.ShloMosaic.Lib.Claim

@[expose] public section

set_option maxRecDepth 16384

noncomputable section

namespace Cert.Proof.Forward

open Idealize.ShloMosaic

/-- The row of part `h` (0 the real, 1 the imaginary) of frequency `p` of tile `n`. -/
def row (n : Fin 4) (h : Fin 2) (p : Fin 512) : Fin 4096 := ⟨n.val * 1024 + h.val * 512 + p.val, by omega⟩

section Spec
variable (f : FVec Ideal ⟨2, ![4096, 2048]⟩ .f32) (z : FVec Ideal ⟨3, ![24, 2048, 512]⟩ .bf16) (g : FVec Ideal ⟨2, ![4096, 512]⟩ .f32)

/-- A part of a frequency of the transform of column `c` of sequence `b`. -/
def coef (b : Fin 24) (c : Fin 512) (r : Fin 4096) : EReal := ∑ s : Fin 2048, f (ix2 r s) * z (ix3 b s c)

/-- The real part of the product, from the two numbers' parts; `o` says that the two parts are two real numbers instead. -/
def re (o : Prop) [Decidable o] (xr xi gr gi : EReal) : EReal := xr * gr - if o then 0 else xi * gi

/-- The imaginary part of the product, or the product of the second numbers. -/
def im (o : Prop) [Decidable o] (xr xi gr gi : EReal) : EReal := if o then xi * gi else xr * gi + xi * gr

/-- The product at tile `n`, part `h`, frequency `p`. -/
def entry (b : Fin 24) (c : Fin 512) (n : Fin 4) (h : Fin 2) (p : Fin 512) : EReal :=
  if h = 0 then re (n.val * 512 + p.val = 0) (coef f z b c (row n 0 p)) (coef f z b c (row n 1 p)) (g (ix2 (row n 0 p) c)) (g (ix2 (row n 1 p) c))
  else im (n.val * 512 + p.val = 0) (coef f z b c (row n 0 p)) (coef f z b c (row n 1 p)) (g (ix2 (row n 0 p) c)) (g (ix2 (row n 1 p) c))

/-- The result. -/
def spec : FVec Ideal ⟨3, ![24, 4096, 512]⟩ .bf16 := fun j =>
  have h1 : (j 1).val < 4096 := (j 1).isLt
  entry f z g (j 0) (j 2) ⟨(j 1).val / 1024, by omega⟩ ⟨(j 1).val % 1024 / 512, by omega⟩ ⟨(j 1).val % 512, by omega⟩

/-- The result at a row given by its tile, part and frequency. -/
theorem spec_row (b : Fin 24) (c : Fin 512) (n : Fin 4) (h : Fin 2) (p : Fin 512) : spec f z g (ix3 b (row n h p) c) = entry f z g b c n h p := by
  have e1 : (⟨(row n h p).val / 1024, by have := (row n h p).isLt; omega⟩ : Fin 4) = n :=
    Fin.ext (by show (n.val * 1024 + h.val * 512 + p.val) / 1024 = n.val; omega)
  have e2 : (⟨(row n h p).val % 1024 / 512, by omega⟩ : Fin 2) = h :=
    Fin.ext (by show (n.val * 1024 + h.val * 512 + p.val) % 1024 / 512 = h.val; omega)
  have e3 : (⟨(row n h p).val % 512, by omega⟩ : Fin 512) = p :=
    Fin.ext (by show (n.val * 1024 + h.val * 512 + p.val) % 512 = p.val; omega)
  show entry f z g b c ⟨(row n h p).val / 1024, _⟩ ⟨(row n h p).val % 1024 / 512, _⟩ ⟨(row n h p).val % 512, _⟩ = _
  rw [e1, e2, e3]

end Spec

end Cert.Proof.Forward

end
-- ==== Proof.ForwardRef.lean ====
/-
  The forward transform's reference over the extended reals, an operation at a time.
-/
module

public import proofs.«01_k».proof.Defs
public import proofs.«01_k».proof.Proof.Gen.ForwardRefIdeal.Run
public import proofs.«01_k».proof.Proof.ForwardSpec
public import Idealize.ShloMosaic.Lib.Pointwise
public import Idealize.ShloMosaic.Lib.Claim

@[expose] public section

set_option maxRecDepth 16384

noncomputable section

namespace Cert.Proof.Forward.Ref

open Cert.ForwardRefIdeal Cert.ForwardRefIdeal.Gen Idealize.ShloMosaic Idealize.ShloMosaic.TcCoe Idealize.SL.Sem

variable (f : FVec Ideal S4096x2048 .f32) (z : FVec Ideal S24x2048x512 .bf16) (g : FVec Ideal S4096x512 .f32)

/-- The matrix's real rows. -/
def fr : FVec Ideal S4x512x2048 .f32 :=
  shapeCast S4x512x2048 (extractStridedSlice S4x1x512x2048 ![0, 0, 0, 0] (shapeCast S4x2x512x2048 f shapeCasts_S4096x2048_S4x2x512x2048)
    slices_S4x2x512x2048_S4x1x512x2048_0_0_0_0) shapeCasts_S4x1x512x2048_S4x512x2048

/-- The matrix's imaginary rows. -/
def fi : FVec Ideal S4x512x2048 .f32 :=
  shapeCast S4x512x2048 (extractStridedSlice S4x1x512x2048 ![0, 1, 0, 0] (shapeCast S4x2x512x2048 f shapeCasts_S4096x2048_S4x2x512x2048)
    slices_S4x2x512x2048_S4x1x512x2048_0_1_0_0) shapeCasts_S4x1x512x2048_S4x512x2048

/-- The filter's real parts, for every sequence. -/
def gr : FVec Ideal S24x4x512x512 .f32 :=
  broadcastInDim S24x4x512x512 ![0, 1, 2, 3] bcast_S1x4x512x512_S24x4x512x512_0_1_2_3 (broadcastInDim S1x4x512x512 ![1, 2, 3] bcast_S4x512x512_S1x4x512x512_1_2_3
    (shapeCast S4x512x512 (extractStridedSlice S4x1x512x512 ![0, 0, 0, 0] (shapeCast S4x2x512x512 g shapeCasts_S4096x512_S4x2x512x512)
      slices_S4x2x512x512_S4x1x512x512_0_0_0_0) shapeCasts_S4x1x512x512_S4x512x512))

/-- The filter's imaginary parts. -/
def gi : FVec Ideal S24x4x512x512 .f32 :=
  broadcastInDim S24x4x512x512 ![0, 1, 2, 3] bcast_S1x4x512x512_S24x4x512x512_0_1_2_3 (broadcastInDim S1x4x512x512 ![1, 2, 3] bcast_S4x512x512_S1x4x512x512_1_2_3
    (shapeCast S4x512x512 (extractStridedSlice S4x1x512x512 ![0, 1, 0, 0] (shapeCast S4x2x512x512 g shapeCasts_S4096x512_S4x2x512x512)
      slices_S4x2x512x512_S4x1x512x512_0_1_0_0) shapeCasts_S4x1x512x512_S4x512x512))

/-- The transform of every sequence by half of the matrix. -/
def transformed (a : FVec Ideal S4x512x2048 .f32) : FVec Ideal S24x4x512x512 .f32 :=
  transpose S24x4x512x512 [2, 0, 1, 3] (Host.dotGeneral dot_S4x512x2048_S24x2048x512_S4x512x24x512_2_1_01_02_n_n none a (extf .f32 z bitsLt_bf16_f32))
    transposes_S4x512x24x512_S24x4x512x512_2_0_1_3

/-- Whether a frequency is the first. -/
def zeroth : IVec S24x4x512x512 1 :=
  broadcastInDim S24x4x512x512 ![0, 1, 2, 3] bcast_S1x4x512x1_S24x4x512x512_0_1_2_3 (cmpi .eq (shapeCast S1x4x512x1 (iotaInDim S2048 32 0) shapeCasts_S2048_S1x4x512x1)
    (broadcastInDim S1x4x512x1 ![] bcast_S_S1x4x512x1 (constantI S_ 32 0#32)))

/-- The real parts of the products. -/
def reals (xr xi gr gi : FVec Ideal S24x4x512x512 .f32) : FVec Ideal S24x4x512x512 .f32 :=
  subf (mulf xr gr) (select zeroth (broadcastInDim S24x4x512x512 ![] bcast_S_S24x4x512x512 (constant S_ .f32 0x00000000#32)) (mulf xi gi))

/-- The imaginary parts. -/
def imags (xr xi gr gi : FVec Ideal S24x4x512x512 .f32) : FVec Ideal S24x4x512x512 .f32 :=
  select zeroth (mulf xi gi) (addf (mulf xr gi) (mulf xi gr))

/-- The two set in tiles, a tile's real parts before its imaginary parts. -/
def stacked (a c : FVec Ideal S24x4x512x512 .f32) : FVec Ideal S24x4096x512 .bf16 :=
  truncf .bf16 (shapeCast S24x4096x512 (concatenate S24x4x2x512x512 2 [⟨S24x4x1x512x512, broadcastInDim S24x4x1x512x512 ![0, 1, 3, 4] bcast_S24x4x512x512_S24x4x1x512x512_0_1_3_4 a⟩,
    ⟨S24x4x1x512x512, broadcastInDim S24x4x1x512x512 ![0, 1, 3, 4] bcast_S24x4x512x512_S24x4x1x512x512_0_1_3_4 c⟩] concatenates_S24x4x1x512x512_S24x4x1x512x512_S24x4x2x512x512_d2)
    shapeCasts_S24x4x2x512x512_S24x4096x512) bitsLt_bf16_f32

/-- An entry of the real rows. -/
theorem fr_at (n : Fin 4) (p : Fin 512) (s : Fin 2048) : fr f (ix3 n p s) = f (ix2 (row n 0 p) s) := by
  unfold fr row
  pointwise

/-- An entry of the imaginary rows. -/
theorem fi_at (n : Fin 4) (p : Fin 512) (s : Fin 2048) : fi f (ix3 n p s) = f (ix2 (row n 1 p) s) := by
  unfold fi row
  pointwise

/-- An entry of the filter's real parts. -/
theorem gr_at (b : Fin 24) (n : Fin 4) (p c : Fin 512) : gr g (ix4 b n p c) = g (ix2 (row n 0 p) c) := by
  unfold gr row
  pointwise

/-- An entry of the filter's imaginary parts. -/
theorem gi_at (b : Fin 24) (n : Fin 4) (p c : Fin 512) : gi g (ix4 b n p c) = g (ix2 (row n 1 p) c) := by
  unfold gi row
  pointwise

/-- An entry of the transform. -/
theorem transformed_at (a) (b : Fin 24) (n : Fin 4) (p c : Fin 512) :
    transformed z a (ix4 b n p c) = (∑ s : Fin 2048, a (ix3 n p s) * z (ix3 b s c) : EReal) := by
  unfold transformed
  pointwise

/-- The first frequency's number, as a word, is the only zero. -/
theorem zeroth_bit : ∀ (n : Fin 4) (p : Fin 512), IntOp.cmpi .eq (BitVec.ofNat 32 (n.val * 512 + p.val)) 0#32 = if n.val * 512 + p.val = 0 then 1#1 else 0#1 := by
  decide +kernel

/-- Which frequency is the first. -/
theorem zeroth_at (b : Fin 24) (n : Fin 4) (p c : Fin 512) : zeroth (ix4 b n p c) = if n.val * 512 + p.val = 0 then 1#1 else 0#1 := by
  unfold zeroth
  pointwise
  exact zeroth_bit n p

/-- An entry of the parts set in tiles. -/
theorem stacked_at (a c : FVec Ideal S24x4x512x512 .f32) (b : Fin 24) (n : Fin 4) (h : Fin 2) (p q : Fin 512) :
    stacked a c (ix3 b (row n h p) q) = if h = 0 then a (ix4 b n p q) else c (ix4 b n p q) := by
  unfold stacked row
  pointwise
  fin_cases h <;> rfl

/-- A selected entry, from what its bit says. -/
theorem select_bit (o : Prop) [Decidable o] (x y : EReal) : Scalar.select (if o then 1#1 else 0#1) x y = if o then x else y := by
  by_cases h : o
  · rw [if_pos h, if_pos h]
    rfl
  · rw [if_neg h, if_neg h]
    rfl

/-- An entry of the real parts. -/
theorem reals_at (xr xi gr gi : FVec Ideal S24x4x512x512 .f32) (b : Fin 24) (n : Fin 4) (p c : Fin 512) :
    reals xr xi gr gi (ix4 b n p c) = re (n.val * 512 + p.val = 0) (xr (ix4 b n p c)) (xi (ix4 b n p c)) (gr (ix4 b n p c)) (gi (ix4 b n p c)) := by
  unfold re
  rw [← select_bit, ← zeroth_at b n p c]
  unfold reals
  generalize zeroth = Z
  pointwise

/-- An entry of the imaginary parts. -/
theorem imags_at (xr xi gr gi : FVec Ideal S24x4x512x512 .f32) (b : Fin 24) (n : Fin 4) (p c : Fin 512) :
    imags xr xi gr gi (ix4 b n p c) = im (n.val * 512 + p.val = 0) (xr (ix4 b n p c)) (xi (ix4 b n p c)) (gr (ix4 b n p c)) (gi (ix4 b n p c)) := by
  unfold im
  rw [← select_bit, ← zeroth_at b n p c]
  unfold imags
  generalize zeroth = Z
  pointwise

/-- The reference's result is `spec` of its arguments. -/
theorem value : stacked (reals (transformed z (fr f)) (transformed z (fi f)) (gr g) (gi g)) (imags (transformed z (fr f)) (transformed z (fi f)) (gr g) (gi g))
      = spec f z g := by
  funext j
  obtain ⟨b, r, c, rfl⟩ : ∃ (b : Fin 24) (r : Fin 4096) (c : Fin 512), j = ix3 b r c := ⟨j 0, j 1, j 2, eq_ix3 j⟩
  obtain ⟨n, h, p, rfl⟩ : ∃ (n : Fin 4) (h : Fin 2) (p : Fin 512), r = row n h p :=
    ⟨⟨r.val / 1024, by omega⟩, ⟨r.val % 1024 / 512, by omega⟩, ⟨r.val % 512, by omega⟩,
      Fin.ext (by show r.val = r.val / 1024 * 1024 + r.val % 1024 / 512 * 512 + r.val % 512; omega)⟩
  rw [stacked_at, reals_at, imags_at, spec_row]
  simp only [transformed_at, fr_at, fi_at, gr_at, gi_at]
  rfl

end Cert.Proof.Forward.Ref

end
-- ==== Proof.ForwardValue.lean ====
/-
  The forward transform's kernel over the extended reals: a grid point takes one tile of the matrix, one sequence and the tile's rows
  of the filter's transform, and writes the tile's real parts and imaginary parts in two stores.
-/
module

public import proofs.«01_k».proof.Defs
public import proofs.«01_k».proof.Proof.ForwardSpec
public import proofs.«01_k».proof.Proof.ForwardRef
public import proofs.«01_k».proof.Proof.Gen.ForwardIdeal.Value
public import proofs.«01_k».proof.Proof.Gen.ForwardRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Forward

open Cert.ForwardIdeal Cert.ForwardIdeal.Gen Idealize.ShloMosaic Idealize.ShloMosaic.TcCoe Idealize.SL.Sem
open Idealize.ShloMosaic.Pipeline (Dat)

section Pay
variable (i : grid0.Coords) (a : FVec Ideal S1024x2048 .bf16) (z : FVec Ideal S1x2048x512 .bf16) (gr gi : FVec Ideal S512x512 .f32)

/-- An entry of the tile's transform, in its real parts. -/
theorem pay2_at (p c : Fin 512) : (k0_pay2 (F := Ideal) a z (ix2 p c) : EReal) = ∑ s : Fin 2048, a (ix2 ⟨p.val, by omega⟩ s) * z (ix3 0 s c) := by
  unfold k0_pay2 k0_pay1
  pointwise

/-- An entry of its imaginary parts. -/
theorem pay3_at (p c : Fin 512) : (k0_pay3 (F := Ideal) a z (ix2 p c) : EReal) = ∑ s : Fin 2048, a (ix2 ⟨512 + p.val, by omega⟩ s) * z (ix3 0 s c) := by
  unfold k0_pay3 k0_pay1
  pointwise

/-- A tile's row is the first frequency's: row 0 of tile 0. -/
theorem first_bit : ∀ (n : Fin 4) (p : Fin 512),
    IntOp.andi (IntOp.cmpi .eq (BitVec.ofNat 32 p.val) 0#32) (IntOp.cmpi .eq (BitVec.ofNat 32 n.val) 0#32) = if n.val * 512 + p.val = 0 then 1#1 else 0#1 := by
  decide +kernel

/-- The mask of the first frequency. -/
theorem pay4_at (p c : Fin 512) : k0_pay4 i (ix2 p c) = if (i 0).val * 512 + p.val = 0 then 1#1 else 0#1 := by
  rw [← first_bit (i 0) p]
  unfold k0_pay4
  pointwise
  rfl

/-- An entry of the real parts' block. -/
theorem pay6_at (b : Fin 1) (p c : Fin 512) : (k0_pay6 (F := Ideal) i a z gr gi (ix3 b p c) : EReal)
    = re ((i 0).val * 512 + p.val = 0) (∑ s : Fin 2048, a (ix2 ⟨p.val, by omega⟩ s) * z (ix3 0 s c)) (∑ s : Fin 2048, a (ix2 ⟨512 + p.val, by omega⟩ s) * z (ix3 0 s c))
        (gr (ix2 p c)) (gi (ix2 p c)) := by
  unfold re
  rw [← pay2_at, ← pay3_at, ← Ref.select_bit, ← pay4_at i p c]
  unfold k0_pay6 k0_pay5
  generalize k0_pay2 (F := Ideal) a z = A
  generalize k0_pay3 (F := Ideal) a z = B
  generalize k0_pay4 i = M
  pointwise

/-- An entry of the imaginary parts' block. -/
theorem pay7_at (b : Fin 1) (p c : Fin 512) : (k0_pay7 (F := Ideal) i a z gr gi (ix3 b p c) : EReal)
    = im ((i 0).val * 512 + p.val = 0) (∑ s : Fin 2048, a (ix2 ⟨p.val, by omega⟩ s) * z (ix3 0 s c)) (∑ s : Fin 2048, a (ix2 ⟨512 + p.val, by omega⟩ s) * z (ix3 0 s c))
        (gr (ix2 p c)) (gi (ix2 p c)) := by
  unfold im
  rw [← pay2_at, ← pay3_at, ← Ref.select_bit, ← pay4_at i p c]
  unfold k0_pay7 k0_pay5
  generalize k0_pay2 (F := Ideal) a z = A
  generalize k0_pay3 (F := Ideal) a z = B
  generalize k0_pay4 i = M
  pointwise

end Pay

variable (m : (ℓ : Loc nD τ sig) → Buf (Elt Ideal) ℓ) (ρ : Dev nD → PrngReg)

/-- The result as a function of the arguments. -/
abbrev out (c : Dev nD) : FVec Ideal S24x4096x512 .bf16 :=
  spec (m ((c : Thread nD τ).loc main_arg0)) (m ((c : Thread nD τ).loc main_arg1)) (m ((c : Thread nD τ).loc main_arg2))

/-- Where the windows stand at point `t`: tile `t / 24`, sequence `t % 24`. -/
theorem idx : ∀ t : Fin cfg0.N,
    win0_0.index t = ![t.val / 24, 0] ∧ win0_1.index t = ![t.val % 24, 0, 0] ∧ win0_2.index t = ![t.val / 24, 0]
      ∧ win0_3.index t = ![t.val % 24, t.val / 24, 0] := by
  decide +kernel

/-- A tile's row in the first half is a real part's. -/
theorem low_row (n : Fin 4) (p : Fin 512) : (⟨n.val * 1024 + p.val, by omega⟩ : Fin 4096) = row n 0 p :=
  Fin.ext (by show n.val * 1024 + p.val = n.val * 1024 + 0 * 512 + p.val; omega)

/-- One in the second half is an imaginary part's. -/
theorem high_row (n : Fin 4) (p : Fin 512) : (⟨n.val * 1024 + (512 + p.val), by omega⟩ : Fin 4096) = row n 1 p :=
  Fin.ext (by show n.val * 1024 + (512 + p.val) = n.val * 1024 + 1 * 512 + p.val; omega)

section Read
variable (c : Dev nD) (t : Fin cfg0.N)

/-- Point `t`'s tile. -/
def tile : Fin 4 := ⟨t.val / 24, by have h : t.val < 96 := t.isLt; omega⟩

/-- Its sequence. -/
def seq : Fin 24 := ⟨t.val % 24, by omega⟩

/-- An entry of the tile of the matrix. -/
theorem mat_at (r : Fin 1024) (s : Fin 2048) : (iblk m c 0 t : Vec Ideal S1024x2048 .bf16) (ix2 r s)
    = m (c.tc.loc main_arg0) (ix2 ⟨(tile t).val * 1024 + r.val, by omega⟩ s) := by
  obtain ⟨e0, e1, e2, e3⟩ := idx t
  blk_simp [iblk, e0]
  entry_read
  pointwise
  unfold tile
  blk_ext [iblk, V, e0]

/-- An entry of the sequence. -/
theorem seq_at (s : Fin 2048) (q : Fin 512) : (iblk m c 1 t : Vec Ideal S1x2048x512 .bf16) (ix3 0 s q) = m (c.tc.loc main_arg1) (ix3 (seq t) s q) := by
  obtain ⟨e0, e1, e2, e3⟩ := idx t
  blk_simp [iblk, e1]
  entry_read
  unfold seq
  blk_ext [iblk, V, e1]

/-- An entry of the tile's rows of the filter's transform. -/
theorem filt_at (r : Fin 1024) (q : Fin 512) : (iblk m c 2 t : Vec Ideal S1024x512 .f32) (ix2 r q)
    = m (c.tc.loc main_arg2) (ix2 ⟨(tile t).val * 1024 + r.val, by omega⟩ q) := by
  obtain ⟨e0, e1, e2, e3⟩ := idx t
  blk_simp [iblk, e2]
  entry_read
  unfold tile
  blk_ext [iblk, V, e2]

/-- The grid's first coordinate at point `t` is its tile. -/
theorem coord : ∀ t : Fin cfg0.N, (grid0.coords t 0).val = t.val / 24 := by
  decide +kernel

/-- Point `t`'s real parts, over its blocks, are the result's where the point writes them. -/
theorem re_blk (p q : Fin 512) (gr gi : FVec Ideal S512x512 .f32)
    (hr : gr (ix2 p q) = (iblk m c 2 t : Vec Ideal S1024x512 .f32) (ix2 ⟨p.val, by omega⟩ q))
    (hi : gi (ix2 p q) = (iblk m c 2 t : Vec Ideal S1024x512 .f32) (ix2 ⟨512 + p.val, by omega⟩ q)) (b : Fin 1) :
    (k0_pay6 (F := Ideal) (grid0.coords t) (iblk m c 0 t) (iblk m c 1 t) gr gi (ix3 b p q) : EReal) = out m c (ix3 (seq t) (row (tile t) 0 p) q) := by
  refine Eq.trans ?_ (spec_row _ _ _ (seq t) q (tile t) 0 p).symm
  rw [pay6_at, hr, hi, filt_at, filt_at, coord t]
  simp only [mat_at, seq_at]
  unfold entry coef
  rw [if_pos rfl, ← low_row, ← high_row]
  rfl

/-- Its imaginary parts likewise. -/
theorem im_blk (p q : Fin 512) (gr gi : FVec Ideal S512x512 .f32)
    (hr : gr (ix2 p q) = (iblk m c 2 t : Vec Ideal S1024x512 .f32) (ix2 ⟨p.val, by omega⟩ q))
    (hi : gi (ix2 p q) = (iblk m c 2 t : Vec Ideal S1024x512 .f32) (ix2 ⟨512 + p.val, by omega⟩ q)) (b : Fin 1) :
    (k0_pay7 (F := Ideal) (grid0.coords t) (iblk m c 0 t) (iblk m c 1 t) gr gi (ix3 b p q) : EReal) = out m c (ix3 (seq t) (row (tile t) 1 p) q) := by
  refine Eq.trans ?_ (spec_row _ _ _ (seq t) q (tile t) 1 p).symm
  rw [pay7_at, hr, hi, filt_at, filt_at, coord t]
  simp only [mat_at, seq_at]
  unfold entry coef
  rw [if_neg (by decide), ← low_row, ← high_row]
  rfl

end Read

/-- The result array after the run. -/
theorem final (c : Dev nD) : (dats m 0 c).arrAt 3 cfg0.N = out m c := by
  refine (dats m 0 c).arrAt_eq_of_covers 3 _ (by decide +kernel) fun t hf y => ?_
  obtain ⟨e0, e1, e2, e3⟩ := idx t
  blk_simp
  rw [after0_3]
  frame_out
  obtain ⟨b, s, q, rfl⟩ : ∃ (b : Fin 1) (s : Fin 1024) (q : Fin 512), y = ix3 b s q := ⟨y 0, y 1, y 2, eq_ix3 y⟩
  refine View.canon_eq_of_allAt _ _ _ (View.cover_of_tiled_head _ _ _ rfl _) ?_
  refine View.allAt_cons_unit _ _ _ _ _ ?_ (View.allAt_cons_unit _ _ _ _ _ ?_ (View.allAt_nil _ _))
  all_goals
    intro x hx
    obtain ⟨b', p, q', rfl⟩ : ∃ (b' : Fin 1) (p : Fin 512) (q' : Fin 512), x = ix3 b' p q' := ⟨x 0, x 1, x 2, eq_ix3 x⟩
    have h2 : q.val = 0 + q'.val := hx 2
    obtain rfl : q' = q := Fin.ext (by omega)
  · have h1 : s.val = 512 + p.val := hx 1
    refine (im_blk m c t p q' _ _ ?_ ?_ b').trans (congrArg (out m c) ?_)
    · pointwise
    · pointwise
    · unfold seq row tile
      blk_ext [e3]
  · have h1 : s.val = 0 + p.val := hx 1
    refine (re_blk m c t p q' _ _ ?_ ?_ b').trans (congrArg (out m c) ?_)
    · pointwise
    · pointwise
    · unfold seq row tile
      blk_ext [e3]

/-- The kernel's run: the result array is `spec` of the arguments, which end unchanged. -/
theorem run : θ_run (defs (F := Ideal)) (onTc (τ := τ) (main (F := Ideal))) ⟨m, fun _ => 0, ρ⟩ fun r => ∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- The claim: both programs end with `spec` of the arguments. -/
theorem algebraic : Cert.algebraic_ForwardIdeal_ForwardRefIdeal := by
  pair_intro
  · exact run m g
  · run_from Cert.ForwardRefIdeal.Value.run (F := Ideal) m' g'
    obtain ⟨h0, h1, h2⟩ := hagree c
    refine (Ref.value (m' (c.tc.loc ForwardRefIdeal.main_arg0)) (m' (c.tc.loc ForwardRefIdeal.main_arg1)) (m' (c.tc.loc ForwardRefIdeal.main_arg2))).trans ?_
    rw [h0, h1, h2]

end Cert.Proof.Forward

end
-- ==== Proof.InverseValue.lean ====
/-
  The last step of the Hyena branch: each sequence's spectrum times the inverse transform's matrix, entry by entry times the gate of
  the branch. The kernel takes 1024 rows of the matrix and one sequence at a point; the reference is one product of arrays.
-/
module

public import proofs.«01_k».proof.Defs
public import proofs.«01_k».proof.Proof.Gen.InverseIdeal.Value
public import proofs.«01_k».proof.Proof.Gen.InverseRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Inverse

open Idealize.ShloMosaic

/-- The result: the gate times the inverse transform of the spectrum. -/
def spec (f : FVec Ideal ⟨2, ![2048, 4096]⟩ .f32) (y : FVec Ideal ⟨3, ![24, 4096, 512]⟩ .bf16) (g : FVec Ideal ⟨3, ![24, 2048, 512]⟩ .bf16) :
    FVec Ideal ⟨3, ![24, 2048, 512]⟩ .bf16 := fun j =>
  (g (ix3 (j 0) (j 1) (j 2)) * ∑ k : Fin 4096, f (ix2 (j 1) k) * y (ix3 (j 0) k (j 2)) : EReal)

namespace Ref

open Cert.InverseRefIdeal Cert.InverseRefIdeal.Gen Idealize.ShloMosaic.TcCoe Idealize.SL.Sem

/-- The reference's result is `spec` of its arguments. -/
theorem value (f : FVec Ideal S2048x4096 .f32) (y : FVec Ideal S24x4096x512 .bf16) (g : FVec Ideal S24x2048x512 .bf16) :
    truncf .bf16 (mulf (extf .f32 g bitsLt_bf16_f32) (transpose S24x2048x512 [0, 2, 1] (Host.dotGeneral dot_S24x4096x512_S2048x4096_S24x512x2048_1_1_02_0_n_n none
      (extf .f32 y bitsLt_bf16_f32) f) transposes_S24x512x2048_S24x2048x512_0_2_1)) bitsLt_bf16_f32 = spec f y g := by
  funext j
  obtain ⟨b, s, q, rfl⟩ : ∃ (b : Fin 24) (s : Fin 2048) (q : Fin 512), j = ix3 b s q := ⟨j 0, j 1, j 2, eq_ix3 j⟩
  unfold spec
  pointwise
  exact congrArg (g (ix3 b s q) * ·) (Finset.sum_congr rfl fun k _ => mul_comm _ _)

end Ref

open Cert.InverseIdeal Cert.InverseIdeal.Gen Idealize.ShloMosaic.TcCoe Idealize.SL.Sem
open Idealize.ShloMosaic.Pipeline (Dat)

variable (m : (ℓ : Loc nD τ sig) → Buf (Elt Ideal) ℓ) (ρ : Dev nD → PrngReg)

/-- Where the windows stand at point `t`: half `t / 24` of the rows, sequence `t % 24`. -/
theorem idx : ∀ t : Fin cfg0.N,
    win0_0.index t = ![t.val / 24, 0] ∧ win0_1.index t = ![t.val % 24, 0, 0] ∧ win0_2.index t = ![t.val % 24, t.val / 24, 0]
      ∧ win0_3.index t = ![t.val % 24, t.val / 24, 0] := by
  decide +kernel

/-- The result array after the run. -/
theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  frame_out
  obtain ⟨b, s, q, rfl⟩ : ∃ (b : Fin 1) (s : Fin 1024) (q : Fin 512), y = ix3 b s q := ⟨y 0, y 1, y 2, eq_ix3 y⟩
  unfold k0_pay1 spec
  pointwise
  refine congrArg₂ (· * ·) ?_ (Finset.sum_congr rfl fun k _ => congrArg₂ (· * ·) ?_ ?_)
  · blk_simp [iblk, e2]
    entry_read
    blk_ext [iblk, V, e2, e3]
  · blk_simp [iblk, e0]
    entry_read
    pointwise
    blk_ext [iblk, V, e0, e3]
  · blk_simp [iblk, e1]
    entry_read
    blk_ext [iblk, V, e1, e3]

/-- The kernel's run: the result array is `spec` of the arguments, which end unchanged. -/
theorem run : θ_run (defs (F := Ideal)) (onTc (τ := τ) (main (F := Ideal))) ⟨m, fun _ => 0, ρ⟩ fun r => ∀ c : Dev nD,
      r.2.mem ((c.tc : Thread nD τ).loc main_v1)
        = spec (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- The claim: both programs end with `spec` of the arguments. -/
theorem algebraic : Cert.algebraic_InverseIdeal_InverseRefIdeal := by
  pair_intro
  · exact run m g
  · run_from Cert.InverseRefIdeal.Value.run (F := Ideal) m' g'
    exact Ref.value _ _ _

end Cert.Proof.Inverse

end
-- ==== Proof.Finite.lean ====
/-
  Finite entries. A number with |x| < ∞ has x - x = 0, so the product of two arrays in three parts (the leading parts, and each
  leading part with the other's rest) is over the extended reals the plain product: the rests are zero.
-/
module

public import Idealize.ShloMosaic.Lib.Pointwise
public import Idealize.ShloMosaic.Lib.Claim

@[expose] public section

noncomputable section

namespace Cert.Proof.Finite

open Idealize.ShloMosaic

/-- The word of infinity is infinity. -/
theorem inf_word : Ideal.ofBits .f32 0x7F800000#32 = ⊤ := by simp [Ideal.ofBits, Ideal.ieee]

/-- A finite number minus itself is zero. -/
theorem sub_of_lt (x : EReal) (h : max x (-x) < ⊤) : x - x = 0 := by
  induction x using EReal.rec with
  | bot => simp at h
  | top => simp at h
  | coe r => rw [← EReal.coe_sub, sub_self, EReal.coe_zero]

/-- The comparison of |x| with infinity, as a bit, says it. -/
theorem sub_of_bit (x : EReal) (h : Ideal.cmp .olt (max x (-x)) (Ideal.ofBits .f32 0x7F800000#32) = 1#1) : x - x = 0 := by
  rw [inf_word] at h
  refine sub_of_lt x ?_
  by_contra hn
  rw [show Ideal.cmp .olt (max x (-x)) ⊤ = BitVec.ofBool (decide (max x (-x) < ⊤)) from rfl, decide_eq_false hn] at h
  exact absurd h (by decide)

/-- A product of rows in three parts. -/
def three {n : Nat} (f g : Fin n → EReal) : EReal := (∑ k, f k * g k) + ((∑ k, f k * (g k - g k)) + ∑ k, (f k - f k) * g k)

/-- It is the plain product. -/
theorem three_eq {n : Nat} (f g : Fin n → EReal) (hf : ∀ k, f k - f k = 0) (hg : ∀ k, g k - g k = 0) : three f g = ∑ k, f k * g k := by
  unfold three
  rw [Finset.sum_congr rfl fun k _ => show f k * (g k - g k) = 0 by rw [hg k, mul_zero],
    Finset.sum_congr rfl fun k _ => show (f k - f k) * g k = 0 by rw [hf k, zero_mul], Finset.sum_const_zero, add_zero, add_zero]

end Cert.Proof.Finite

end
-- ==== Proof.SpectrumValue.lean ====
/-
  The filter's transform. The matrix holds, in four tiles of 1024 rows, the rows of the real parts of 512 frequencies and then those
  of their imaginary parts; the last frequency of all stands in the place of the first's imaginary part. A real part's row is taken
  with the filter's even taps, an imaginary part's with its odd ones. The kernel takes both products of a tile in three parts of
  bf16 each; the entries are finite, so they are the plain products.
-/
module

public import proofs.«01_k».proof.Defs
public import proofs.«01_k».proof.Proof.Finite
public import proofs.«01_k».proof.Proof.Gen.Pre_finite
public import proofs.«01_k».proof.Proof.Gen.SpectrumIdeal.Value
public import proofs.«01_k».proof.Proof.Gen.SpectrumRefIdeal.Run
public import Idealize.ShloMosaic.Lib.Pipeline.ValueKit
public import Idealize.ShloMosaic.Lib.Pointwise
public import Idealize.ShloMosaic.Lib.Claim
public import Idealize.ShloMosaic.Lib.ReduceAll

@[expose] public section

set_option maxRecDepth 16384

noncomputable section

namespace Cert.Proof.Spectrum

open Idealize.ShloMosaic

/-- Row `r` is a real part's: it stands in a tile's first half, or is the last frequency's. -/
abbrev Real (r : Nat) : Prop := r / 512 % 2 = 0 ∨ r = 512

/-- A choice by the bit of a condition is the choice by the condition. -/
theorem select_bit (o : Prop) [Decidable o] (x y : EReal) : Scalar.select (if o then 1#1 else 0#1) x y = if o then x else y := by
  by_cases h : o
  · rw [if_pos h, if_pos h]
    rfl
  · rw [if_neg h, if_neg h]
    rfl

/-- The result. -/
def spec (f : FVec Ideal ⟨2, ![4096, 2048]⟩ .f32) (e o : FVec Ideal ⟨2, ![2048, 512]⟩ .f32) : FVec Ideal ⟨2, ![4096, 512]⟩ .f32 := fun j =>
  (if Real (j 0).val then ∑ s : Fin 2048, f (ix2 (j 0) s) * e (ix2 s (j 1)) else ∑ s : Fin 2048, f (ix2 (j 0) s) * o (ix2 s (j 1)) : EReal)

namespace Ref

open Cert.SpectrumRefIdeal Cert.SpectrumRefIdeal.Gen Idealize.ShloMosaic.TcCoe Idealize.SL.Sem

/-- The mask of the real parts' rows, as the reference computes it. -/
def mask : IVec S4096 1 :=
  ori (cmpi .eq (Host.remsi (Host.divsi (iotaInDim S4096 32 0) (broadcastInDim S4096 ![] bcast_S_S4096 (constantI S_ 32 512#32)))
      (broadcastInDim S4096 ![] bcast_S_S4096 (constantI S_ 32 2#32))) (broadcastInDim S4096 ![] bcast_S_S4096 (constantI S_ 32 0#32)))
    (cmpi .eq (iotaInDim S4096 32 0) (broadcastInDim S4096 ![] bcast_S_S4096 (constantI S_ 32 512#32)))

/-- It is the bit of `Real`. -/
theorem mask_at : ∀ r : Fin 4096, mask (ix1 r) = if Real r.val then 1#1 else 0#1 := by
  decide +kernel

/-- The reference's result is `spec` of its arguments. -/
theorem value (f : FVec Ideal S4096x2048 .f32) (e o : FVec Ideal S2048x512 .f32) :
    select (broadcastInDim S4096x512 ![0, 1] bcast_S4096x1_S4096x512_0_1 (broadcastInDim S4096x1 ![0] bcast_S4096_S4096x1_0 mask))
      (Host.dotGeneral dot_S4096x2048_S2048x512_S4096x512_1_0_0_1_n_n none f e)
      (Host.dotGeneral dot_S4096x2048_S2048x512_S4096x512_1_0_0_1_n_n none f o) = spec f e o := by
  funext j
  obtain ⟨r, q, rfl⟩ : ∃ (r : Fin 4096) (q : Fin 512), j = ix2 r q := ⟨j 0, j 1, eq_ix2 j⟩
  show _ = if Real r.val then ∑ s : Fin 2048, f (ix2 r s) * e (ix2 s q) else ∑ s : Fin 2048, f (ix2 r s) * o (ix2 s q)
  rw [← select_bit, ← mask_at r]
  generalize mask = M
  pointwise

end Ref

open Cert.SpectrumIdeal Cert.SpectrumIdeal.Gen Idealize.ShloMosaic.TcCoe Idealize.SL.Sem
open Idealize.ShloMosaic.Pipeline (Dat)

/-- The mask of a tile, as the kernel computes it. -/
theorem tile_bit : ∀ (n : Fin 4) (r : Fin 1024),
    IntOp.ori (IntOp.cmpi .slt (BitVec.ofNat 32 r.val) 512#32)
      (IntOp.andi (IntOp.cmpi .eq (BitVec.ofNat 32 r.val) 512#32) (IntOp.cmpi .eq (BitVec.ofNat 32 n.val) 0#32))
      = if Real (n.val * 1024 + r.val) then 1#1 else 0#1 := by
  decide +kernel

/-- A tile's payload at an entry, the products in three parts. -/
theorem parts_at (i : grid0.Coords) (a : Vec Ideal S1024x2048 .f32) (e o : Vec Ideal S2048x512 .f32) (r : Fin 1024) (q : Fin 512) :
    (k0_pay1 (F := Ideal) i a e o (ix2 r q) : EReal) = Scalar.select
      (IntOp.ori (IntOp.cmpi .slt (BitVec.ofNat 32 r.val) 512#32)
        (IntOp.andi (IntOp.cmpi .eq (BitVec.ofNat 32 r.val) 512#32) (IntOp.cmpi .eq (BitVec.ofNat 32 (i 0).val) 0#32)))
      (Finite.three (fun s : Fin 2048 => a (ix2 r s)) (fun s => e (ix2 s q)))
      (Finite.three (fun s : Fin 2048 => a (ix2 r s)) (fun s => o (ix2 s q))) := by
  unfold k0_pay1 Finite.three
  pointwise
  rfl

/-- The same of finite entries. -/
theorem pay_at (i : grid0.Coords) (a : Vec Ideal S1024x2048 .f32) (e o : Vec Ideal S2048x512 .f32) (r : Fin 1024) (q : Fin 512)
    (ha : ∀ s : Fin 2048, (a (ix2 r s) - a (ix2 r s) : EReal) = 0) (he : ∀ s : Fin 2048, (e (ix2 s q) - e (ix2 s q) : EReal) = 0)
    (ho : ∀ s : Fin 2048, (o (ix2 s q) - o (ix2 s q) : EReal) = 0) :
    (k0_pay1 (F := Ideal) i a e o (ix2 r q) : EReal) = if Real ((i 0).val * 1024 + r.val)
      then ∑ s : Fin 2048, a (ix2 r s) * e (ix2 s q) else ∑ s : Fin 2048, a (ix2 r s) * o (ix2 s q) := by
  rw [parts_at, Finite.three_eq _ _ ha he, Finite.three_eq _ _ ha ho, tile_bit (i 0) r, select_bit]

/-! ## The precondition -/

/-- The three arrays' entries are finite. -/
theorem finite_of_pre (f : FVec Ideal Cert.Pre_finite.S4096x2048 .f32) (e o : FVec Ideal Cert.Pre_finite.S2048x512 .f32)
    (h : Cert.Pre_finite.fn (F := Ideal) f e o = fun _ => 1#1) :
    (∀ j, (f j - f j : EReal) = 0) ∧ (∀ j, (e j - e j : EReal) = 0) ∧ (∀ j, (o j - o j : EReal) = 0) := by
  have h1 := congrFun h (fun a => a.elim0)
  dsimp only [Cert.Pre_finite.fn] at h1
  obtain ⟨h2, ho⟩ := IntOp.andi_eq_one.mp h1
  obtain ⟨hf, he⟩ := IntOp.andi_eq_one.mp h2
  exact ⟨fun j => Finite.sub_of_bit _ (Host.reduce_andi_all _ _ _ _ _ hf j), fun j => Finite.sub_of_bit _ (Host.reduce_andi_all _ _ _ _ _ he j),
    fun j => Finite.sub_of_bit _ (Host.reduce_andi_all _ _ _ _ _ ho j)⟩

/-! ## The run -/

variable (m : (ℓ : Loc nD τ sig) → Buf (Elt Ideal) ℓ) (ρ : Dev nD → PrngReg)

/-- Where the windows stand at point `t`: tile `t` of the matrix and of the result, the taps whole. -/
theorem idx : ∀ t : Fin cfg0.N,
    win0_0.index t = ![t.val, 0] ∧ win0_1.index t = ![0, 0] ∧ win0_2.index t = ![0, 0] ∧ win0_3.index t = ![t.val, 0] := by
  decide +kernel

/-- The grid's coordinate at point `t` is `t`. -/
theorem coord : ∀ t : Fin cfg0.N, (grid0.coords t 0).val = t.val := by
  decide +kernel

section Read
variable (c : Dev nD) (t : Fin cfg0.N)

/-- Row `r` of tile `t`. -/
def at_row (r : Fin 1024) : Fin 4096 := ⟨t.val * 1024 + r.val, by have h : t.val < 4 := t.isLt; omega⟩

/-- An entry of the tile of the matrix. -/
theorem mat_at (r : Fin 1024) (s : Fin 2048) : (iblk m c 0 t : Vec Ideal S1024x2048 .f32) (ix2 r s) = m (c.tc.loc main_arg0) (ix2 (at_row t r) s) := by
  obtain ⟨e0, e1, e2, e3⟩ := idx t
  blk_simp [iblk, e0]
  entry_read
  unfold at_row
  blk_ext [iblk, V, e0]

/-- An entry of the even taps. -/
theorem even_at (s : Fin 2048) (q : Fin 512) : (iblk m c 1 t : Vec Ideal S2048x512 .f32) (ix2 s q) = m (c.tc.loc main_arg1) (ix2 s q) := by
  obtain ⟨e0, e1, e2, e3⟩ := idx t
  blk_simp [iblk, e1]
  entry_read
  blk_ext [iblk, V, e1]

/-- An entry of the odd taps. -/
theorem odd_at (s : Fin 2048) (q : Fin 512) : (iblk m c 2 t : Vec Ideal S2048x512 .f32) (ix2 s q) = m (c.tc.loc main_arg2) (ix2 s q) := by
  obtain ⟨e0, e1, e2, e3⟩ := idx t
  blk_simp [iblk, e2]
  entry_read
  blk_ext [iblk, V, e2]

end Read

/-- The result as a function of the arguments. -/
abbrev out (c : Dev nD) : FVec Ideal S4096x512 .f32 :=
  spec (m ((c : Thread nD τ).loc main_arg0)) (m ((c : Thread nD τ).loc main_arg1)) (m ((c : Thread nD τ).loc main_arg2))

/-- The result array after the run, for finite arguments. -/
theorem final (hp : Cert.Pre_SpectrumIdeal_finite m) (c : Dev nD) : (dats m 0 c).arrAt 3 cfg0.N = out m c := by
  obtain ⟨hf, he, ho⟩ := finite_of_pre _ _ _ (hp c)
  refine (dats m 0 c).arrAt_eq_of_covers 3 _ (by decide +kernel) fun t hfl y => ?_
  obtain ⟨e0, e1, e2, e3⟩ := idx t
  blk_simp
  rw [after0_3]
  frame_out
  obtain ⟨r, q, rfl⟩ : ∃ (r : Fin 1024) (q : Fin 512), y = ix2 r q := ⟨y 0, y 1, eq_ix2 y⟩
  refine (pay_at _ _ _ _ r q ?_ ?_ ?_).trans ?_
  · intro s
    rw [mat_at]
    exact hf _
  · intro s
    rw [even_at]
    exact he _
  · intro s
    rw [odd_at]
    exact ho _
  · simp only [mat_at, even_at, odd_at, coord t]
    refine Eq.trans (b := out m c (ix2 (at_row t r) q)) rfl (congrArg (out m c) ?_)
    unfold at_row
    blk_ext [e3]

/-- The kernel's run: the result array is `spec` of the arguments, which end unchanged. -/
theorem run (hp : Cert.Pre_SpectrumIdeal_finite m) :
    θ_run (defs (F := Ideal)) (onTc (τ := τ) (main (F := Ideal))) ⟨m, fun _ => 0, ρ⟩ fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m hp c), (h c).2⟩) (Value.run_blocks m ρ)

/-- The claim: of finite arguments both programs end with `spec`. -/
theorem algebraic : Cert.algebraic_SpectrumIdeal_SpectrumRefIdeal_pre_finite := by
  pair_intro
  · exact run m g hpre
  · run_from Cert.SpectrumRefIdeal.Value.run (F := Ideal) m' g'
    exact Ref.value _ _ _

end Cert.Proof.Spectrum

end
-- ==== Proof.TapsSpec.lean ====
/-
  The filter taps' mathematics: three layers of sines over the positions' features, a last product, and the taps it gives after
  the decay, normalised. A layer taken over 128 lanes, its arrays continued by zeros and its product in three parts, is the
  layer continued by zeros.
-/
module

public import proofs.«01_k».proof.Proof.Finite

@[expose] public section

noncomputable section

namespace Cert.Proof.Taps

open Idealize.ShloMosaic

/-! ## Real numbers among the extended ones -/

/-- `x` is a real number. -/
def IsReal (x : EReal) : Prop := ∃ r : ℝ, x = (r : EReal)

theorem IsReal.sub_self {x : EReal} (h : IsReal x) : x - x = 0 := by
  obtain ⟨r, rfl⟩ := h
  rw [← EReal.coe_sub, _root_.sub_self, EReal.coe_zero]

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.div {x y : EReal} (hx : IsReal x) (hy : IsReal y) (h0 : y ≠ 0) : IsReal (Ideal.div x y) := by
  obtain ⟨a, rfl⟩ := hx
  obtain ⟨b, rfl⟩ := hy
  unfold Ideal.div
  rw [if_neg h0, ← EReal.coe_inv, ← EReal.coe_mul]
  exact ⟨_, rfl⟩

/-- A normal number's word is a real number other than zero. -/
theorem word_real (b : BitVec 32) (h1 : (b.extractLsb' 23 8).toNat ≠ 255) (h0 : (b.extractLsb' 23 8).toNat ≠ 0) :
    ∃ r : ℝ, r ≠ 0 ∧ Ideal.ofBits .f32 b = (r : EReal) := by
  unfold Ideal.ofBits Ideal.ieee
  dsimp only
  rw [if_neg (by simpa using h1), if_neg h0]
  refine ⟨_, ?_, rfl⟩
  refine mul_ne_zero (mul_ne_zero ?_ ?_) ?_
  · split <;> norm_num
  · exact_mod_cast Nat.ne_of_gt (by positivity)
  · positivity

theorem IsReal.word (b : BitVec 32) (h1 : (b.extractLsb' 23 8).toNat ≠ 255) (h0 : (b.extractLsb' 23 8).toNat ≠ 0) : IsReal (Ideal.ofBits .f32 b) :=
  (word_real b h1 h0).imp fun _ h => h.2

theorem word_ne (b : BitVec 32) (h1 : (b.extractLsb' 23 8).toNat ≠ 255) (h0 : (b.extractLsb' 23 8).toNat ≠ 0) : Ideal.ofBits .f32 b ≠ 0 := by
  obtain ⟨r, hr, h⟩ := word_real b h1 h0
  rw [h]
  exact_mod_cast hr

/-- A whole number is real. -/
theorem IsReal.int (b : BitVec 32) : IsReal (FloatOps.sitofp .f32 b : Ideal .f32) := ⟨_, rfl⟩

theorem IsReal.abs {x : EReal} (hx : IsReal x) : IsReal (max x (-x)) := by
  rcases max_choice x (-x) with h | h
  · rw [h]
    exact hx
  · rw [h]
    exact hx.neg

theorem IsReal.one : IsReal 1 := ⟨1, rfl⟩

theorem sin_zero : Ideal.sin 0 = 0 := by
  show ((Real.sin 0 : ℝ) : EReal) = 0
  rw [Real.sin_zero, EReal.coe_zero]

/-! ## Equal, or infinite both

  A product in three parts is the plain product where that is a real number; where it is infinite the three parts' sum is infinite
  too, perhaps of the other sign. -/

theorem not_real {x : EReal} (h : ¬ IsReal x) : x = ⊥ ∨ x = ⊤ := by
  induction x using EReal.rec with
  | bot => exact Or.inl rfl
  | top => exact Or.inr rfl
  | coe r => exact absurd ⟨r, rfl⟩ h

theorem bot_not_real : ¬ IsReal ⊥ := fun ⟨r, h⟩ => EReal.coe_ne_bot r h.symm

theorem top_not_real : ¬ IsReal ⊤ := fun ⟨r, h⟩ => EReal.coe_ne_top r h.symm

/-- The summands of a real sum are real. -/
theorem IsReal.of_add {x y : EReal} (h : IsReal (x + y)) : IsReal x ∧ IsReal y := by
  induction x using EReal.rec with
  | bot => exact absurd h (by rw [EReal.bot_add]; exact bot_not_real)
  | top =>
    induction y using EReal.rec with
    | bot => exact absurd h (by rw [EReal.add_bot]; exact bot_not_real)
    | top => exact absurd h (by rw [EReal.top_add_top]; exact top_not_real)
    | coe b => exact absurd h (by rw [EReal.top_add_coe]; exact top_not_real)
  | coe a =>
    induction y using EReal.rec with
    | bot => exact absurd h (by rw [EReal.add_bot]; exact bot_not_real)
    | top => exact absurd h (by rw [EReal.coe_add_top]; exact top_not_real)
    | coe b => exact ⟨⟨a, rfl⟩, ⟨b, rfl⟩⟩

theorem IsReal.of_sum {ι : Type} {u : Finset ι} {f : ι → EReal} (h : IsReal (∑ k ∈ u, f k)) {k : ι} (hk : k ∈ u) : IsReal (f k) := by
  classical
  rw [← Finset.add_sum_erase u f hk] at h
  exact h.of_add.1

/-- The infinite times a number other than zero is infinite. -/
theorem mul_not_real {x y : EReal} (hx : ¬ IsReal x) (hy : y ≠ 0) : ¬ IsReal (x * y) := by
  rcases not_real hx with rfl | rfl
  · rcases lt_or_gt_of_ne hy with h | h
    · rw [EReal.bot_mul_of_neg h]
      exact top_not_real
    · rw [EReal.bot_mul_of_pos h]
      exact bot_not_real
  · rcases lt_or_gt_of_ne hy with h | h
    · rw [EReal.top_mul_of_neg h]
      exact bot_not_real
    · rw [EReal.top_mul_of_pos h]
      exact top_not_real

/-- Equal, or infinite both. -/
def Same (x y : EReal) : Prop := x = y ∨ (¬ IsReal x ∧ ¬ IsReal y)

theorem Same.refl (x : EReal) : Same x x := Or.inl rfl

theorem Same.add {x y : EReal} (h : Same x y) (b : EReal) : Same (x + b) (y + b) := by
  rcases h with rfl | ⟨hx, hy⟩
  · exact .refl _
  · exact Or.inr ⟨fun h => hx h.of_add.1, fun h => hy h.of_add.1⟩

theorem Same.mul {x y d : EReal} (h : Same x y) (hd : d ≠ 0) : Same (x * d) (y * d) := by
  rcases h with rfl | ⟨hx, hy⟩
  · exact .refl _
  · exact Or.inr ⟨mul_not_real hx hd, mul_not_real hy hd⟩

theorem sin_not_real {x : EReal} (h : ¬ IsReal x) : Ideal.sin x = ⊥ := by
  rcases not_real h with rfl | rfl <;> rfl

theorem Same.sin {x y : EReal} (h : Same x y) : Ideal.sin x = Ideal.sin y := by
  rcases h with rfl | ⟨hx, hy⟩
  · rfl
  · rw [sin_not_real hx, sin_not_real hy]

theorem abs_not_real {x : EReal} (h : ¬ IsReal x) : max x (-x) = ⊤ := by
  rcases not_real h with rfl | rfl
  · rw [EReal.neg_bot, max_eq_right bot_le]
  · rw [EReal.neg_top, max_eq_left bot_le]

theorem Same.abs {x y : EReal} (h : Same x y) : max x (-x) = max y (-y) := by
  rcases h with rfl | ⟨hx, hy⟩
  · rfl
  · rw [abs_not_real hx, abs_not_real hy]

theorem abs_nonneg (x : EReal) : 0 ≤ max x (-x) := by
  rcases le_total 0 x with h | h
  · exact h.trans (le_max_left _ _)
  · exact (by rw [← neg_zero]; exact EReal.neg_le_neg_iff.mpr h : (0 : EReal) ≤ -x).trans (le_max_right _ _)

theorem div_top (x : EReal) : Ideal.div x ⊤ = 0 := by
  unfold Ideal.div
  rw [if_neg EReal.top_ne_zero, EReal.inv_top, mul_zero]

/-- By a number that is infinite whenever the dividend is, the quotient is the same. -/
theorem Same.div {x y z : EReal} (h : Same x y) (hz : ¬ IsReal y → z = ⊤) : Ideal.div x z = Ideal.div y z := by
  rcases h with rfl | ⟨_, hy⟩
  · rfl
  · rw [hz hy, div_top, div_top]

/-- The rests of two factors with a real product add nothing. -/
theorem rests {x y : EReal} (h : IsReal (x * y)) : x * (y - y) = 0 ∧ (x - x) * y = 0 := by
  by_cases hx : IsReal x
  · by_cases hy : IsReal y
    · rw [hx.sub_self, hy.sub_self, mul_zero, zero_mul]
      exact ⟨rfl, rfl⟩
    · have hx0 : x = 0 := by
        by_contra h0
        exact mul_not_real hy h0 (by rwa [mul_comm])
      subst hx0
      rw [zero_mul, IsReal.zero.sub_self, zero_mul]
      exact ⟨rfl, rfl⟩
  · have hy0 : y = 0 := by
      by_contra h0
      exact mul_not_real hx h0 h
    subst hy0
    rw [IsReal.zero.sub_self, mul_zero, mul_zero]
    exact ⟨rfl, rfl⟩

/-- A product in three parts is the plain product, or both are infinite. -/
theorem three_same {n : Nat} (f g : Fin n → EReal) : Same (Finite.three f g) (∑ k, f k * g k) := by
  unfold Finite.three
  by_cases h : IsReal (∑ k, f k * g k)
  · refine Or.inl ?_
    have hk : ∀ k, f k * (g k - g k) = 0 ∧ (f k - f k) * g k = 0 := fun k => rests (h.of_sum (Finset.mem_univ k))
    simp only [(hk _).1, (hk _).2, Finset.sum_const_zero, add_zero]
  · exact Or.inr ⟨fun h' => h h'.of_add.1, h⟩

/-! ## Continuing by zeros -/

/-- `f` continued by zeros. -/
def ext {n : Nat} (N : Nat) (f : Fin n → EReal) (k : Fin N) : EReal := if h : k.val < n then f ⟨k.val, h⟩ else 0

/-- A sum over the continued functions is the sum over the functions. -/
theorem sum_ext {n N : Nat} (hn : n ≤ N) (f g : Fin n → EReal) : ∑ k : Fin N, ext N f k * ext N g k = ∑ k : Fin n, f k * g k := by
  have h1 : ∀ k : Fin N, k ∉ Finset.univ.map (Fin.castLEEmb hn) → ext N f k * ext N g k = 0 := by
    intro k hk
    have : ¬ k.val < n := fun h => hk (Finset.mem_map.mpr ⟨⟨k.val, h⟩, Finset.mem_univ _, rfl⟩)
    unfold ext
    rw [dif_neg this, zero_mul]
  rw [← Finset.sum_subset (Finset.subset_univ _) fun k _ hk => h1 k hk, Finset.sum_map]
  refine Finset.sum_congr rfl fun k _ => ?_
  unfold ext
  rw [dif_pos (show ((Fin.castLEEmb hn) k).val < n from k.isLt), dif_pos (show ((Fin.castLEEmb hn) k).val < n from k.isLt)]
  rfl

/-! ## The layers -/

/-- A layer's entry. -/
def layer {n p : Nat} (z : Fin n → EReal) (w : Fin n → Fin p → EReal) (b : Fin p → EReal) (j : Fin p) : EReal :=
  Ideal.sin ((∑ k, z k * w k j) + b j)

/-- A matrix continued by zeros both ways. -/
def ext2 {n p : Nat} (N P : Nat) (w : Fin n → Fin p → EReal) (k : Fin N) (j : Fin P) : EReal := ext N (fun k' => ext P (w k') j) k

/-- A layer over the continued arrays, its product in three parts, is the layer, continued. -/
theorem layer_ext {n p N P : Nat} (hn : n ≤ N) (z : Fin n → EReal) (w : Fin n → Fin p → EReal) (b : Fin p → EReal) (j : Fin P) :
    Ideal.sin (Finite.three (ext N z) (fun k => ext2 N P w k j) + ext P b j) = ext P (layer z w b) j := by
  unfold ext2
  rw [((three_same _ _).add _).sin, sum_ext hn]
  by_cases h : j.val < p
  · simp only [ext, dif_pos h, layer]
  · simp only [ext, dif_neg h, mul_zero, Finset.sum_const_zero, add_zero, sin_zero]

/-- The last layer's output at position features `z`. -/
def hidden (z : Fin 33 → EReal) (w1 : Fin 33 → Fin 64 → EReal) (b1 : Fin 64 → EReal) (w2 : Fin 64 → Fin 64 → EReal) (b2 : Fin 64 → EReal)
    (w3 : Fin 64 → Fin 64 → EReal) (b3 : Fin 64 → EReal) : Fin 64 → EReal :=
  layer (layer (layer z w1 b1) w2 b2) w3 b3

/-! ## The taps -/

section Filter
variable (y : Fin 2048 → Fin 1024 → EReal) (d : Fin 2048 → Fin 512 → EReal) (b : Fin 512 → EReal) (s : Fin 2048) (q : Fin 512)

/-- The forward taps before they are normalised. -/
def fwd : EReal := y s ⟨q.val, by omega⟩ * d s q

/-- The backward taps before they are normalised; position 0 has none. -/
def bwd : EReal := if s.val = 0 then 0 else y s ⟨512 + q.val, by omega⟩ * d s q

/-- The normaliser of a channel: the sum of the taps' sizes. -/
def norm : EReal := (∑ s : Fin 2048, max (fwd y d s q) (-fwd y d s q)) + ∑ s : Fin 2048, max (bwd y d s q) (-bwd y d s q)

/-- The forward taps, the bias on position 0. -/
def forward : EReal := if s.val = 0 then Ideal.div (fwd y d s q) (norm y d q) + b q else Ideal.div (fwd y d s q) (norm y d q)

/-- The backward taps. -/
def backward : EReal := Ideal.div (bwd y d s q) (norm y d q)

/-- The even taps. -/
def even : EReal := forward y d b s q + backward y d s q

/-- The odd taps. -/
def odd : EReal := forward y d b s q - backward y d s q

variable {y d b s q} {y' : Fin 2048 → Fin 1024 → EReal} (hy : ∀ s n, Same (y' s n) (y s n)) (hd : ∀ s q, d s q ≠ 0)
include hy hd

theorem fwd_same : Same (fwd y' d s q) (fwd y d s q) := (hy _ _).mul (hd s q)

theorem bwd_same : Same (bwd y' d s q) (bwd y d s q) := by
  unfold bwd
  split
  · exact .refl _
  · exact (hy _ _).mul (hd s q)

theorem norm_same : norm y' d q = norm y d q := by
  unfold norm
  rw [Finset.sum_congr rfl fun s _ => (fwd_same hy hd (s := s) (q := q)).abs, Finset.sum_congr rfl fun s _ => (bwd_same hy hd (s := s) (q := q)).abs]

omit hy hd

theorem top_of_part {n : Nat} {f : Fin n → EReal} {k : Fin n} (h : ¬ IsReal (f k)) : ∑ k, max (f k) (-f k) = ⊤ :=
  top_le_iff.mp ((abs_not_real h).symm.le.trans
    (Finset.single_le_sum (f := fun k => max (f k) (-f k)) (fun k _ => abs_nonneg (f k)) (Finset.mem_univ k)))

theorem sum_nonneg {n : Nat} (f : Fin n → EReal) : 0 ≤ ∑ k, max (f k) (-f k) := Finset.sum_nonneg fun k _ => abs_nonneg (f k)

theorem norm_fwd (h : ¬ IsReal (fwd y d s q)) : norm y d q = ⊤ := by
  unfold norm
  rw [top_of_part (f := fun s => fwd y d s q) h]
  exact top_le_iff.mp (le_add_of_nonneg_right (sum_nonneg _))

theorem norm_bwd (h : ¬ IsReal (bwd y d s q)) : norm y d q = ⊤ := by
  unfold norm
  rw [top_of_part (f := fun s => bwd y d s q) h]
  exact top_le_iff.mp (le_add_of_nonneg_left (sum_nonneg _))

include hy hd

theorem forward_same : forward y' d b s q = forward y d b s q := by
  unfold forward
  rw [norm_same hy hd, (fwd_same hy hd).div norm_fwd]

theorem backward_same : backward y' d s q = backward y d s q := by
  unfold backward
  rw [norm_same hy hd, (bwd_same hy hd).div norm_bwd]

/-- Of products equal or infinite both the taps are equal: a channel with an infinite tap has an infinite normaliser, so its taps are zero. -/
theorem even_same : even y' d b s q = even y d b s q := by
  unfold even
  rw [forward_same hy hd, backward_same hy hd]

theorem odd_same : odd y' d b s q = odd y d b s q := by
  unfold odd
  rw [forward_same hy hd, backward_same hy hd]

end Filter

end Cert.Proof.Taps

end
-- ==== Proof.TapsRef.lean ====
/-
  The filter taps' reference, entry by entry: its layers, its decay, its normaliser and its two results are those of the specification.
-/
module

public import proofs.«01_k».proof.Proof.TapsSpec
public import proofs.«01_k».proof.Proof.Gen.TapsRefIdeal.Run
public import Idealize.ShloMosaic.Lib.Pointwise
public import Idealize.ShloMosaic.Lib.Claim

@[expose] public section

set_option maxRecDepth 16384

noncomputable section

namespace Cert.Proof.Taps.Ref

open Idealize.ShloMosaic
open Cert.TapsRefIdeal Cert.TapsRefIdeal.Gen Idealize.ShloMosaic.TcCoe Idealize.SL.Sem

/-! ## What the program computes -/

/-- The bands' frequencies. -/
def bands : FVec Ideal S16 .f32 :=
  concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0

/-- The positions' times. -/
def time : FVec Ideal S2048 .f32 :=
  Host.divf (sitofp .f32 (iotaInDim S2048 32 0)) (broadcastInDim S2048 ![] bcast_S_S2048 (constant S_ .f32 0x45000000#32))

/-- The angles. -/
def angle : FVec Ideal S2048x16 .f32 :=
  mulf (broadcastInDim S2048x16 ![0, 1] bcast_S2048x1_S2048x16_0_1 (broadcastInDim S2048x1 ![0] bcast_S2048_S2048x1_0 (Host.divf (mulf (broadcastInDim S2048 ![] bcast_S_S2048 (constant S_ .f32 0x40C90FDB#32)) (sitofp .f32 (iotaInDim S2048 32 0))) (broadcastInDim S2048 ![] bcast_S_S2048 (constant S_ .f32 0x45000000#32))))) (broadcastInDim S2048x16 ![0, 1] bcast_S1x16_S2048x16_0_1 (broadcastInDim S1x16 ![1] bcast_S16_S1x16_1 bands))

/-- The positions' features. -/
def feat : FVec Ideal S2048x33 .f32 :=
  (concatenate S2048x33 1 [⟨S2048x1, ((broadcastInDim S2048x1 ![0] bcast_S2048_S2048x1_0 time))⟩, ⟨S2048x16, ((Host.cos angle))⟩, ⟨S2048x16, ((Host.negf (Host.sin angle)))⟩] concatenates_S2048x1_S2048x16_S2048x16_S2048x33_d1)

/-- The channels' rates of decay. -/
def rate : FVec Ideal S512 .f32 :=
  Host.absf (concatenate S512 0 [⟨S511, (addf (mulf (broadcastInDim S511 ![0] bcast_S1_S511_0 (shapeCast _ (id (constant S_ .f32 0xC1759BEC#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC0447CBD#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC0447CBD#32)))⟩] concatenates_S511_S1_S512_d0)

/-- A bias on every position. -/
def onRows (b : FVec Ideal S64 .f32) : FVec Ideal S2048x64 .f32 :=
  broadcastInDim S2048x64 ![0, 1] bcast_S1x64_S2048x64_0_1 (broadcastInDim S1x64 ![1] bcast_S64_S1x64_1 b)

/-- The first layer. -/
def lay1 (z : FVec Ideal S2048x33 .f32) (w : FVec Ideal S33x64 .f32) (b : FVec Ideal S64 .f32) : FVec Ideal S2048x64 .f32 :=
  Host.sin (addf (Host.dotGeneral dot_S2048x33_S33x64_S2048x64_1_0_0_1_n_n none z w) (onRows b))

/-- A further layer. -/
def lay2 (z : FVec Ideal S2048x64 .f32) (w : FVec Ideal S64x64 .f32) (b : FVec Ideal S64 .f32) : FVec Ideal S2048x64 .f32 :=
  Host.sin (addf (Host.dotGeneral dot_S2048x64_S64x64_S2048x64_1_0_0_1_n_n none z w) (onRows b))

/-- The decay. -/
def fall (t : FVec Ideal S2048 .f32) (r : FVec Ideal S512 .f32) : FVec Ideal S2048x1x512 .f32 :=
  Host.exp (mulf (broadcastInDim S2048x1x512 ![0, 1, 2] bcast_S2048x1x1_S2048x1x512_0_1_2 (Host.negf (broadcastInDim S2048x1x1 ![0] bcast_S2048_S2048x1x1_0 t)))
    (broadcastInDim S2048x1x512 ![0, 1, 2] bcast_S1x1x512_S2048x1x512_0_1_2 (broadcastInDim S1x1x512 ![2] bcast_S512_S1x1x512_2 r)))

/-- The last product after the decay. -/
def decayed (y : FVec Ideal S2048x1024 .f32) (g : FVec Ideal S2048x1x512 .f32) : FVec Ideal S2048x2x512 .f32 :=
  mulf (shapeCast _ y shapeCasts_S2048x1024_S2048x2x512) (broadcastInDim S2048x2x512 ![0, 1, 2] bcast_S2048x1x512_S2048x2x512_0_1_2 g)

/-- The forward taps. -/
def fw (x : FVec Ideal S2048x2x512 .f32) : FVec Ideal S2048x512 .f32 :=
  shapeCast _ (extractStridedSlice S2048x1x512 ![0, 0, 0] x slices_S2048x2x512_S2048x1x512_0_0_0) shapeCasts_S2048x1x512_S2048x512

/-- The backward taps. -/
def bw (x : FVec Ideal S2048x2x512 .f32) : FVec Ideal S2048x512 .f32 :=
  pad S2048x512 ![1, 0] ![0, 0] ![0, 0] (shapeCast _ (extractStridedSlice S2047x1x512 ![1, 1, 0] x slices_S2048x2x512_S2047x1x512_1_1_0) shapeCasts_S2047x1x512_S2047x512)
    (sitofp .f32 (constantI S_ 32 0#32)) pads_S2047x512_S2048x512_100_000 h_S_

/-- The normaliser on every position. -/
def total (f g : FVec Ideal S2048x512 .f32) : FVec Ideal S2048x512 .f32 :=
  broadcastInDim S2048x512 ![0, 1] bcast_S1x512_S2048x512_0_1 (broadcastInDim S1x512 ![1] bcast_S512_S1x512_1
    (addf (Host.reduceAdd (Host.absf f) (constant S_ .f32 0x00000000#32) reducesTo_S2048x512_S512_d0 h_S_)
      (Host.reduceAdd (Host.absf g) (constant S_ .f32 0x00000000#32) reducesTo_S2048x512_S512_d0 h_S_)))

/-- The bias on position 0. -/
def first (b : FVec Ideal S512 .f32) : FVec Ideal S2048x512 .f32 :=
  pad S2048x512 ![0, 0] ![2047, 0] ![0, 0] (broadcastInDim S1x512 ![1] bcast_S512_S1x512_1 b) (sitofp .f32 (constantI S_ 32 0#32)) pads_S1x512_S2048x512_020470_000 h_S_

/-- The last product. -/
def prod (w1 : FVec Ideal S33x64 .f32) (b1 : FVec Ideal S64 .f32) (w2 : FVec Ideal S64x64 .f32) (b2 : FVec Ideal S64 .f32)
    (w3 : FVec Ideal S64x64 .f32) (b3 : FVec Ideal S64 .f32) (w4 : FVec Ideal S64x1024 .f32) : FVec Ideal S2048x1024 .f32 :=
  Host.dotGeneral dot_S2048x64_S64x1024_S2048x1024_1_0_0_1_n_n none (lay2 (lay2 (lay1 feat w1 b1) w2 b2) w3 b3) w4

/-- The forward taps, normalised, with the bias. -/
def forwardA (f g : FVec Ideal S2048x512 .f32) (b : FVec Ideal S512 .f32) : FVec Ideal S2048x512 .f32 := addf (Host.divf f (total f g)) (first b)

/-- The backward taps, normalised. -/
def backwardA (f g : FVec Ideal S2048x512 .f32) : FVec Ideal S2048x512 .f32 := Host.divf g (total f g)

/-! ## Entry by entry -/

/-- The pad's value is zero. -/
theorem pad_zero : (FloatOps.sitofp .f32 (0#32) : Ideal .f32) = (0 : EReal) := by
  show (((0#32 : BitVec 32).toInt : ℝ) : EReal) = 0
  simp

theorem lay1_at (z : FVec Ideal S2048x33 .f32) (w : FVec Ideal S33x64 .f32) (b : FVec Ideal S64 .f32) (s : Fin 2048) (j : Fin 64) :
    lay1 z w b (ix2 s j) = layer (fun k => z (ix2 s k)) (fun k j => w (ix2 k j)) (fun j => b (ix1 j)) j := by
  unfold lay1 layer onRows
  pointwise

theorem lay2_at (z : FVec Ideal S2048x64 .f32) (w : FVec Ideal S64x64 .f32) (b : FVec Ideal S64 .f32) (s : Fin 2048) (j : Fin 64) :
    lay2 z w b (ix2 s j) = layer (fun k => z (ix2 s k)) (fun k j => w (ix2 k j)) (fun j => b (ix1 j)) j := by
  unfold lay2 layer onRows
  pointwise

theorem fall_at (t : FVec Ideal S2048 .f32) (r : FVec Ideal S512 .f32) (s : Fin 2048) (q : Fin 512) :
    (fall t r (ix3 s 0 q) : EReal) = Ideal.exp (-(t (ix1 s)) * r (ix1 q)) := by
  unfold fall
  pointwise

theorem fw_at (y : FVec Ideal S2048x1024 .f32) (g : FVec Ideal S2048x1x512 .f32) (s : Fin 2048) (q : Fin 512) :
    (fw (decayed y g) (ix2 s q) : EReal) = y (ix2 s ⟨q.val, by omega⟩) * g (ix3 s 0 q) := by
  unfold fw decayed
  pointwise

theorem bw_at (y : FVec Ideal S2048x1024 .f32) (g : FVec Ideal S2048x1x512 .f32) (s : Fin 2048) (q : Fin 512) :
    (bw (decayed y g) (ix2 s q) : EReal) = if s.val = 0 then 0 else y (ix2 s ⟨512 + q.val, by omega⟩) * g (ix3 s 0 q) := by
  unfold bw decayed
  pointwise
  by_cases h : s.val = 0
  · rw [dif_neg (by omega), if_pos h, pad_zero]
  · have e : (⟨1 + (s.val - 1), by omega⟩ : Fin 2048) = s := Fin.ext (by show 1 + (s.val - 1) = s.val; omega)
    rw [dif_pos (by omega), if_neg h, e]

theorem total_at (f g : FVec Ideal S2048x512 .f32) (s : Fin 2048) (q : Fin 512) :
    (total f g (ix2 s q) : EReal) = (∑ s : Fin 2048, max (f (ix2 s q) : EReal) (-f (ix2 s q))) + ∑ s : Fin 2048, max (g (ix2 s q) : EReal) (-g (ix2 s q)) := by
  unfold total
  pointwise
  rfl

theorem first_at (b : FVec Ideal S512 .f32) (s : Fin 2048) (q : Fin 512) :
    (first b (ix2 s q) : EReal) = if s.val = 0 then b (ix1 q) else 0 := by
  unfold first
  pointwise
  by_cases h : s.val = 0
  · rw [dif_pos (by omega), if_pos h]
  · rw [dif_neg (by omega), if_neg h, pad_zero]

theorem time_at (s : Fin 2048) : IsReal (time (ix1 s)) := by
  unfold time
  pointwise
  exact (IsReal.int _).div (IsReal.word _ (by decide) (by decide)) (word_ne _ (by decide) (by decide))

theorem rate_at (q : Fin 512) : IsReal (rate (ix1 q)) := by
  unfold rate
  pointwise
  refine IsReal.abs ?_
  have hd : IsReal (Ideal.div (FloatOps.sitofp .f32 (BitVec.ofNat 32 q.val) : Ideal .f32) (Ideal.ofBits .f32 0x43FF8000#32)) :=
    (IsReal.int _).div (IsReal.word _ (by decide) (by decide)) (word_ne _ (by decide) (by decide))
  split
  · exact ((IsReal.word 0xC1759BEC#32 (by decide) (by decide)).mul (IsReal.one.sub hd)).add ((IsReal.word 0xC0447CBD#32 (by decide) (by decide)).mul hd)
  · exact IsReal.word 0xC0447CBD#32 (by decide) (by decide)

section
variable (m : (ℓ : Loc nD τ sig) → Buf (Elt Ideal) ℓ) (c : Dev nD)

/-- The last product of a run's arguments. -/
abbrev prodM : FVec Ideal S2048x1024 .f32 :=
  prod (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem even_term : Value.res_out0 m c
    = addf (forwardA (fw (decayed (prodM m c) (fall time rate))) (bw (decayed (prodM m c) (fall time rate))) (m ((c.tc : Thread nD τ).loc main_arg7)))
        (backwardA (fw (decayed (prodM m c) (fall time rate))) (bw (decayed (prodM m c) (fall time rate)))) := by
  unfold Value.res_out0 Value.res_main_v66
  rfl

theorem odd_term : Value.res_out1 m c
    = subf (forwardA (fw (decayed (prodM m c) (fall time rate))) (bw (decayed (prodM m c) (fall time rate))) (m ((c.tc : Thread nD τ).loc main_arg7)))
        (backwardA (fw (decayed (prodM m c) (fall time rate))) (bw (decayed (prodM m c) (fall time rate)))) := by
  unfold Value.res_out1 Value.res_main_v67
  rfl

/-- The product's rows as the specification has them. -/
def rows (w1 : FVec Ideal S33x64 .f32) (b1 : FVec Ideal S64 .f32) (w2 : FVec Ideal S64x64 .f32) (b2 : FVec Ideal S64 .f32)
    (w3 : FVec Ideal S64x64 .f32) (b3 : FVec Ideal S64 .f32) (w4 : FVec Ideal S64x1024 .f32) (s : Fin 2048) (n : Fin 1024) : EReal :=
  ∑ k : Fin 64, hidden (fun k => feat (ix2 s k)) (fun k j => w1 (ix2 k j)) (fun j => b1 (ix1 j)) (fun k j => w2 (ix2 k j)) (fun j => b2 (ix1 j))
    (fun k j => w3 (ix2 k j)) (fun j => b3 (ix1 j)) k * w4 (ix2 k n)

/-- The decay as the specification has it. -/
def decay (s : Fin 2048) (q : Fin 512) : EReal := Ideal.exp (-(time (ix1 s)) * rate (ix1 q))

/-- The decay is never zero. -/
theorem decay_ne (s : Fin 2048) (q : Fin 512) : decay s q ≠ 0 := by
  obtain ⟨r, h⟩ := (time_at s).neg.mul (rate_at q)
  unfold decay
  rw [h]
  show ((Real.exp r : ℝ) : EReal) ≠ 0
  exact_mod_cast (Real.exp_pos r).ne'

theorem prod_at (w1 : FVec Ideal S33x64 .f32) (b1 : FVec Ideal S64 .f32) (w2 : FVec Ideal S64x64 .f32) (b2 : FVec Ideal S64 .f32)
    (w3 : FVec Ideal S64x64 .f32) (b3 : FVec Ideal S64 .f32) (w4 : FVec Ideal S64x1024 .f32) (s : Fin 2048) (n : Fin 1024) :
    prod w1 b1 w2 b2 w3 b3 w4 (ix2 s n) = rows w1 b1 w2 b2 w3 b3 w4 s n := by
  have h3 : ∀ k : Fin 64, lay2 (lay2 (lay1 feat w1 b1) w2 b2) w3 b3 (ix2 s k) = hidden (fun k => feat (ix2 s k)) (fun k j => w1 (ix2 k j))
      (fun j => b1 (ix1 j)) (fun k j => w2 (ix2 k j)) (fun j => b2 (ix1 j)) (fun k j => w3 (ix2 k j)) (fun j => b3 (ix1 j)) k := by
    intro k
    unfold hidden
    rw [lay2_at]
    congr 1
    funext k
    rw [lay2_at]
    congr 1
    funext k
    rw [lay1_at]
  unfold prod rows
  simp only [← h3]
  generalize lay2 (lay2 (lay1 feat w1 b1) w2 b2) w3 b3 = H
  pointwise

theorem div_ideal (f g : FVec Ideal S2048x512 .f32) (j) : (Host.divf f g j : EReal) = Ideal.div (f j) (g j) := rfl

section Tap
variable (y : FVec Ideal S2048x1024 .f32) (b : FVec Ideal S512 .f32) (s : Fin 2048) (q : Fin 512)

theorem fwd_eq : (fw (decayed y (fall time rate)) (ix2 s q) : EReal) = fwd (fun s n => y (ix2 s n)) decay s q := by
  rw [fw_at, fall_at]
  rfl

theorem bwd_eq : (bw (decayed y (fall time rate)) (ix2 s q) : EReal) = bwd (fun s n => y (ix2 s n)) decay s q := by
  rw [bw_at, fall_at]
  rfl

theorem norm_eq : (total (fw (decayed y (fall time rate))) (bw (decayed y (fall time rate))) (ix2 s q) : EReal) = norm (fun s n => y (ix2 s n)) decay q := by
  rw [total_at]
  unfold norm
  simp only [fwd_eq, bwd_eq]

theorem forward_eq : (forwardA (fw (decayed y (fall time rate))) (bw (decayed y (fall time rate))) b (ix2 s q) : EReal)
    = forward (fun s n => y (ix2 s n)) decay (fun q => b (ix1 q)) s q := by
  show (Host.divf (F := Ideal) (φ := .f32) (fw (decayed y (fall time rate))) (total (fw (decayed y (fall time rate))) (bw (decayed y (fall time rate)))) (ix2 s q) : EReal) + first b (ix2 s q) = _
  rw [div_ideal, fwd_eq, norm_eq, first_at]
  unfold forward
  split
  · rfl
  · exact add_zero _

theorem backward_eq : (backwardA (fw (decayed y (fall time rate))) (bw (decayed y (fall time rate))) (ix2 s q) : EReal)
    = backward (fun s n => y (ix2 s n)) decay s q := by
  show (Host.divf (F := Ideal) (φ := .f32) (bw (decayed y (fall time rate))) (total (fw (decayed y (fall time rate))) (bw (decayed y (fall time rate)))) (ix2 s q) : EReal) = _
  rw [div_ideal, bwd_eq, norm_eq]
  rfl

end Tap

/-- The reference's even taps. -/
theorem even_value (s : Fin 2048) (q : Fin 512) : (Value.res_out0 m c (ix2 s q) : EReal)
    = even (fun s n => prodM m c (ix2 s n)) decay (fun q => m ((c.tc : Thread nD τ).loc main_arg7) (ix1 q)) s q := by
  rw [even_term]
  generalize prodM m c = y
  unfold even
  rw [← forward_eq, ← backward_eq]
  rfl

/-- The reference's odd taps. -/
theorem odd_value (s : Fin 2048) (q : Fin 512) : (Value.res_out1 m c (ix2 s q) : EReal)
    = odd (fun s n => prodM m c (ix2 s n)) decay (fun q => m ((c.tc : Thread nD τ).loc main_arg7) (ix1 q)) s q := by
  rw [odd_term]
  generalize prodM m c = y
  unfold odd
  rw [← forward_eq, ← backward_eq]
  rfl

end

end Cert.Proof.Taps.Ref

end
-- ==== Proof.TapsHost.lean ====
/-
  The filter taps' arrays as the kernel finds them: the features and the weights continued by zeros to 128 lanes, the decay, and
  the bias as a row.
-/
module

public import proofs.«01_k».proof.Proof.TapsRef
public import proofs.«01_k».proof.Proof.Gen.TapsIdeal.Value
public import Idealize.ShloMosaic.Lib.Pipeline.ValueKit
public import Idealize.ShloMosaic.Lib.Pointwise
public import Idealize.ShloMosaic.Lib.Claim

@[expose] public section

set_option maxRecDepth 16384

noncomputable section

namespace Cert.Proof.Taps

open Idealize.ShloMosaic
open Cert.TapsIdeal Cert.TapsIdeal.Gen Idealize.ShloMosaic.TcCoe Idealize.SL.Sem
open Idealize.ShloMosaic.Pipeline (Dat)

variable (m : (ℓ : Loc nD τ sig) → Buf (Elt Ideal) ℓ) (c : Dev nD)

/-! ## The features and the decay as the host computes them -/

/-- The bands' frequencies. -/
def bands : FVec Ideal S16 .f32 :=
  concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0

/-- The positions' times. -/
def time : FVec Ideal S2048 .f32 :=
  Host.divf (sitofp .f32 (iotaInDim S2048 32 0)) (broadcastInDim S2048 ![] bcast_S_S2048 (constant S_ .f32 0x45000000#32))

/-- The angles. -/
def angle : FVec Ideal S2048x16 .f32 :=
  mulf (broadcastInDim S2048x16 ![0, 1] bcast_S2048x1_S2048x16_0_1 (broadcastInDim S2048x1 ![0] bcast_S2048_S2048x1_0 (Host.divf (mulf (broadcastInDim S2048 ![] bcast_S_S2048 (constant S_ .f32 0x40C90FDB#32)) (sitofp .f32 (iotaInDim S2048 32 0))) (broadcastInDim S2048 ![] bcast_S_S2048 (constant S_ .f32 0x45000000#32))))) (broadcastInDim S2048x16 ![0, 1] bcast_S1x16_S2048x16_0_1 (broadcastInDim S1x16 ![1] bcast_S16_S1x16_1 bands))

/-- The positions' features. -/
def feat : FVec Ideal S2048x33 .f32 :=
  (concatenate S2048x33 1 [⟨S2048x1, ((broadcastInDim S2048x1 ![0] bcast_S2048_S2048x1_0 time))⟩, ⟨S2048x16, ((Host.cos angle))⟩, ⟨S2048x16, ((Host.negf (Host.sin angle)))⟩] concatenates_S2048x1_S2048x16_S2048x16_S2048x33_d1)

/-- The channels' rates of decay. -/
def rate : FVec Ideal S512 .f32 :=
  Host.absf (concatenate S512 0 [⟨S511, (addf (mulf (broadcastInDim S511 ![0] bcast_S1_S511_0 (shapeCast _ (id (constant S_ .f32 0xC1759BEC#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC0447CBD#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC0447CBD#32)))⟩] concatenates_S511_S1_S512_d0)

/-- The decay. -/
def fall : FVec Ideal S2048x512 .f32 :=
  Host.exp (mulf (broadcastInDim S2048x512 ![0, 1] bcast_S2048x1_S2048x512_0_1 (Host.negf (broadcastInDim S2048x1 ![0] bcast_S2048_S2048x1_0 time)))
    (broadcastInDim S2048x512 ![0, 1] bcast_S1x512_S2048x512_0_1 (broadcastInDim S1x512 ![1] bcast_S512_S1x512_1 rate)))

theorem feat_eq : feat = Ref.feat := rfl

theorem time_eq : time = Ref.time := rfl

theorem rate_eq : rate = Ref.rate := rfl

theorem fall_at (s : Fin 2048) (q : Fin 512) : (fall (ix2 s q) : EReal) = Ref.decay s q := by
  unfold Ref.decay fall
  rw [← time_eq, ← rate_eq]
  generalize time = T
  generalize rate = R
  pointwise

/-- Zero, the value the pads put. -/
abbrev zero : FVec Ideal S_ .f32 := sitofp .f32 (constantI S_ 32 0#32)

/-! ## The arrays when the kernel starts -/

theorem main_v29_eq : V m c main_v29 = pad S128x128 ![0, 0] ![95, 64] ![0, 0] (m (c.tc.loc main_arg0)) zero pads_S33x64_S128x128_0950_0640 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v31_eq : V m c main_v31 = pad S1x128 ![0, 0] ![0, 64] ![0, 0] (broadcastInDim S1x64 ![1] bcast_S64_S1x64_1 (m (c.tc.loc main_arg1))) zero pads_S1x64_S1x128_000_0640 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v32_eq : V m c main_v32 = pad S128x128 ![0, 0] ![64, 64] ![0, 0] (m (c.tc.loc main_arg2)) zero pads_S64x64_S128x128_0640_0640 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v34_eq : V m c main_v34 = pad S1x128 ![0, 0] ![0, 64] ![0, 0] (broadcastInDim S1x64 ![1] bcast_S64_S1x64_1 (m (c.tc.loc main_arg3))) zero pads_S1x64_S1x128_000_0640 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v35_eq : V m c main_v35 = pad S128x128 ![0, 0] ![64, 64] ![0, 0] (m (c.tc.loc main_arg4)) zero pads_S64x64_S128x128_0640_0640 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v37_eq : V m c main_v37 = pad S1x128 ![0, 0] ![0, 64] ![0, 0] (broadcastInDim S1x64 ![1] bcast_S64_S1x64_1 (m (c.tc.loc main_arg5))) zero pads_S1x64_S1x128_000_0640 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v38_eq : V m c main_v38 = pad S128x1024 ![0, 0] ![64, 0] ![0, 0] (m (c.tc.loc main_arg6)) zero pads_S64x1024_S128x1024_0640_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v39_eq : V m c main_v39 = broadcastInDim S1x512 ![1] bcast_S512_S1x512_1 (m (c.tc.loc main_arg7)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp

theorem main_v19_eq : V m c main_v19 = pad S2048x128 ![0, 0] ![0, 95] ![0, 0] feat zero pads_S2048x33_S2048x128_000_0950 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp
  try dsimp only [Matrix.cons_val]
  try after_results_simp
  rfl

theorem main_v28_eq : V m c main_v28 = fall := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append, StableHlo.TRef.binary, StableHlo.TRef.nullary, StableHlo.TRef.reshape, StableHlo.TRef.unary, StableHlo.TRef.toBuf,
    StableHlo.TRef.ofBuf, cast_eq]
  after_results_simp
  try dsimp only [Matrix.cons_val]
  try after_results_simp
  rfl

/-! ## The windows' blocks, entry by entry -/

/-- Every window's block is its whole array. -/
theorem idx : ∀ t : Fin cfg0.N,
    win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] := by
  decide +kernel

/-- A 33 by 64 array continued by zeros. -/
theorem pad_33 (Z : FVec Ideal S33x64 .f32) (k : Fin 128) (j : Fin 128) :
    (pad S128x128 ![0, 0] ![95, 64] ![0, 0] Z zero pads_S33x64_S128x128_0950_0640 h_S_ (ix2 k j) : EReal) = ext2 128 128 (fun (k : Fin 33) (j : Fin 64) => Z (ix2 k j)) k j := by
  unfold ext2 ext
  pointwise
  by_cases hk : k.val < 33
  · by_cases hj : j.val < 64
    · rw [dif_pos hk, dif_pos hj, dif_pos ⟨hk, hj⟩]
    · rw [dif_pos hk, dif_neg hj, dif_neg fun h => hj h.2]
      exact Ref.pad_zero
  · rw [dif_neg hk, dif_neg fun h => hk h.1]
    exact Ref.pad_zero

/-- A 64 by 64 array continued by zeros. -/
theorem pad_64 (Z : FVec Ideal S64x64 .f32) (k : Fin 128) (j : Fin 128) :
    (pad S128x128 ![0, 0] ![64, 64] ![0, 0] Z zero pads_S64x64_S128x128_0640_0640 h_S_ (ix2 k j) : EReal) = ext2 128 128 (fun (k : Fin 64) (j : Fin 64) => Z (ix2 k j)) k j := by
  unfold ext2 ext
  pointwise
  by_cases hk : k.val < 64
  · by_cases hj : j.val < 64
    · rw [dif_pos hk, dif_pos hj, dif_pos ⟨hk, hj⟩]
    · rw [dif_pos hk, dif_neg hj, dif_neg fun h => hj h.2]
      exact Ref.pad_zero
  · rw [dif_neg hk, dif_neg fun h => hk h.1]
    exact Ref.pad_zero

/-- A 64 by 1024 array continued by zeros. -/
theorem pad_last (Z : FVec Ideal S64x1024 .f32) (k : Fin 128) (j : Fin 1024) :
    (pad S128x1024 ![0, 0] ![64, 0] ![0, 0] Z zero pads_S64x1024_S128x1024_0640_000 h_S_ (ix2 k j) : EReal) = ext 128 (fun (k : Fin 64) => Z (ix2 k j)) k := by
  unfold ext
  pointwise
  rw [Ref.pad_zero]

variable (t : Fin cfg0.N)

theorem blk_feat : (iblk m c 0 t : Vec Ideal S2048x128 .f32) = V m c main_v19 := by
  obtain ⟨e0, e1, e2, e3, e4, e5, e6, e7, e8, e9, e10, e11⟩ := idx t
  funext y
  obtain ⟨k, j, rfl⟩ : ∃ (k : Fin 2048) (j : Fin 128), y = ix2 k j := ⟨y 0, y 1, eq_ix2 y⟩
  show ((cfg0.win 0).blk t).view.read (Elt Ideal) (V m c main_v19) (ix2 k j) = _
  generalize V m c main_v19 = X
  blk_simp
  blk_ext [e0]

theorem blk_w1 : (iblk m c 1 t : Vec Ideal S128x128 .f32) = V m c main_v29 := by
  obtain ⟨e0, e1, e2, e3, e4, e5, e6, e7, e8, e9, e10, e11⟩ := idx t
  funext y
  obtain ⟨k, j, rfl⟩ : ∃ (k : Fin 128) (j : Fin 128), y = ix2 k j := ⟨y 0, y 1, eq_ix2 y⟩
  show ((cfg0.win 1).blk t).view.read (Elt Ideal) (V m c main_v29) (ix2 k j) = _
  generalize V m c main_v29 = X
  blk_simp
  blk_ext [e1]

theorem blk_b1 : (iblk m c 2 t : Vec Ideal S1x128 .f32) = V m c main_v31 := by
  obtain ⟨e0, e1, e2, e3, e4, e5, e6, e7, e8, e9, e10, e11⟩ := idx t
  funext y
  obtain ⟨k, j, rfl⟩ : ∃ (k : Fin 1) (j : Fin 128), y = ix2 k j := ⟨y 0, y 1, eq_ix2 y⟩
  show ((cfg0.win 2).blk t).view.read (Elt Ideal) (V m c main_v31) (ix2 k j) = _
  generalize V m c main_v31 = X
  blk_simp
  blk_ext [e2]

theorem blk_w2 : (iblk m c 3 t : Vec Ideal S128x128 .f32) = V m c main_v32 := by
  obtain ⟨e0, e1, e2, e3, e4, e5, e6, e7, e8, e9, e10, e11⟩ := idx t
  funext y
  obtain ⟨k, j, rfl⟩ : ∃ (k : Fin 128) (j : Fin 128), y = ix2 k j := ⟨y 0, y 1, eq_ix2 y⟩
  show ((cfg0.win 3).blk t).view.read (Elt Ideal) (V m c main_v32) (ix2 k j) = _
  generalize V m c main_v32 = X
  blk_simp
  blk_ext [e3]

theorem blk_b2 : (iblk m c 4 t : Vec Ideal S1x128 .f32) = V m c main_v34 := by
  obtain ⟨e0, e1, e2, e3, e4, e5, e6, e7, e8, e9, e10, e11⟩ := idx t
  funext y
  obtain ⟨k, j, rfl⟩ : ∃ (k : Fin 1) (j : Fin 128), y = ix2 k j := ⟨y 0, y 1, eq_ix2 y⟩
  show ((cfg0.win 4).blk t).view.read (Elt Ideal) (V m c main_v34) (ix2 k j) = _
  generalize V m c main_v34 = X
  blk_simp
  blk_ext [e4]

theorem blk_w3 : (iblk m c 5 t : Vec Ideal S128x128 .f32) = V m c main_v35 := by
  obtain ⟨e0, e1, e2, e3, e4, e5, e6, e7, e8, e9, e10, e11⟩ := idx t
  funext y
  obtain ⟨k, j, rfl⟩ : ∃ (k : Fin 128) (j : Fin 128), y = ix2 k j := ⟨y 0, y 1, eq_ix2 y⟩
  show ((cfg0.win 5).blk t).view.read (Elt Ideal) (V m c main_v35) (ix2 k j) = _
  generalize V m c main_v35 = X
  blk_simp
  blk_ext [e5]

theorem blk_b3 : (iblk m c 6 t : Vec Ideal S1x128 .f32) = V m c main_v37 := by
  obtain ⟨e0, e1, e2, e3, e4, e5, e6, e7, e8, e9, e10, e11⟩ := idx t
  funext y
  obtain ⟨k, j, rfl⟩ : ∃ (k : Fin 1) (j : Fin 128), y = ix2 k j := ⟨y 0, y 1, eq_ix2 y⟩
  show ((cfg0.win 6).blk t).view.read (Elt Ideal) (V m c main_v37) (ix2 k j) = _
  generalize V m c main_v37 = X
  blk_simp
  blk_ext [e6]

theorem blk_w4 : (iblk m c 7 t : Vec Ideal S128x1024 .f32) = V m c main_v38 := by
  obtain ⟨e0, e1, e2, e3, e4, e5, e6, e7, e8, e9, e10, e11⟩ := idx t
  funext y
  obtain ⟨k, j, rfl⟩ : ∃ (k : Fin 128) (j : Fin 1024), y = ix2 k j := ⟨y 0, y 1, eq_ix2 y⟩
  show ((cfg0.win 7).blk t).view.read (Elt Ideal) (V m c main_v38) (ix2 k j) = _
  generalize V m c main_v38 = X
  blk_simp
  blk_ext [e7]

theorem blk_decay : (iblk m c 8 t : Vec Ideal S2048x512 .f32) = V m c main_v28 := by
  obtain ⟨e0, e1, e2, e3, e4, e5, e6, e7, e8, e9, e10, e11⟩ := idx t
  funext y
  obtain ⟨k, j, rfl⟩ : ∃ (k : Fin 2048) (j : Fin 512), y = ix2 k j := ⟨y 0, y 1, eq_ix2 y⟩
  show ((cfg0.win 8).blk t).view.read (Elt Ideal) (V m c main_v28) (ix2 k j) = _
  generalize V m c main_v28 = X
  blk_simp
  blk_ext [e8]

theorem blk_bias : (iblk m c 9 t : Vec Ideal S1x512 .f32) = V m c main_v39 := by
  obtain ⟨e0, e1, e2, e3, e4, e5, e6, e7, e8, e9, e10, e11⟩ := idx t
  funext y
  obtain ⟨k, j, rfl⟩ : ∃ (k : Fin 1) (j : Fin 512), y = ix2 k j := ⟨y 0, y 1, eq_ix2 y⟩
  show ((cfg0.win 9).blk t).view.read (Elt Ideal) (V m c main_v39) (ix2 k j) = _
  generalize V m c main_v39 = X
  blk_simp
  blk_ext [e9]

theorem feat_blk (s : Fin 2048) (k : Fin 128) : ((iblk m c 0 t : Vec Ideal S2048x128 .f32) (ix2 s k) : EReal) = ext 128 (fun k => Ref.feat (ix2 s k)) k := by
  rw [blk_feat, main_v19_eq, feat_eq]
  generalize Ref.feat = Z
  unfold ext
  pointwise
  rw [Ref.pad_zero]

theorem w1_blk (k j : Fin 128) : ((iblk m c 1 t : Vec Ideal S128x128 .f32) (ix2 k j) : EReal)
    = ext2 128 128 (fun (k : Fin 33) (j : Fin 64) => m (c.tc.loc main_arg0) (ix2 k j)) k j := by
  rw [blk_w1, main_v29_eq]
  exact pad_33 _ k j

theorem w2_blk (k j : Fin 128) : ((iblk m c 3 t : Vec Ideal S128x128 .f32) (ix2 k j) : EReal)
    = ext2 128 128 (fun (k : Fin 64) (j : Fin 64) => m (c.tc.loc main_arg2) (ix2 k j)) k j := by
  rw [blk_w2, main_v32_eq]
  exact pad_64 _ k j

theorem w3_blk (k j : Fin 128) : ((iblk m c 5 t : Vec Ideal S128x128 .f32) (ix2 k j) : EReal)
    = ext2 128 128 (fun (k : Fin 64) (j : Fin 64) => m (c.tc.loc main_arg4) (ix2 k j)) k j := by
  rw [blk_w3, main_v35_eq]
  exact pad_64 _ k j

theorem b1_blk (j : Fin 128) : ((iblk m c 2 t : Vec Ideal S1x128 .f32) (ix2 0 j) : EReal)
    = ext 128 (fun (j : Fin 64) => m (c.tc.loc main_arg1) (ix1 j)) j := by
  rw [blk_b1, main_v31_eq]
  generalize m (c.tc.loc main_arg1) = Z
  unfold ext
  pointwise
  rw [Ref.pad_zero]

theorem b2_blk (j : Fin 128) : ((iblk m c 4 t : Vec Ideal S1x128 .f32) (ix2 0 j) : EReal)
    = ext 128 (fun (j : Fin 64) => m (c.tc.loc main_arg3) (ix1 j)) j := by
  rw [blk_b2, main_v34_eq]
  generalize m (c.tc.loc main_arg3) = Z
  unfold ext
  pointwise
  rw [Ref.pad_zero]

theorem b3_blk (j : Fin 128) : ((iblk m c 6 t : Vec Ideal S1x128 .f32) (ix2 0 j) : EReal)
    = ext 128 (fun (j : Fin 64) => m (c.tc.loc main_arg5) (ix1 j)) j := by
  rw [blk_b3, main_v37_eq]
  generalize m (c.tc.loc main_arg5) = Z
  unfold ext
  pointwise
  rw [Ref.pad_zero]

theorem w4_blk (k : Fin 128) (n : Fin 1024) : ((iblk m c 7 t : Vec Ideal S128x1024 .f32) (ix2 k n) : EReal)
    = ext 128 (fun (k : Fin 64) => m (c.tc.loc main_arg6) (ix2 k n)) k := by
  rw [blk_w4, main_v38_eq]
  exact pad_last _ k n

theorem decay_blk (s : Fin 2048) (q : Fin 512) : ((iblk m c 8 t : Vec Ideal S2048x512 .f32) (ix2 s q) : EReal) = Ref.decay s q := by
  rw [blk_decay, main_v28_eq, fall_at]

theorem bias_blk (q : Fin 512) : ((iblk m c 9 t : Vec Ideal S1x512 .f32) (ix2 0 q) : EReal) = m (c.tc.loc main_arg7) (ix1 q) := by
  rw [blk_bias, main_v39_eq]
  generalize m (c.tc.loc main_arg7) = Z
  pointwise

end Cert.Proof.Taps

end
-- ==== Proof.TapsPay.lean ====
/-
  The filter taps' kernel body, entry by entry: its layers with their products in three parts, its taps, their normaliser and its
  two results.
-/
module

public import proofs.«01_k».proof.Proof.TapsSpec
public import proofs.«01_k».proof.Proof.Gen.TapsIdeal.Value
public import Idealize.ShloMosaic.Lib.Pipeline.ValueKit
public import Idealize.ShloMosaic.Lib.Pointwise
public import Idealize.ShloMosaic.Lib.Claim

@[expose] public section

set_option maxRecDepth 16384

noncomputable section

namespace Cert.Proof.Taps

open Idealize.ShloMosaic
open Cert.TapsIdeal Cert.TapsIdeal.Gen Idealize.ShloMosaic.TcCoe Idealize.SL.Sem

/-- A layer over the lanes, its product in three parts. -/
def lane (z : Fin 128 → EReal) (w : Vec Ideal S128x128 .f32) (b : Vec Ideal S1x128 .f32) (j : Fin 128) : EReal :=
  Ideal.sin (Finite.three z (fun k => w (ix2 k j)) + b (ix2 0 j))

/-- The first two layers. -/
theorem pay7_at (x : Vec Ideal S2048x128 .f32) (w1 : Vec Ideal S128x128 .f32) (b1 : Vec Ideal S1x128 .f32) (w2 : Vec Ideal S128x128 .f32)
    (b2 : Vec Ideal S1x128 .f32) (s : Fin 2048) (j : Fin 128) :
    (k0_pay7 (F := Ideal) x w1 b1 w2 b2 (ix2 s j) : EReal) = lane (lane (fun k => x (ix2 s k)) w1 b1) w2 b2 j := by
  unfold k0_pay7 lane Finite.three
  pointwise

/-- The third layer and the last product. -/
theorem pay8_at (x : FVec Ideal S2048x128 .f32) (w3 : Vec Ideal S128x128 .f32) (b3 : Vec Ideal S1x128 .f32) (w4 : Vec Ideal S128x1024 .f32)
    (s : Fin 2048) (n : Fin 1024) :
    (k0_pay8 (F := Ideal) x w3 b3 w4 (ix2 s n) : EReal) = Finite.three (lane (fun k => x (ix2 s k)) w3 b3) (fun k => w4 (ix2 k n)) := by
  unfold k0_pay8 lane Finite.three
  pointwise

/-- The forward taps. -/
theorem pay10_at (x : FVec Ideal S2048x128 .f32) (w3 : Vec Ideal S128x128 .f32) (b3 : Vec Ideal S1x128 .f32) (w4 : Vec Ideal S128x1024 .f32)
    (d : Vec Ideal S2048x512 .f32) (s : Fin 2048) (q : Fin 512) :
    (k0_pay10 (F := Ideal) x w3 b3 w4 d (ix2 s q) : EReal) = k0_pay8 (F := Ideal) x w3 b3 w4 (ix2 s ⟨q.val, by omega⟩) * d (ix2 s q) := by
  unfold k0_pay10 k0_pay9
  generalize k0_pay8 x w3 b3 w4 = Y
  pointwise

/-- The backward taps, those of position 0 included. -/
theorem pay12_at (x : FVec Ideal S2048x128 .f32) (w3 : Vec Ideal S128x128 .f32) (b3 : Vec Ideal S1x128 .f32) (w4 : Vec Ideal S128x1024 .f32)
    (d : Vec Ideal S2048x512 .f32) (s : Fin 2048) (q : Fin 512) :
    (k0_pay12 (F := Ideal) x w3 b3 w4 d (ix2 s q) : EReal) = k0_pay8 (F := Ideal) x w3 b3 w4 (ix2 s ⟨512 + q.val, by omega⟩) * d (ix2 s q) := by
  unfold k0_pay12 k0_pay9
  generalize k0_pay8 x w3 b3 w4 = Y
  pointwise

/-- The bit of position 0. -/
theorem zero_bit : ∀ s : Fin 2048, IntOp.cmpi .eq (BitVec.ofNat 32 s.val) 0#32 = if s.val = 0 then 1#1 else 0#1 := by
  decide +kernel

/-- A choice by the bit of a condition is the choice by the condition. -/
theorem select_bit (o : Prop) [Decidable o] (x y : EReal) : Scalar.select (if o then 1#1 else 0#1) x y = if o then x else y := by
  by_cases h : o
  · rw [if_pos h, if_pos h]
    rfl
  · rw [if_neg h, if_neg h]
    rfl

/-- The mask of position 0. -/
theorem pay11_at (s : Fin 2048) (q : Fin 512) : k0_pay11 (ix2 s q) = if s.val = 0 then 1#1 else 0#1 := by
  rw [← zero_bit s]
  unfold k0_pay11
  pointwise

/-- The backward taps. -/
theorem pay1_at (g : FVec Ideal S2048x512 .f32) (s : Fin 2048) (q : Fin 512) :
    (k0_pay1 (F := Ideal) k0_pay11 g k0_pay13 (ix2 s q) : EReal) = if s.val = 0 then 0 else g (ix2 s q) := by
  rw [← select_bit, ← pay11_at s q]
  unfold k0_pay1 k0_pay13
  generalize k0_pay11 = M
  pointwise

/-- The normaliser. -/
theorem pay2_at (f g : FVec Ideal S2048x512 .f32) (q : Fin 512) :
    (k0_pay2 (F := Ideal) f k0_pay11 g k0_pay13 (ix2 0 q) : EReal)
      = (∑ s : Fin 2048, max (f (ix2 s q) : EReal) (-f (ix2 s q)))
        + ∑ s : Fin 2048, max (if s.val = 0 then (0 : EReal) else g (ix2 s q)) (-(if s.val = 0 then (0 : EReal) else g (ix2 s q))) := by
  simp only [← pay1_at]
  unfold k0_pay2
  generalize k0_pay1 k0_pay11 g k0_pay13 = B
  pointwise
  rfl

/-- The backward taps, normalised. -/
theorem pay3_at (f g : FVec Ideal S2048x512 .f32) (s : Fin 2048) (q : Fin 512) :
    (k0_pay3 (F := Ideal) f k0_pay11 g k0_pay13 (ix2 s q) : EReal)
      = Ideal.div (if s.val = 0 then 0 else g (ix2 s q)) (k0_pay2 (F := Ideal) f k0_pay11 g k0_pay13 (ix2 0 q)) := by
  rw [← pay1_at]
  unfold k0_pay3
  generalize k0_pay1 k0_pay11 g k0_pay13 = B
  generalize k0_pay2 f k0_pay11 g k0_pay13 = N
  pointwise

/-- The forward taps, normalised, the bias on position 0. -/
theorem pay4_at (f g : FVec Ideal S2048x512 .f32) (b : Vec Ideal S1x512 .f32) (s : Fin 2048) (q : Fin 512) :
    (k0_pay4 (F := Ideal) f (iota .tc S2048x512 32 [0] iota_S2048x512_d0_w32) k0_pay11 g k0_pay13 b (ix2 s q) : EReal)
      = if s.val = 0 then Ideal.div (f (ix2 s q)) (k0_pay2 (F := Ideal) f k0_pay11 g k0_pay13 (ix2 0 q)) + b (ix2 0 q)
        else Ideal.div (f (ix2 s q)) (k0_pay2 (F := Ideal) f k0_pay11 g k0_pay13 (ix2 0 q)) := by
  rw [← select_bit, ← zero_bit s]
  unfold k0_pay4
  generalize k0_pay2 f k0_pay11 g k0_pay13 = N
  pointwise

/-- The even taps. -/
theorem pay5_at (f g : FVec Ideal S2048x512 .f32) (i : IVec S2048x512 32) (b : Vec Ideal S1x512 .f32) (j : S2048x512.Idx) :
    (k0_pay5 (F := Ideal) f i k0_pay11 g k0_pay13 b j : EReal) = k0_pay4 (F := Ideal) f i k0_pay11 g k0_pay13 b j + k0_pay3 (F := Ideal) f k0_pay11 g k0_pay13 j := rfl

/-- The odd taps. -/
theorem pay6_at (f g : FVec Ideal S2048x512 .f32) (i : IVec S2048x512 32) (b : Vec Ideal S1x512 .f32) (j : S2048x512.Idx) :
    (k0_pay6 (F := Ideal) f i k0_pay11 g k0_pay13 b j : EReal) = k0_pay4 (F := Ideal) f i k0_pay11 g k0_pay13 b j - k0_pay3 (F := Ideal) f k0_pay11 g k0_pay13 j := rfl

end Cert.Proof.Taps

end
-- ==== Proof.TapsValue.lean ====
/-
  The filter's taps. The kernel takes the layers and the last product over 128 lanes, each product in three parts; the arrays are
  continued by zeros, and three parts make the plain product or are infinite where it is. The sine makes the two infinities one, and
  an infinite tap makes its channel's normaliser infinite, so the taps are the reference's for all arguments.
-/
module

public import proofs.«01_k».proof.Defs
public import proofs.«01_k».proof.Proof.TapsHost
public import proofs.«01_k».proof.Proof.TapsPay

@[expose] public section

set_option maxRecDepth 16384

noncomputable section

namespace Cert.Proof.Taps

open Idealize.ShloMosaic
open Cert.TapsIdeal Cert.TapsIdeal.Gen Idealize.ShloMosaic.TcCoe Idealize.SL.Sem
open Idealize.ShloMosaic.Pipeline (Dat)

/-! ## The values the body keeps -/

/-- The origin. -/
theorem origin : (![0, 0] : Fin 2 → Nat) = fun _ => 0 := by
  funext a
  fin_cases a <;> rfl

theorem pay14_eq (x0 : Vec Ideal S2048x128 .f32) (x1 : Vec Ideal S128x128 .f32) (x2 : Vec Ideal S1x128 .f32) (x3 : Vec Ideal S128x128 .f32) (x4 : Vec Ideal S1x128 .f32)
    (x5 : Vec Ideal S128x128 .f32) (x6 : Vec Ideal S1x128 .f32) (x7 : Vec Ideal S128x1024 .f32) (x8 : Vec Ideal S2048x512 .f32) (x9 : Vec Ideal S1x512 .f32) :
    k0_pay14 (F := Ideal) x0 x1 x2 x3 x4 x5 x6 x7 x8 x9 = k0_pay7 (F := Ideal) x0 x1 x2 x3 x4 := by
  unfold k0_pay14
  rw [View.ld_unit_zero origin _ x0, View.ld_unit_zero origin _ x1, View.ld_unit_zero origin _ x2, View.ld_unit_zero origin _ x3, View.ld_unit_zero origin _ x4]

theorem pay16_eq (x0 : Vec Ideal S2048x128 .f32) (x1 : Vec Ideal S128x128 .f32) (x2 : Vec Ideal S1x128 .f32) (x3 : Vec Ideal S128x128 .f32) (x4 : Vec Ideal S1x128 .f32)
    (x5 : Vec Ideal S128x128 .f32) (x6 : Vec Ideal S1x128 .f32) (x7 : Vec Ideal S128x1024 .f32) (x8 : Vec Ideal S2048x512 .f32) (x9 : Vec Ideal S1x512 .f32) :
    k0_pay16 (F := Ideal) x0 x1 x2 x3 x4 x5 x6 x7 x8 x9 = k0_pay10 (F := Ideal) (k0_pay7 (F := Ideal) x0 x1 x2 x3 x4) x5 x6 x7 x8 := by
  unfold k0_pay16
  rw [pay14_eq, View.ld_unit_zero origin _ x5, View.ld_unit_zero origin _ x6, View.ld_unit_zero origin _ x7, View.ld_unit_zero origin _ x8]

theorem pay18_eq (x0 : Vec Ideal S2048x128 .f32) (x1 : Vec Ideal S128x128 .f32) (x2 : Vec Ideal S1x128 .f32) (x3 : Vec Ideal S128x128 .f32) (x4 : Vec Ideal S1x128 .f32)
    (x5 : Vec Ideal S128x128 .f32) (x6 : Vec Ideal S1x128 .f32) (x7 : Vec Ideal S128x1024 .f32) (x8 : Vec Ideal S2048x512 .f32) (x9 : Vec Ideal S1x512 .f32) :
    k0_pay18 (F := Ideal) x0 x1 x2 x3 x4 x5 x6 x7 x8 x9 = k0_pay12 (F := Ideal) (k0_pay7 (F := Ideal) x0 x1 x2 x3 x4) x5 x6 x7 x8 := by
  unfold k0_pay18
  rw [pay14_eq, View.ld_unit_zero origin _ x5, View.ld_unit_zero origin _ x6, View.ld_unit_zero origin _ x7, View.ld_unit_zero origin _ x8]

/-! ## The network over the lanes -/

/-- A layer over the lanes of continued arrays is the layer, continued. -/
theorem lane_ext {n p : Nat} (hn : n ≤ 128) (z : Fin n → EReal) {w : Fin n → Fin p → EReal} {b : Fin p → EReal}
    (W : Vec Ideal S128x128 .f32) (B : Vec Ideal S1x128 .f32) (hW : ∀ k j, (W (ix2 k j) : EReal) = ext2 128 128 w k j)
    (hB : ∀ j, (B (ix2 0 j) : EReal) = ext 128 b j) : lane (ext 128 z) W B = ext 128 (layer z w b) := by
  funext j
  unfold lane
  rw [hB]
  simp only [hW]
  exact layer_ext hn z w b j

variable (m : (ℓ : Loc nD τ sig) → Buf (Elt Ideal) ℓ) (ρ : Dev nD → PrngReg) (c : Dev nD) (t : Fin cfg0.N)

/-- The last product's rows, of the run's arguments. -/
abbrev rowsM : Fin 2048 → Fin 1024 → EReal :=
  Ref.rows (m (c.tc.loc main_arg0)) (m (c.tc.loc main_arg1)) (m (c.tc.loc main_arg2)) (m (c.tc.loc main_arg3)) (m (c.tc.loc main_arg4))
    (m (c.tc.loc main_arg5)) (m (c.tc.loc main_arg6))

/-- The kernel's last product. -/
def prodK (s : Fin 2048) (n : Fin 1024) : EReal :=
  k0_pay8 (F := Ideal) (k0_pay7 (F := Ideal) (iblk m c 0 t) (iblk m c 1 t) (iblk m c 2 t) (iblk m c 3 t) (iblk m c 4 t)) (iblk m c 5 t) (iblk m c 6 t)
    (iblk m c 7 t) (ix2 s n)

/-- The kernel's last product is the reference's, or both are infinite. -/
theorem prod_same (s : Fin 2048) (n : Fin 1024) : Same (prodK m c t s n) (rowsM m c s n) := by
  have hx : (fun k => ((iblk m c 0 t : Vec Ideal S2048x128 .f32) (ix2 s k) : EReal)) = ext 128 (fun k => Ref.feat (ix2 s k)) :=
    funext fun k => feat_blk m c t s k
  have l1 := lane_ext (by decide) (fun k => Ref.feat (ix2 s k)) (iblk m c 1 t) (iblk m c 2 t) (w1_blk m c t) (b1_blk m c t)
  have l2 := fun z => lane_ext (by decide) z (iblk m c 3 t) (iblk m c 4 t) (w2_blk m c t) (b2_blk m c t)
  have l3 := fun z => lane_ext (by decide) z (iblk m c 5 t) (iblk m c 6 t) (w3_blk m c t) (b3_blk m c t)
  have e2 : (fun k => (k0_pay7 (F := Ideal) (iblk m c 0 t) (iblk m c 1 t) (iblk m c 2 t) (iblk m c 3 t) (iblk m c 4 t) (ix2 s k) : EReal)) = _ :=
    funext fun k => pay7_at (iblk m c 0 t) (iblk m c 1 t) (iblk m c 2 t) (iblk m c 3 t) (iblk m c 4 t) s k
  have e4 : (fun k => ((iblk m c 7 t : Vec Ideal S128x1024 .f32) (ix2 k n) : EReal)) = ext 128 (fun k : Fin 64 => m (c.tc.loc main_arg6) (ix2 k n)) :=
    funext fun k => w4_blk m c t k n
  unfold prodK
  rw [pay8_at, e2, hx, l1, l2, l3, e4]
  have h := three_same (ext 128 (hidden (fun k => Ref.feat (ix2 s k)) (fun k j => m (c.tc.loc main_arg0) (ix2 k j)) (fun j => m (c.tc.loc main_arg1) (ix1 j))
    (fun k j => m (c.tc.loc main_arg2) (ix2 k j)) (fun j => m (c.tc.loc main_arg3) (ix1 j)) (fun k j => m (c.tc.loc main_arg4) (ix2 k j))
    (fun j => m (c.tc.loc main_arg5) (ix1 j)))) (ext 128 (fun k : Fin 64 => m (c.tc.loc main_arg6) (ix2 k n)))
  rw [sum_ext (by decide)] at h
  exact h

/-! ## The taps -/

/-- The arrays the body's last part reads: the forward taps and the backward ones, position 0 included. -/
abbrev F0 : FVec Ideal S2048x512 .f32 :=
  k0_pay10 (F := Ideal) (k0_pay7 (F := Ideal) (iblk m c 0 t) (iblk m c 1 t) (iblk m c 2 t) (iblk m c 3 t) (iblk m c 4 t)) (iblk m c 5 t) (iblk m c 6 t)
    (iblk m c 7 t) (iblk m c 8 t)

abbrev B0 : FVec Ideal S2048x512 .f32 :=
  k0_pay12 (F := Ideal) (k0_pay7 (F := Ideal) (iblk m c 0 t) (iblk m c 1 t) (iblk m c 2 t) (iblk m c 3 t) (iblk m c 4 t)) (iblk m c 5 t) (iblk m c 6 t)
    (iblk m c 7 t) (iblk m c 8 t)

theorem F0_at (s : Fin 2048) (q : Fin 512) : (F0 m c t (ix2 s q) : EReal) = fwd (prodK m c t) Ref.decay s q := by
  unfold F0 fwd
  rw [pay10_at, decay_blk]
  rfl

theorem B0_at (s : Fin 2048) (q : Fin 512) :
    (if s.val = 0 then (0 : EReal) else B0 m c t (ix2 s q)) = bwd (prodK m c t) Ref.decay s q := by
  unfold B0 bwd
  rw [pay12_at, decay_blk]
  rfl

theorem norm_at (q : Fin 512) :
    (k0_pay2 (F := Ideal) (F0 m c t) k0_pay11 (B0 m c t) k0_pay13 (ix2 0 q) : EReal) = norm (prodK m c t) Ref.decay q := by
  rw [pay2_at]
  simp only [B0_at m c t, F0_at m c t]
  rfl

theorem forward_at (s : Fin 2048) (q : Fin 512) :
    (k0_pay4 (F := Ideal) (F0 m c t) (iota .tc S2048x512 32 [0] iota_S2048x512_d0_w32) k0_pay11 (B0 m c t) k0_pay13 (iblk m c 9 t) (ix2 s q) : EReal)
      = forward (prodK m c t) Ref.decay (fun q => m (c.tc.loc main_arg7) (ix1 q)) s q := by
  rw [pay4_at, norm_at m c t, F0_at m c t, bias_blk]
  rfl

theorem backward_at (s : Fin 2048) (q : Fin 512) :
    (k0_pay3 (F := Ideal) (F0 m c t) k0_pay11 (B0 m c t) k0_pay13 (ix2 s q) : EReal) = backward (prodK m c t) Ref.decay s q := by
  rw [pay3_at, norm_at m c t, B0_at m c t]
  rfl

/-! ## The run -/

/-- The even taps as a function of the arguments. -/
def evenOut : FVec Ideal S2048x512 .f32 := fun j => even (rowsM m c) Ref.decay (fun q => m (c.tc.loc main_arg7) (ix1 q)) (j 0) (j 1)

/-- The odd taps as a function of the arguments. -/
def oddOut : FVec Ideal S2048x512 .f32 := fun j => odd (rowsM m c) Ref.decay (fun q => m (c.tc.loc main_arg7) (ix1 q)) (j 0) (j 1)

/-- The even taps after the run. -/
theorem final_even : (dats m 0 c).arrAt 10 cfg0.N = evenOut m c := by
  refine (dats m 0 c).arrAt_eq_of_covers 10 _ (by decide +kernel) fun t hfl y => ?_
  obtain ⟨e0, e1, e2, e3, e4, e5, e6, e7, e8, e9, e10, e11⟩ := idx t
  blk_simp
  rw [after0_10]
  frame_out
  obtain ⟨s, q, rfl⟩ : ∃ (s : Fin 2048) (q : Fin 512), y = ix2 s q := ⟨y 0, y 1, eq_ix2 y⟩
  rw [pay16_eq, pay18_eq]
  have hv : (k0_pay5 (F := Ideal) (F0 m c t) (iota .tc S2048x512 32 [0] iota_S2048x512_d0_w32) k0_pay11 (B0 m c t) k0_pay13 (iblk m c 9 t) (ix2 s q) : EReal)
      = even (prodK m c t) Ref.decay (fun q => m (c.tc.loc main_arg7) (ix1 q)) s q :=
    (pay5_at _ _ _ _ _).trans (congrArg₂ (· + ·) (forward_at m c t s q) (backward_at m c t s q))
  refine hv.trans ((even_same (prod_same m c t) Ref.decay_ne).trans ?_)
  refine Eq.trans (b := evenOut m c (ix2 s q)) rfl (congrArg (evenOut m c) ?_)
  blk_ext [e10]

/-- The odd taps after the run. -/
theorem final_odd : (dats m 0 c).arrAt 11 cfg0.N = oddOut m c := by
  refine (dats m 0 c).arrAt_eq_of_covers 11 _ (by decide +kernel) fun t hfl y => ?_
  obtain ⟨e0, e1, e2, e3, e4, e5, e6, e7, e8, e9, e10, e11⟩ := idx t
  blk_simp
  rw [after0_11]
  frame_out
  obtain ⟨s, q, rfl⟩ : ∃ (s : Fin 2048) (q : Fin 512), y = ix2 s q := ⟨y 0, y 1, eq_ix2 y⟩
  rw [pay16_eq, pay18_eq]
  have hv : (k0_pay6 (F := Ideal) (F0 m c t) (iota .tc S2048x512 32 [0] iota_S2048x512_d0_w32) k0_pay11 (B0 m c t) k0_pay13 (iblk m c 9 t) (ix2 s q) : EReal)
      = odd (prodK m c t) Ref.decay (fun q => m (c.tc.loc main_arg7) (ix1 q)) s q :=
    (pay6_at _ _ _ _ _).trans (congrArg₂ (· - ·) (forward_at m c t s q) (backward_at m c t s q))
  refine hv.trans ((odd_same (prod_same m c t) Ref.decay_ne).trans ?_)
  refine Eq.trans (b := oddOut m c (ix2 s q)) rfl (congrArg (oddOut m c) ?_)
  blk_ext [e11]

/-- The kernel's run. -/
theorem run :
    θ_run (defs (F := Ideal)) (onTc (τ := τ) (main (F := Ideal))) ⟨m, fun _ => 0, ρ⟩ fun r => ∀ c : Dev nD,
      r.2.mem ((c.tc : Thread nD τ).loc main_v40_0) = evenOut m c
      ∧ r.2.mem ((c.tc : Thread nD τ).loc main_v40_1) = oddOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final_even m c), (h c).2.1.trans (final_odd m c), (h c).2.2⟩) (Value.run_blocks m ρ)

/-- The claim: both programs end with the same taps. -/
theorem algebraic : Cert.algebraic_TapsIdeal_TapsRefIdeal := by
  pair_intro
  · exact run m g
  · run_from Cert.TapsRefIdeal.Value.run (F := Ideal) m' g'
    · refine funext fun (j : Cert.TapsRefIdeal.S2048x512.Idx) => ?_
      obtain ⟨s, q, rfl⟩ : ∃ (s : Fin 2048) (q : Fin 512), j = ix2 s q := ⟨j 0, j 1, eq_ix2 j⟩
      refine (Ref.even_value m' c s q).trans ?_
      simp only [Ref.prodM, Ref.prod_at]
      obtain ⟨h0, h1, h2, h3, h4, h5, h6, h7⟩ := hagree c
      rw [h0, h1, h2, h3, h4, h5, h6, h7]
      rfl
    · refine funext fun (j : Cert.TapsRefIdeal.S2048x512.Idx) => ?_
      obtain ⟨s, q, rfl⟩ : ∃ (s : Fin 2048) (q : Fin 512), j = ix2 s q := ⟨j 0, j 1, eq_ix2 j⟩
      refine (Ref.odd_value m' c s q).trans ?_
      simp only [Ref.prodM, Ref.prod_at]
      obtain ⟨h0, h1, h2, h3, h4, h5, h6, h7⟩ := hagree c
      rw [h0, h1, h2, h3, h4, h5, h6, h7]
      rfl

end Cert.Proof.Taps

end
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Pre_eids
public import proofs.«01_k».proof.Proof.InprojValue
public import proofs.«01_k».proof.Proof.ExpertsValue
public import proofs.«01_k».proof.Proof.MergeValue
public import proofs.«01_k».proof.Proof.PoolValue
public import proofs.«01_k».proof.Proof.ConvValue
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardRefIdeal
public import proofs.«01_k».proof.Proof.ForwardValue
public import proofs.«01_k».proof.Proof.Gen.Inverse
public import proofs.«01_k».proof.Proof.Gen.Inverse.Skeleton
public import proofs.«01_k».proof.Proof.Gen.Inverse.Launch
public import proofs.«01_k».proof.Proof.Gen.Inverse.Points
public import proofs.«01_k».proof.Proof.Gen.Inverse.Frame
public import proofs.«01_k».proof.Proof.Gen.InverseIdeal
public import proofs.«01_k».proof.Proof.Gen.InverseIdeal.Skeleton
public import proofs.«01_k».proof.Proof.Gen.InverseIdeal.Launch
public import proofs.«01_k».proof.Proof.Gen.InverseIdeal.Points
public import proofs.«01_k».proof.Proof.Gen.InverseIdeal.Frame
public import proofs.«01_k».proof.Proof.Gen.InverseRefIdeal
public import proofs.«01_k».proof.Proof.InverseValue
public import proofs.«01_k».proof.Proof.Gen.Spectrum
public import proofs.«01_k».proof.Proof.Gen.Spectrum.Skeleton
public import proofs.«01_k».proof.Proof.Gen.Spectrum.Launch
public import proofs.«01_k».proof.Proof.Gen.Spectrum.Points
public import proofs.«01_k».proof.Proof.Gen.Spectrum.Frame
public import proofs.«01_k».proof.Proof.Gen.SpectrumIdeal
public import proofs.«01_k».proof.Proof.Gen.SpectrumIdeal.Skeleton
public import proofs.«01_k».proof.Proof.Gen.SpectrumIdeal.Launch
public import proofs.«01_k».proof.Proof.Gen.SpectrumIdeal.Points
public import proofs.«01_k».proof.Proof.Gen.SpectrumIdeal.Frame
public import proofs.«01_k».proof.Proof.Gen.SpectrumRefIdeal
public import proofs.«01_k».proof.Proof.Gen.Pre_finite
public import proofs.«01_k».proof.Proof.SpectrumValue
public import proofs.«01_k».proof.Proof.Gen.Taps
public import proofs.«01_k».proof.Proof.Gen.Taps.Skeleton
public import proofs.«01_k».proof.Proof.Gen.Taps.Launch
public import proofs.«01_k».proof.Proof.Gen.Taps.Points
public import proofs.«01_k».proof.Proof.Gen.Taps.Frame
public import proofs.«01_k».proof.Proof.Gen.TapsIdeal
public import proofs.«01_k».proof.Proof.Gen.TapsIdeal.Skeleton
public import proofs.«01_k».proof.Proof.Gen.TapsIdeal.Launch
public import proofs.«01_k».proof.Proof.Gen.TapsIdeal.Points
public import proofs.«01_k».proof.Proof.Gen.TapsIdeal.Frame
public import proofs.«01_k».proof.Proof.Gen.TapsRefIdeal
public import proofs.«01_k».proof.Proof.TapsValue
public import Idealize.ShloMosaic.Adequacy
public import Idealize.ShloMosaic.Init

@[expose] public section

noncomputable section

namespace Cert.Proof

open Idealize.ShloMosaic Idealize.SL.Sem Cert.Inproj

/-- The reference of the input projection leaves its arguments as they were and every counter at zero. -/
theorem frame_inprojRef : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem range_experts (m : (ℓ : Loc Cert.Experts.nD Cert.Experts.τ Cert.Experts.sig) → Buf (Elt Bits) ℓ) (hp : Cert.Pre_Experts m)
    (t : Fin 224) : (Experts.eid (F := Bits) m 0 t).toNat < 32 :=
  Experts.range_of_pre (F := Bits) _ _ _ _ _ _ (hp 0) t

/-- The experts' kernel and its idealized program have the same body table. -/
theorem bodies_eq : Cert.Experts.defs₀ (F := Bits) = Cert.ExpertsIdeal.defs₀ (F := Bits) := by
  unfold Cert.Experts.defs₀ Cert.ExpertsIdeal.defs₀
  refine congrArg Defs.onTc (funext fun ℓ => funext fun x => ?_)
  match ℓ, x with
  | 0, (t, s) => exact rfl

theorem defs_eq : Cert.Experts.defs (F := Bits) = Cert.ExpertsIdeal.defs (F := Bits) := by
  unfold Cert.Experts.defs Cert.ExpertsIdeal.defs
  exact congrArg (Pipeline.defs (Cert.ExpertsIdeal.pcfgs (F := Bits))) bodies_eq

/-- The experts' kernel over its words: the run for any tables, at the tables the precondition bounds. -/
theorem frame_experts : Cert.quiescent_Experts := fun m ρ hp => by
  rw [defs_eq]
  exact (θ_run (Cert.ExpertsIdeal.defs (F := Bits)) _ _).mono (fun r h => ⟨fun c => (h.1 c).2, h.2⟩)
    (Experts.run_result (F := Bits) m ρ (Experts.inside m (range_experts m hp)))

theorem frame_expertsIdeal : Cert.quiescent_ExpertsIdeal := fun m ρ hp =>
  (θ_run Cert.ExpertsIdeal.defs _ _).mono (fun r h => ⟨fun c => (h.1 c).2, h.2⟩)
    (Experts.run_result (F := Ideal) m ρ (Experts.inside m fun t => Experts.range_of_pre _ _ _ _ _ _ (hp 0) t))

theorem frame_expertsRef : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The reference of the merge leaves its arguments as they were and every counter at zero. -/
theorem frame_mergeRef : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The reference of the pooling branch likewise. -/
theorem frame_poolRef : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- The reference of the short convolution likewise. -/
theorem frame_convRef : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The reference of the forward transform likewise. -/
theorem frame_forwardRef : Cert.quiescent_ForwardRefIdeal := fun m ρ _ =>
  (θ_run Cert.ForwardRefIdeal.defs _ _).mono (fun r h => ⟨fun c => (h c).2, sem_eq_zero_of_no_sems (by decide) r.2⟩)
    (Cert.ForwardRefIdeal.Value.run (F := Ideal) m ρ)

/-- The reference of the inverse transform likewise. -/
theorem frame_inverseRef : Cert.quiescent_InverseRefIdeal := fun m ρ _ =>
  (θ_run Cert.InverseRefIdeal.defs _ _).mono (fun r h => ⟨fun c => (h c).2, sem_eq_zero_of_no_sems (by decide) r.2⟩)
    (Cert.InverseRefIdeal.Value.run (F := Ideal) m ρ)

/-- The reference of the filter's transform likewise. -/
theorem frame_spectrumRef : Cert.quiescent_SpectrumRefIdeal := fun m ρ _ =>
  (θ_run Cert.SpectrumRefIdeal.defs _ _).mono (fun r h => ⟨fun c => (h c).2, sem_eq_zero_of_no_sems (by decide) r.2⟩)
    (Cert.SpectrumRefIdeal.Value.run (F := Ideal) m ρ)

/-- The reference of the filter's taps likewise. -/
theorem frame_tapsRef : Cert.quiescent_TapsRefIdeal := fun m ρ _ =>
  (θ_run Cert.TapsRefIdeal.defs _ _).mono (fun r h => ⟨fun c => (h c).2.2, sem_eq_zero_of_no_sems (by decide) r.2⟩)
    (Cert.TapsRefIdeal.Value.run (F := Ideal) m ρ)

theorem claim : Cert.Claim := ⟨Cert.Inproj.Gen.facts, Cert.InprojIdeal.Gen.facts, Cert.InprojRefIdeal.Gen.facts, Cert.Experts.Gen.facts, Cert.ExpertsIdeal.Gen.facts, Cert.ExpertsRefIdeal.Gen.facts, Cert.Merge.Gen.facts, Cert.MergeIdeal.Gen.facts, Cert.MergeRefIdeal.Gen.facts, Cert.Pool.Gen.facts, Cert.PoolIdeal.Gen.facts, Cert.PoolRefIdeal.Gen.facts, Cert.Conv.Gen.facts, Cert.ConvIdeal.Gen.facts, Cert.ConvRefIdeal.Gen.facts, Cert.Forward.Gen.facts, Cert.ForwardIdeal.Gen.facts, Cert.ForwardRefIdeal.Gen.facts, Cert.Inverse.Gen.facts, Cert.InverseIdeal.Gen.facts, Cert.InverseRefIdeal.Gen.facts, Cert.Spectrum.Gen.facts, Cert.SpectrumIdeal.Gen.facts, Cert.SpectrumRefIdeal.Gen.facts, Cert.Taps.Gen.facts, Cert.TapsIdeal.Gen.facts, Cert.TapsRefIdeal.Gen.facts, Cert.Pre_eids.Gen.facts, Cert.Pre_finite.Gen.facts,
  fun m ρ _ => Cert.Inproj.Gen.frame m ρ, fun m ρ _ => Cert.InprojIdeal.Gen.frame m ρ, frame_inprojRef,
  frame_experts, frame_expertsIdeal, frame_expertsRef,
  fun m ρ _ => Cert.Merge.Gen.frame m ρ, fun m ρ _ => Cert.MergeIdeal.Gen.frame m ρ, frame_mergeRef,
  fun m ρ _ => Cert.Pool.Gen.frame m ρ, fun m ρ _ => Cert.PoolIdeal.Gen.frame m ρ, frame_poolRef,
  fun m ρ _ => Cert.Conv.Gen.frame m ρ, fun m ρ _ => Cert.ConvIdeal.Gen.frame m ρ, frame_convRef,
  fun m ρ _ => Cert.Forward.Gen.frame m ρ, fun m ρ _ => Cert.ForwardIdeal.Gen.frame m ρ, frame_forwardRef,
  fun m ρ _ => Cert.Inverse.Gen.frame m ρ, fun m ρ _ => Cert.InverseIdeal.Gen.frame m ρ, frame_inverseRef,
  fun m ρ _ => Cert.Spectrum.Gen.frame m ρ, fun m ρ _ => Cert.SpectrumIdeal.Gen.frame m ρ, fun m ρ _ => Cert.SpectrumIdeal.Gen.frame m ρ,
  fun m ρ _ => frame_spectrumRef m ρ trivial, fun m ρ _ => frame_spectrumRef m ρ trivial,
  fun m ρ _ => Cert.Taps.Gen.frame m ρ, fun m ρ _ => Cert.TapsIdeal.Gen.frame m ρ, frame_tapsRef,
  trivial, Cert.Proof.Inproj.algebraic, trivial, Cert.Proof.Experts.algebraic, trivial, Cert.Proof.Merge.algebraic,
  trivial, Cert.Proof.Pool.algebraic, trivial, Cert.Proof.Conv.algebraic,
  trivial, Cert.Proof.Forward.algebraic, trivial, Cert.Proof.Inverse.algebraic,
  trivial, Cert.Proof.Spectrum.algebraic, trivial, Cert.Proof.Taps.algebraic⟩

end Cert.Proof

end
